-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v26_0)) (v1 : (c : Dev Cert.Kernel4Ideal.nD) → Buf (Elt Ideal) ((c.tc : Thread Cert.Kernel4Ideal.nD Cert.Kernel4Ideal.τ).loc Cert.Kernel4Ideal.main_v26_1)) (v2 : (c : Dev Cert.Kernel4Ideal.nD) → Buf (Elt Ideal) ((c.tc : Thread Cert.Kernel4Ideal.nD Cert.Kernel4Ideal.τ).loc Cert.Kernel4Ideal.main_v26_2)) (v3 : (c : Dev Cert.Kernel4Ideal.nD) → Buf (Elt Ideal) ((c.tc : Thread Cert.Kernel4Ideal.nD Cert.Kernel4Ideal.τ).loc Cert.Kernel4Ideal.main_v26_3)) (v4 : (c : Dev Cert.Kernel4Ideal.nD) → Buf (Elt Ideal) ((c.tc : Thread Cert.Kernel4Ideal.nD Cert.Kernel4Ideal.τ).loc Cert.Kernel4Ideal.main_v26_4)) (v5 : (c : Dev Cert.Kernel4Ideal.nD) → Buf (Elt Ideal) ((c.tc : Thread Cert.Kernel4Ideal.nD Cert.Kernel4Ideal.τ).loc Cert.Kernel4Ideal.main_v26_5)) (v6 : (c : Dev Cert.Kernel4Ideal.nD) → Buf (Elt Ideal) ((c.tc : Thread Cert.Kernel4Ideal.nD Cert.Kernel4Ideal.τ).loc Cert.Kernel4Ideal.main_v26_6)) (v7 : (c : Dev Cert.Kernel4Ideal.nD) → Buf (Elt Ideal) ((c.tc : Thread Cert.Kernel4Ideal.nD Cert.Kernel4Ideal.τ).loc Cert.Kernel4Ideal.main_v26_7)) (v8 : (c : Dev Cert.Kernel4Ideal.nD) → Buf (Elt Ideal) ((c.tc : Thread Cert.Kernel4Ideal.nD Cert.Kernel4Ideal.τ).loc Cert.Kernel4Ideal.main_v26_8)) (v9 : (c : Dev Cert.Kernel4Ideal.nD) → Buf (Elt Ideal) ((c.tc : Thread Cert.Kernel4Ideal.nD Cert.Kernel4Ideal.τ).loc Cert.Kernel4Ideal.main_v26_9)) (v10 : (c : Dev Cert.Kernel4Ideal.nD) → Buf (Elt Ideal) ((c.tc : Thread Cert.Kernel4Ideal.nD Cert.Kernel4Ideal.τ).loc Cert.Kernel4Ideal.main_v26_10)) (v11 : (c : Dev Cert.Kernel4Ideal.nD) → Buf (Elt Ideal) ((c.tc : Thread Cert.Kernel4Ideal.nD Cert.Kernel4Ideal.τ).loc Cert.Kernel4Ideal.main_v26_11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26_0) = v0 c
          ∧ r.2.mem ((c.tc : Thread Cert.Kernel4Ideal.nD Cert.Kernel4Ideal.τ).loc Cert.Kernel4Ideal.main_v26_1) = v1 c
          ∧ r.2.mem ((c.tc : Thread Cert.Kernel4Ideal.nD Cert.Kernel4Ideal.τ).loc Cert.Kernel4Ideal.main_v26_2) = v2 c
          ∧ r.2.mem ((c.tc : Thread Cert.Kernel4Ideal.nD Cert.Kernel4Ideal.τ).loc Cert.Kernel4Ideal.main_v26_3) = v3 c
          ∧ r.2.mem ((c.tc : Thread Cert.Kernel4Ideal.nD Cert.Kernel4Ideal.τ).loc Cert.Kernel4Ideal.main_v26_4) = v4 c
          ∧ r.2.mem ((c.tc : Thread Cert.Kernel4Ideal.nD Cert.Kernel4Ideal.τ).loc Cert.Kernel4Ideal.main_v26_5) = v5 c
          ∧ r.2.mem ((c.tc : Thread Cert.Kernel4Ideal.nD Cert.Kernel4Ideal.τ).loc Cert.Kernel4Ideal.main_v26_6) = v6 c
          ∧ r.2.mem ((c.tc : Thread Cert.Kernel4Ideal.nD Cert.Kernel4Ideal.τ).loc Cert.Kernel4Ideal.main_v26_7) = v7 c
          ∧ r.2.mem ((c.tc : Thread Cert.Kernel4Ideal.nD Cert.Kernel4Ideal.τ).loc Cert.Kernel4Ideal.main_v26_8) = v8 c
          ∧ r.2.mem ((c.tc : Thread Cert.Kernel4Ideal.nD Cert.Kernel4Ideal.τ).loc Cert.Kernel4Ideal.main_v26_9) = v9 c
          ∧ r.2.mem ((c.tc : Thread Cert.Kernel4Ideal.nD Cert.Kernel4Ideal.τ).loc Cert.Kernel4Ideal.main_v26_10) = v10 c
          ∧ r.2.mem ((c.tc : Thread Cert.Kernel4Ideal.nD Cert.Kernel4Ideal.τ).loc Cert.Kernel4Ideal.main_v26_11) = v11 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_v32) = v1 c
          ∧ r.2.mem ((c.tc : Thread Cert.Reference4Ideal.nD Cert.Reference4Ideal.τ).loc Cert.Reference4Ideal.main_v33) = v2 c
          ∧ r.2.mem ((c.tc : Thread Cert.Reference4Ideal.nD Cert.Reference4Ideal.τ).loc Cert.Reference4Ideal.main_v35) = v3 c
          ∧ r.2.mem ((c.tc : Thread Cert.Reference4Ideal.nD Cert.Reference4Ideal.τ).loc Cert.Reference4Ideal.main_v37) = v4 c
          ∧ r.2.mem ((c.tc : Thread Cert.Reference4Ideal.nD Cert.Reference4Ideal.τ).loc Cert.Reference4Ideal.main_v39) = v5 c
          ∧ r.2.mem ((c.tc : Thread Cert.Reference4Ideal.nD Cert.Reference4Ideal.τ).loc Cert.Reference4Ideal.main_v41) = v6 c
          ∧ r.2.mem ((c.tc : Thread Cert.Reference4Ideal.nD Cert.Reference4Ideal.τ).loc Cert.Reference4Ideal.main_v43) = v7 c
          ∧ r.2.mem ((c.tc : Thread Cert.Reference4Ideal.nD Cert.Reference4Ideal.τ).loc Cert.Reference4Ideal.main_v45) = v8 c
          ∧ r.2.mem ((c.tc : Thread Cert.Reference4Ideal.nD Cert.Reference4Ideal.τ).loc Cert.Reference4Ideal.main_v46) = v9 c
          ∧ r.2.mem ((c.tc : Thread Cert.Reference4Ideal.nD Cert.Reference4Ideal.τ).loc Cert.Reference4Ideal.main_v47) = v10 c
          ∧ r.2.mem ((c.tc : Thread Cert.Reference4Ideal.nD Cert.Reference4Ideal.τ).loc Cert.Reference4Ideal.main_v48) = v11 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v26_0)) (v1 : (c : Dev Cert.Kernel5Ideal.nD) → Buf (Elt Ideal) ((c.tc : Thread Cert.Kernel5Ideal.nD Cert.Kernel5Ideal.τ).loc Cert.Kernel5Ideal.main_v26_1)) (v2 : (c : Dev Cert.Kernel5Ideal.nD) → Buf (Elt Ideal) ((c.tc : Thread Cert.Kernel5Ideal.nD Cert.Kernel5Ideal.τ).loc Cert.Kernel5Ideal.main_v26_2)) (v3 : (c : Dev Cert.Kernel5Ideal.nD) → Buf (Elt Ideal) ((c.tc : Thread Cert.Kernel5Ideal.nD Cert.Kernel5Ideal.τ).loc Cert.Kernel5Ideal.main_v26_3)) (v4 : (c : Dev Cert.Kernel5Ideal.nD) → Buf (Elt Ideal) ((c.tc : Thread Cert.Kernel5Ideal.nD Cert.Kernel5Ideal.τ).loc Cert.Kernel5Ideal.main_v26_4)) (v5 : (c : Dev Cert.Kernel5Ideal.nD) → Buf (Elt Ideal) ((c.tc : Thread Cert.Kernel5Ideal.nD Cert.Kernel5Ideal.τ).loc Cert.Kernel5Ideal.main_v26_5)) (v6 : (c : Dev Cert.Kernel5Ideal.nD) → Buf (Elt Ideal) ((c.tc : Thread Cert.Kernel5Ideal.nD Cert.Kernel5Ideal.τ).loc Cert.Kernel5Ideal.main_v26_6)) (v7 : (c : Dev Cert.Kernel5Ideal.nD) → Buf (Elt Ideal) ((c.tc : Thread Cert.Kernel5Ideal.nD Cert.Kernel5Ideal.τ).loc Cert.Kernel5Ideal.main_v26_7)) (v8 : (c : Dev Cert.Kernel5Ideal.nD) → Buf (Elt Ideal) ((c.tc : Thread Cert.Kernel5Ideal.nD Cert.Kernel5Ideal.τ).loc Cert.Kernel5Ideal.main_v26_8)) (v9 : (c : Dev Cert.Kernel5Ideal.nD) → Buf (Elt Ideal) ((c.tc : Thread Cert.Kernel5Ideal.nD Cert.Kernel5Ideal.τ).loc Cert.Kernel5Ideal.main_v26_9)) (v10 : (c : Dev Cert.Kernel5Ideal.nD) → Buf (Elt Ideal) ((c.tc : Thread Cert.Kernel5Ideal.nD Cert.Kernel5Ideal.τ).loc Cert.Kernel5Ideal.main_v26_10)) (v11 : (c : Dev Cert.Kernel5Ideal.nD) → Buf (Elt Ideal) ((c.tc : Thread Cert.Kernel5Ideal.nD Cert.Kernel5Ideal.τ).loc Cert.Kernel5Ideal.main_v26_11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v26_0) = v0 c
          ∧ r.2.mem ((c.tc : Thread Cert.Kernel5Ideal.nD Cert.Kernel5Ideal.τ).loc Cert.Kernel5Ideal.main_v26_1) = v1 c
          ∧ r.2.mem ((c.tc : Thread Cert.Kernel5Ideal.nD Cert.Kernel5Ideal.τ).loc Cert.Kernel5Ideal.main_v26_2) = v2 c
          ∧ r.2.mem ((c.tc : Thread Cert.Kernel5Ideal.nD Cert.Kernel5Ideal.τ).loc Cert.Kernel5Ideal.main_v26_3) = v3 c
          ∧ r.2.mem ((c.tc : Thread Cert.Kernel5Ideal.nD Cert.Kernel5Ideal.τ).loc Cert.Kernel5Ideal.main_v26_4) = v4 c
          ∧ r.2.mem ((c.tc : Thread Cert.Kernel5Ideal.nD Cert.Kernel5Ideal.τ).loc Cert.Kernel5Ideal.main_v26_5) = v5 c
          ∧ r.2.mem ((c.tc : Thread Cert.Kernel5Ideal.nD Cert.Kernel5Ideal.τ).loc Cert.Kernel5Ideal.main_v26_6) = v6 c
          ∧ r.2.mem ((c.tc : Thread Cert.Kernel5Ideal.nD Cert.Kernel5Ideal.τ).loc Cert.Kernel5Ideal.main_v26_7) = v7 c
          ∧ r.2.mem ((c.tc : Thread Cert.Kernel5Ideal.nD Cert.Kernel5Ideal.τ).loc Cert.Kernel5Ideal.main_v26_8) = v8 c
          ∧ r.2.mem ((c.tc : Thread Cert.Kernel5Ideal.nD Cert.Kernel5Ideal.τ).loc Cert.Kernel5Ideal.main_v26_9) = v9 c
          ∧ r.2.mem ((c.tc : Thread Cert.Kernel5Ideal.nD Cert.Kernel5Ideal.τ).loc Cert.Kernel5Ideal.main_v26_10) = v10 c
          ∧ r.2.mem ((c.tc : Thread Cert.Kernel5Ideal.nD Cert.Kernel5Ideal.τ).loc Cert.Kernel5Ideal.main_v26_11) = v11 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_v32) = v1 c
          ∧ r.2.mem ((c.tc : Thread Cert.Reference5Ideal.nD Cert.Reference5Ideal.τ).loc Cert.Reference5Ideal.main_v33) = v2 c
          ∧ r.2.mem ((c.tc : Thread Cert.Reference5Ideal.nD Cert.Reference5Ideal.τ).loc Cert.Reference5Ideal.main_v35) = v3 c
          ∧ r.2.mem ((c.tc : Thread Cert.Reference5Ideal.nD Cert.Reference5Ideal.τ).loc Cert.Reference5Ideal.main_v37) = v4 c
          ∧ r.2.mem ((c.tc : Thread Cert.Reference5Ideal.nD Cert.Reference5Ideal.τ).loc Cert.Reference5Ideal.main_v39) = v5 c
          ∧ r.2.mem ((c.tc : Thread Cert.Reference5Ideal.nD Cert.Reference5Ideal.τ).loc Cert.Reference5Ideal.main_v41) = v6 c
          ∧ r.2.mem ((c.tc : Thread Cert.Reference5Ideal.nD Cert.Reference5Ideal.τ).loc Cert.Reference5Ideal.main_v43) = v7 c
          ∧ r.2.mem ((c.tc : Thread Cert.Reference5Ideal.nD Cert.Reference5Ideal.τ).loc Cert.Reference5Ideal.main_v45) = v8 c
          ∧ r.2.mem ((c.tc : Thread Cert.Reference5Ideal.nD Cert.Reference5Ideal.τ).loc Cert.Reference5Ideal.main_v46) = v9 c
          ∧ r.2.mem ((c.tc : Thread Cert.Reference5Ideal.nD Cert.Reference5Ideal.τ).loc Cert.Reference5Ideal.main_v47) = v10 c
          ∧ r.2.mem ((c.tc : Thread Cert.Reference5Ideal.nD Cert.Reference5Ideal.τ).loc Cert.Reference5Ideal.main_v48) = v11 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S32x8x1024 : Shape := ⟨3, ![32, 8, 1024]⟩
abbrev S32x3x1024 : Shape := ⟨3, ![32, 3, 1024]⟩
abbrev S32x1024 : Shape := ⟨2, ![32, 1024]⟩
abbrev S4x1024 : Shape := ⟨2, ![4, 1024]⟩
abbrev S1024 : Shape := ⟨1, ![1024]⟩
abbrev S8x128x128 : Shape := ⟨3, ![8, 128, 128]⟩
abbrev S8x128 : Shape := ⟨2, ![8, 128]⟩
abbrev S8x128x256 : Shape := ⟨3, ![8, 128, 256]⟩
abbrev S8x256 : Shape := ⟨2, ![8, 256]⟩
abbrev S8x1x256 : Shape := ⟨3, ![8, 1, 256]⟩
abbrev S32x1x1024 : Shape := ⟨3, ![32, 1, 1024]⟩
abbrev S1x1024 : Shape := ⟨2, ![1, 1024]⟩
abbrev S1x8x1024 : Shape := ⟨3, ![1, 8, 1024]⟩
abbrev S1x3x1024 : Shape := ⟨3, ![1, 3, 1024]⟩
abbrev S1x1x1024 : Shape := ⟨3, ![1, 1, 1024]⟩
abbrev S16x1024 : Shape := ⟨2, ![16, 1024]⟩
abbrev S8x1024 : Shape := ⟨2, ![8, 1024]⟩
abbrev S3x1024 : Shape := ⟨2, ![3, 1024]⟩
abbrev S1x128x256 : Shape := ⟨3, ![1, 128, 256]⟩
abbrev S128x256 : Shape := ⟨2, ![128, 256]⟩
abbrev S1x1x256 : Shape := ⟨3, ![1, 1, 256]⟩
abbrev S1x256 : Shape := ⟨2, ![1, 256]⟩
abbrev S1x128 : Shape := ⟨2, ![1, 128]⟩

abbrev nBuf : Space → Nat
  | .hbm => 20
  | .vmem => 22
  | .smem => 0
  | _ => 0

abbrev bufTy : (tb : Table) → Fin (tcTables nBuf tb) → BufTy
  | .hbm, ⟨0, _⟩ => ⟨S32x8x1024, .f32⟩
  | .hbm, ⟨1, _⟩ => ⟨S32x3x1024, .f32⟩
  | .hbm, ⟨2, _⟩ => ⟨S32x1024, .f32⟩
  | .hbm, ⟨3, _⟩ => ⟨S4x1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S8x128x128, .f32⟩
  | .hbm, ⟨8, _⟩ => ⟨S8x128, .f32⟩
  | .hbm, ⟨9, _⟩ => ⟨S1024, .f32⟩
  | .hbm, ⟨10, _⟩ => ⟨S8x128x256, .f32⟩
  | .hbm, ⟨11, _⟩ => ⟨S8x128x256, .bf16⟩
  | .hbm, ⟨12, _⟩ => ⟨S8x256, .f32⟩
  | .hbm, ⟨13, _⟩ => ⟨S8x1x256, .f32⟩
  | .hbm, ⟨14, _⟩ => ⟨S32x1x1024, .f32⟩
  | .hbm, ⟨15, _⟩ => ⟨S1x1024, .f32⟩
  | .hbm, ⟨16, _⟩ => ⟨S1x1024, .f32⟩
  | .hbm, ⟨17, _⟩ => ⟨S32x8x1024, .bf16⟩
  | .hbm, ⟨18, _⟩ => ⟨S32x3x1024, .f32⟩
  | .hbm, ⟨19, _⟩ => ⟨S32x1x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1x1024, .f32⟩
  | .local _ .vmem, ⟨5, _⟩ => ⟨S1x1x1024, .f32⟩
  | .local _ .vmem, ⟨6, _⟩ => ⟨S4x1024, .f32⟩
  | .local _ .vmem, ⟨7, _⟩ => ⟨S1x1024, .f32⟩
  | .local _ .vmem, ⟨8, _⟩ => ⟨S8x128x256, .bf16⟩
  | .local _ .vmem, ⟨9, _⟩ => ⟨S8x1x256, .f32⟩
  | .local _ .vmem, ⟨10, _⟩ => ⟨S1x1024, .f32⟩
  | .local _ .vmem, ⟨11, _⟩ => ⟨S1x8x1024, .bf16⟩
  | .local _ .vmem, ⟨12, _⟩ => ⟨S1x8x1024, .bf16⟩
  | .local _ .vmem, ⟨13, _⟩ => ⟨S1x3x1024, .f32⟩
  | .local _ .vmem, ⟨14, _⟩ => ⟨S1x3x1024, .f32⟩
  | .local _ .vmem, ⟨15, _⟩ => ⟨S1x1x1024, .f32⟩
  | .local _ .vmem, ⟨16, _⟩ => ⟨S1x1x1024, .f32⟩
  | .local _ .vmem, ⟨17, _⟩ => ⟨S16x1024, .f32⟩
  | .local _ .vmem, ⟨18, _⟩ => ⟨S8x1024, .f32⟩
  | .local _ .vmem, ⟨19, _⟩ => ⟨S8x1024, .f32⟩
  | .local _ .vmem, ⟨20, _⟩ => ⟨S8x1024, .f32⟩
  | .local _ .vmem, ⟨21, _⟩ => ⟨S1x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x3x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S32x8x1024 : Shape := ⟨3, ![32, 8, 1024]⟩
abbrev S32x3x1024 : Shape := ⟨3, ![32, 3, 1024]⟩
abbrev S32x1024 : Shape := ⟨2, ![32, 1024]⟩
abbrev S4x1024 : Shape := ⟨2, ![4, 1024]⟩
abbrev S1024 : Shape := ⟨1, ![1024]⟩
abbrev S8x128x128 : Shape := ⟨3, ![8, 128, 128]⟩
abbrev S8x128 : Shape := ⟨2, ![8, 128]⟩
abbrev S32x11x1024 : Shape := ⟨3, ![32, 11, 1024]⟩
abbrev S1x1024 : Shape := ⟨2, ![1, 1024]⟩
abbrev S1x1x1024 : Shape := ⟨3, ![1, 1, 1024]⟩
abbrev S_ : Shape := ⟨0, ![]⟩
abbrev S32x8x8x128 : Shape := ⟨4, ![32, 8, 8, 128]⟩
abbrev S8x128x32x8 : Shape := ⟨4, ![8, 128, 32, 8]⟩
abbrev S1x1x8x128 : Shape := ⟨4, ![1, 1, 8, 128]⟩
abbrev S8x32x1024 : Shape := ⟨3, ![8, 32, 1024]⟩
abbrev S1x32x1024 : Shape := ⟨3, ![1, 32, 1024]⟩
abbrev S32x1x1024 : Shape := ⟨3, ![32, 1, 1024]⟩

abbrev nBuf : Space → Nat
  | .hbm => 135
  | .vmem => 0
  | .smem => 0
  | _ => 0

abbrev hbmTy0_0 (i : Nat) : BufTy := match i % 128 with
  | 0 => ⟨S32x8x1024, .f32⟩
  | 1 => ⟨S32x3x1024, .f32⟩
  | 2 => ⟨S32x1024, .f32⟩
  | 3 => ⟨S4x1024, .f32⟩
  | 4 => ⟨S1024, .f32⟩
  | 5 => ⟨S8x128x128, .f32⟩
  | 6 => ⟨S8x128, .f32⟩
  | 7 => ⟨S8x128x128, .f32⟩
  | 8 => ⟨S8x128, .f32⟩
  | 9 => ⟨S1024, .f32⟩
  | 10 => ⟨S32x11x1024, .f32⟩
  | 11 => ⟨S32x8x1024, .f32⟩
  | 12 => ⟨S1x1024, .f32⟩
  | 13 => ⟨S1024, .f32⟩
  | 14 => ⟨S1x1x1024, .f32⟩
  | 15 => ⟨S32x8x1024, .f32⟩
  | 16 => ⟨S32x8x1024, .f32⟩
  | 17 => ⟨S_, .f32⟩
  | 18 => ⟨S32x8x1024, .f32⟩
  | 19 => ⟨S32x8x1024, .f32⟩
  | 20 => ⟨S32x8x1024, .f32⟩
  | 21 => ⟨S1x1024, .f32⟩
  | 22 => ⟨S1024, .f32⟩
  | 23 => ⟨S1x1x1024, .f32⟩
  | 24 => ⟨S32x8x1024, .f32⟩
  | 25 => ⟨S32x8x1024, .f32⟩
  | 26 => ⟨S32x8x1024, .f32⟩
  | 27 => ⟨S32x8x1024, .f32⟩
  | 28 => ⟨S1x1024, .f32⟩
  | 29 => ⟨S1024, .f32⟩
  | 30 => ⟨S1x1x1024, .f32⟩
  | 31 => ⟨S32x8x1024, .f32⟩
  | 32 => ⟨S32x8x1024, .f32⟩
  | 33 => ⟨S32x8x1024, .f32⟩
  | 34 => ⟨S32x8x1024, .f32⟩
  | 35 => ⟨S1x1024, .f32⟩
  | 36 => ⟨S1024, .f32⟩
  | 37 => ⟨S1x1x1024, .f32⟩
  | 38 => ⟨S32x8x1024, .f32⟩
  | 39 => ⟨S32x8x1024, .f32⟩
  | 40 => ⟨S32x8x1024, .f32⟩
  | 41 => ⟨S1x1x1024, .f32⟩
  | 42 => ⟨S32x8x1024, .f32⟩
  | 43 => ⟨S32x8x1024, .f32⟩
  | 44 => ⟨S32x3x1024, .f32⟩
  | 45 => ⟨S32x8x8x128, .f32⟩
  | 46 => ⟨S8x128x32x8, .f32⟩
  | 47 => ⟨S32x8x8x128, .f32⟩
  | 48 => ⟨S1x1x8x128, .f32⟩
  | 49 => ⟨S32x8x8x128, .f32⟩
  | 50 => ⟨S32x8x8x128, .f32⟩
  | 51 => ⟨S32x8x8x128, .f32⟩
  | 52 => ⟨S32x8x8x128, .f32⟩
  | 53 => ⟨S_, .f32⟩
  | 54 => ⟨S32x8x8x128, .f32⟩
  | 55 => ⟨S32x8x8x128, .f32⟩
  | 56 => ⟨S_, .f32⟩
  | 57 => ⟨S32x8x8x128, .f32⟩
  | 58 => ⟨S32x8x8x128, .f32⟩
  | 59 => ⟨S32x8x1024, .f32⟩
  | 60 => ⟨S8x128x32x8, .f32⟩
  | 61 => ⟨S32x8x8x128, .f32⟩
  | 62 => ⟨S1x1x8x128, .f32⟩
  | 63 => ⟨S32x8x8x128, .f32⟩
  | 64 => ⟨S32x8x8x128, .f32⟩
  | 65 => ⟨S32x8x8x128, .f32⟩
  | 66 => ⟨S32x8x8x128, .f32⟩
  | 67 => ⟨S_, .f32⟩
  | 68 => ⟨S32x8x8x128, .f32⟩
  | 69 => ⟨S32x8x8x128, .f32⟩
  | 70 => ⟨S_, .f32⟩
  | 71 => ⟨S32x8x8x128, .f32⟩
  | 72 => ⟨S32x8x8x128, .f32⟩
  | 73 => ⟨S32x8x1024, .f32⟩
  | 74 => ⟨S_, .f32⟩
  | 75 => ⟨S32x8x1024, .f32⟩
  | 76 => ⟨S32x8x1024, .f32⟩
  | 77 => ⟨S1024, .f32⟩
  | 78 => ⟨S_, .f32⟩
  | 79 => ⟨S1024, .f32⟩
  | 80 => ⟨S1024, .f32⟩
  | 81 => ⟨S1024, .f32⟩
  | 82 => ⟨S1024, .f32⟩
  | 83 => ⟨S1024, .i1⟩
  | 84 => ⟨S1024, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1024, .f32⟩
  | 91 => ⟨S1024, .f32⟩
  | 92 => ⟨S1x1x1024, .f32⟩
  | 93 => ⟨S32x8x1024, .f32⟩
  | 94 => ⟨S32x8x1024, .f32⟩
  | 95 => ⟨S32x8x1024, .f32⟩
  | 96 => ⟨S_, .f32⟩
  | 97 => ⟨S32x8x1024, .f32⟩
  | 98 => ⟨S32x8x1024, .f32⟩
  | 99 => ⟨S32x8x1024, .f32⟩
  | 100 => ⟨S32x8x1024, .f32⟩
  | 101 => ⟨S32x8x1024, .f32⟩
  | 102 => ⟨S32x8x1024, .f32⟩
  | 103 => ⟨S32x8x1024, .f32⟩
  | 104 => ⟨S8x32x1024, .f32⟩
  | 105 => ⟨S8x32x1024, .f32⟩
  | 106 => ⟨S_, .f32⟩
  | 107 => ⟨S8x32x1024, .f32⟩
  | 108 => ⟨S_, .i32⟩
  | 109 => ⟨S8x32x1024, .f32⟩
  | 110 => ⟨S8x32x1024, .f32⟩
  | 111 => ⟨S_, .i32⟩
  | 112 => ⟨S32x1024, .f32⟩
  | 113 => ⟨S8x32x1024, .f32⟩
  | 114 => ⟨S_, .i32⟩
  | 115 => ⟨S_, .i1⟩
  | 116 => ⟨S_, .i32⟩
  | 117 => ⟨S_, .i32⟩
  | 118 => ⟨S1x32x1024, .f32⟩
  | 119 => ⟨S32x1024, .f32⟩
  | 120 => ⟨S_, .i32⟩
  | 121 => ⟨S_, .i32⟩
  | 122 => ⟨S1x32x1024, .f32⟩
  | 123 => ⟨S32x1024, .f32⟩
  | 124 => ⟨S32x1024, .f32⟩
  | 125 => ⟨S32x1024, .f32⟩
  | 126 => ⟨S1x32x1024, .f32⟩
  | 127 => ⟨S_, .i32⟩
  | _ => ⟨S32x8x1024, .f32⟩

abbrev hbmTy0_1 (i : Nat) : BufTy := match i % 128 with
  | 0 => ⟨S_, .i32⟩
  | 1 => ⟨S8x32x1024, .f32⟩
  | 2 => ⟨S_, .i32⟩
  | 3 => ⟨S_, .i32⟩
  | 4 => ⟨S32x8x1024, .f32⟩
  | 5 => ⟨S32x8x1024, .bf16⟩
  | 6 => ⟨S32x1x1024, .f32⟩
  | _ => ⟨S32x8x1024, .f32⟩

abbrev hbmTy (i : Nat) : BufTy := match i / 128 with
  | 0 => hbmTy0_0 i
  | 1 => hbmTy0_1 i
  | _ => ⟨S32x8x1024, .f32⟩

abbrev bufTy : (tb : Table) → Fin (tcTables nBuf tb) → BufTy
  | .hbm, ⟨i, _⟩ => hbmTy i
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_0 : Ref sig .tc := ⟨.hbm, 53, rfl⟩
abbrev main_v42 : Ref sig .tc := ⟨.hbm, 54, rfl⟩
abbrev main_v43 : Ref sig .tc := ⟨.hbm, 55, rfl⟩
abbrev main_cst_1 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_2 : Ref sig .tc := ⟨.hbm, 67, rfl⟩
abbrev main_v54 : Ref sig .tc := ⟨.hbm, 68, rfl⟩
abbrev main_v55 : Ref sig .tc := ⟨.hbm, 69, rfl⟩
abbrev main_cst_3 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_4 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_v8 : Ref sig .tc := ⟨.hbm, 87, rfl⟩
abbrev main_call0_v9 : Ref sig .tc := ⟨.hbm, 88, rfl⟩
abbrev main_call0_v10 : Ref sig .tc := ⟨.hbm, 89, rfl⟩
abbrev main_call0_v11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_5 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_6 : Ref sig .tc := ⟨.hbm, 106, rfl⟩
abbrev main_v76 : Ref sig .tc := ⟨.hbm, 107, rfl⟩
abbrev main_c : Ref sig .tc := ⟨.hbm, 108, rfl⟩
abbrev main_v77_0 : Ref sig .tc := ⟨.hbm, 109, rfl⟩
abbrev main_v77_1 : Ref sig .tc := ⟨.hbm, 110, rfl⟩
abbrev main_v77_2 : Ref sig .tc := ⟨.hbm, 111, rfl⟩
abbrev main_v77_3 : Ref sig .tc := ⟨.hbm, 112, rfl⟩
abbrev main_v77_4 : Ref sig .tc := ⟨.hbm, 113, rfl⟩
abbrev main_while0c_c_11 : Ref sig .tc := ⟨.hbm, 114, rfl⟩
abbrev main_while0c_v81 : Ref sig .tc := ⟨.hbm, 115, rfl⟩
abbrev main_while0b_call1_c : Ref sig .tc := ⟨.hbm, 116, rfl⟩
abbrev main_while0b_call1_c_0 : Ref sig .tc := ⟨.hbm, 117, rfl⟩
abbrev main_while0b_call1_v0 : Ref sig .tc := ⟨.hbm, 118, rfl⟩
abbrev main_while0b_v81 : Ref sig .tc := ⟨.hbm, 119, rfl⟩
abbrev main_while0b_call2_c : Ref sig .tc := ⟨.hbm, 120, rfl⟩
abbrev main_while0b_call2_c_0 : Ref sig .tc := ⟨.hbm, 121, rfl⟩
abbrev main_while0b_call2_v0 : Ref sig .tc := ⟨.hbm, 122, rfl⟩
abbrev main_while0b_v82 : Ref sig .tc := ⟨.hbm, 123, rfl⟩
abbrev main_while0b_v83 : Ref sig .tc := ⟨.hbm, 124, rfl⟩
abbrev main_while0b_v84 : Ref sig .tc := ⟨.hbm, 125, rfl⟩
abbrev main_while0b_call3_v0 : Ref sig .tc := ⟨.hbm, 126, rfl⟩
abbrev main_while0b_call3_c : Ref sig .tc := ⟨.hbm, 127, rfl⟩
abbrev main_while0b_call3_c_0 : Ref sig .tc := ⟨.hbm, 128, rfl⟩
abbrev main_while0b_v85 : Ref sig .tc := ⟨.hbm, 129, rfl⟩
abbrev main_while0b_c_11 : Ref sig .tc := ⟨.hbm, 130, rfl⟩
abbrev main_while0b_v86 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩

abbrev nD : Nat := 1
abbrev τ : Topo := Topo.v7x

variable {F : FTy → Type} [FloatOps F]

abbrev main_while0_count : Scf.Loop 32 := ⟨0#32, 8#32, 1#32⟩
-- ==== Kernel2.lean ====
abbrev S4x4096x1024 : Shape := ⟨3, ![4, 4096, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 27
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S4x4096x1024, .bf16⟩
  | .hbm, ⟨3, _⟩ => ⟨S4x4096x1024, .f32⟩
  | .hbm, ⟨4, _⟩ => ⟨S4x4096x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1024, .f32⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1024x2816, .bf16⟩
  | .hbm, ⟨17, _⟩ => ⟨S1024x2816, .bf16⟩
  | .hbm, ⟨18, _⟩ => ⟨S2816x1024, .bf16⟩
  | .hbm, ⟨19, _⟩ => ⟨S16384x1024, .f32⟩
  | .hbm, ⟨20, _⟩ => ⟨S16384x1024, .bf16⟩
  | .hbm, ⟨21, _⟩ => ⟨S16384x1024, .bf16⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S1x1024, .f32⟩
  | .hbm, ⟨26, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel2Ideal.lean ====
abbrev S4x4096x1024 : Shape := ⟨3, ![4, 4096, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 27
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S4x4096x1024, .bf16⟩
  | .hbm, ⟨3, _⟩ => ⟨S4x4096x1024, .f32⟩
  | .hbm, ⟨4, _⟩ => ⟨S4x4096x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1024, .f32⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1024x2816, .bf16⟩
  | .hbm, ⟨17, _⟩ => ⟨S1024x2816, .bf16⟩
  | .hbm, ⟨18, _⟩ => ⟨S2816x1024, .bf16⟩
  | .hbm, ⟨19, _⟩ => ⟨S16384x1024, .f32⟩
  | .hbm, ⟨20, _⟩ => ⟨S16384x1024, .bf16⟩
  | .hbm, ⟨21, _⟩ => ⟨S16384x1024, .bf16⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S1x1024, .f32⟩
  | .hbm, ⟨26, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S4x4096x1024 : Shape := ⟨3, ![4, 4096, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2816 : Shape := ⟨3, ![4, 4096, 2816]⟩
abbrev S16384x1024 : Shape := ⟨2, ![16384, 1024]⟩

abbrev nBuf : Space → Nat
  | .hbm => 85
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S4x4096x1024, .bf16⟩
  | .hbm, ⟨3, _⟩ => ⟨S4x4096x1024, .f32⟩
  | .hbm, ⟨4, _⟩ => ⟨S4x4096x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1024, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S_, .f32⟩
  | .hbm, ⟨18, _⟩ => ⟨S4x4096x1024, .f32⟩
  | .hbm, ⟨19, _⟩ => ⟨S4x4096x1024, .f32⟩
  | .hbm, ⟨20, _⟩ => ⟨S_, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S_, .f32⟩
  | .hbm, ⟨28, _⟩ => ⟨S4x4096x1024, .f32⟩
  | .hbm, ⟨29, _⟩ => ⟨S4x4096x1024, .f32⟩
  | .hbm, ⟨30, _⟩ => ⟨S_, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S4x4096x1, .f32⟩
  | .hbm, ⟨49, _⟩ => ⟨S4x4096x1024, .f32⟩
  | .hbm, ⟨50, _⟩ => ⟨S4x4096x1024, .f32⟩
  | .hbm, ⟨51, _⟩ => ⟨S1x1x1024, .f32⟩
  | .hbm, ⟨52, _⟩ => ⟨S4x4096x1024, .f32⟩
  | .hbm, ⟨53, _⟩ => ⟨S4x4096x1024, .f32⟩
  | .hbm, ⟨54, _⟩ => ⟨S4x4096x2816, .f32⟩
  | .hbm, ⟨55, _⟩ => ⟨S4x4096x2816, .f32⟩
  | .hbm, ⟨56, _⟩ => ⟨S4x4096x2816, .f32⟩
  | .hbm, ⟨57, _⟩ => ⟨S_, .f32⟩
  | .hbm, ⟨58, _⟩ => ⟨S4x4096x2816, .f32⟩
  | .hbm, ⟨59, _⟩ => ⟨S4x4096x2816, .f32⟩
  | .hbm, ⟨60, _⟩ => ⟨S_, .f32⟩
  | .hbm, ⟨61, _⟩ => ⟨S4x4096x2816, .f32⟩
  | .hbm, ⟨62, _⟩ => ⟨S4x4096x2816, .f32⟩
  | .hbm, ⟨63, _⟩ => ⟨S4x4096x2816, .f32⟩
  | .hbm, ⟨64, _⟩ => ⟨S4x4096x2816, .f32⟩
  | .hbm, ⟨65, _⟩ => ⟨S4x4096x2816, .f32⟩
  | .hbm, ⟨66, _⟩ => ⟨S4x4096x1024, .f32⟩
  | .hbm, ⟨67, _⟩ => ⟨S4x4096x1024, .f32⟩
  | .hbm, ⟨68, _⟩ => ⟨S4x4096x1024, .f32⟩
  | .hbm, ⟨69, _⟩ => ⟨S_, .f32⟩
  | .hbm, ⟨70, _⟩ => ⟨S4x4096, .f32⟩
  | .hbm, ⟨71, _⟩ => ⟨S4x4096x1, .f32⟩
  | .hbm, ⟨72, _⟩ => ⟨S_, .f32⟩
  | .hbm, ⟨73, _⟩ => ⟨S4x4096x1, .f32⟩
  | .hbm, ⟨74, _⟩ => ⟨S4x4096x1, .f32⟩
  | .hbm, ⟨75, _⟩ => ⟨S_, .f32⟩
  | .hbm, ⟨76, _⟩ => ⟨S4x4096x1, .f32⟩
  | .hbm, ⟨77, _⟩ => ⟨S4x4096x1, .f32⟩
  | .hbm, ⟨78, _⟩ => ⟨S4x4096x1, .f32⟩
  | .hbm, ⟨79, _⟩ => ⟨S4x4096x1024, .f32⟩
  | .hbm, ⟨80, _⟩ => ⟨S4x4096x1024, .f32⟩
  | .hbm, ⟨81, _⟩ => ⟨S1x1x1024, .f32⟩
  | .hbm, ⟨82, _⟩ => ⟨S4x4096x1024, .f32⟩
  | .hbm, ⟨83, _⟩ => ⟨S4x4096x1024, .f32⟩
  | .hbm, ⟨84, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_v44 : Ref sig .tc := ⟨.hbm, 74, rfl⟩
abbrev main_cst_8 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩

abbrev nD : Nat := 1
abbrev τ : Topo := Topo.v7x

variable {F : FTy → Type} [FloatOps F]
-- ==== Kernel3.lean ====
abbrev S32x8x1024 : Shape := ⟨3, ![32, 8, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S256x2816 : Shape := ⟨2, ![256, 2816]⟩

abbrev nBuf : Space → Nat
  | .hbm => 27
  | .vmem => 14
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .bf16⟩
  | .hbm, ⟨2, _⟩ => ⟨S32x8x1024, .bf16⟩
  | .hbm, ⟨3, _⟩ => ⟨S32x8x1024, .f32⟩
  | .hbm, ⟨4, _⟩ => ⟨S32x8x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1024, .f32⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1024x2816, .bf16⟩
  | .hbm, ⟨17, _⟩ => ⟨S1024x2816, .bf16⟩
  | .hbm, ⟨18, _⟩ => ⟨S2816x1024, .bf16⟩
  | .hbm, ⟨19, _⟩ => ⟨S256x1024, .f32⟩
  | .hbm, ⟨20, _⟩ => ⟨S256x1024, .bf16⟩
  | .hbm, ⟨21, _⟩ => ⟨S256x1024, .bf16⟩
  | .hbm, ⟨22, _⟩ => ⟨S256x1024, .f32⟩
  | .hbm, ⟨23, _⟩ => ⟨S256x1024, .f32⟩
  | .hbm, ⟨24, _⟩ => ⟨S1x1024, .f32⟩
  | .hbm, ⟨25, _⟩ => ⟨S1x1024, .f32⟩
  | .hbm, ⟨26, _⟩ => ⟨S256x1024, .f32⟩
  | .local _ .vmem, ⟨0, _⟩ => ⟨S256x1024, .f32⟩
  | .local _ .vmem, ⟨1, _⟩ => ⟨S256x1024, .bf16⟩
  | .local _ .vmem, ⟨2, _⟩ => ⟨S256x1024, .bf16⟩
  | .local _ .vmem, ⟨3, _⟩ => ⟨S256x1024, .f32⟩
  | .local _ .vmem, ⟨4, _⟩ => ⟨S256x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x1024, .f32⟩
  | .local _ .vmem, ⟨13, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== Reference3Ideal.lean ====
abbrev S32x8x1024 : Shape := ⟨3, ![32, 8, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x2816 : Shape := ⟨3, ![32, 8, 2816]⟩
abbrev S256x1024 : Shape := ⟨2, ![256, 1024]⟩

abbrev nBuf : Space → Nat
  | .hbm => 85
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .bf16⟩
  | .hbm, ⟨2, _⟩ => ⟨S32x8x1024, .bf16⟩
  | .hbm, ⟨3, _⟩ => ⟨S32x8x1024, .f32⟩
  | .hbm, ⟨4, _⟩ => ⟨S32x8x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1024, .f32⟩
  | .hbm, ⟨13, _⟩ => ⟨S32x8x1024, .f32⟩
  | .hbm, ⟨14, _⟩ => ⟨S32x8x1024, .f32⟩
  | .hbm, ⟨15, _⟩ => ⟨S32x8x1024, .f32⟩
  | .hbm, ⟨16, _⟩ => ⟨S32x8x1024, .f32⟩
  | .hbm, ⟨17, _⟩ => ⟨S_, .f32⟩
  | .hbm, ⟨18, _⟩ => ⟨S32x8x1024, .f32⟩
  | .hbm, ⟨19, _⟩ => ⟨S32x8x1024, .f32⟩
  | .hbm, ⟨20, _⟩ => ⟨S_, .f32⟩
  | .hbm, ⟨21, _⟩ => ⟨S32x8x1024, .f32⟩
  | .hbm, ⟨22, _⟩ => ⟨S32x8x1024, .f32⟩
  | .hbm, ⟨23, _⟩ => ⟨S32x8x1024, .f32⟩
  | .hbm, ⟨24, _⟩ => ⟨S32x8x1024, .f32⟩
  | .hbm, ⟨25, _⟩ => ⟨S32x8x1024, .f32⟩
  | .hbm, ⟨26, _⟩ => ⟨S32x8x1024, .f32⟩
  | .hbm, ⟨27, _⟩ => ⟨S_, .f32⟩
  | .hbm, ⟨28, _⟩ => ⟨S32x8x1024, .f32⟩
  | .hbm, ⟨29, _⟩ => ⟨S32x8x1024, .f32⟩
  | .hbm, ⟨30, _⟩ => ⟨S_, .f32⟩
  | .hbm, ⟨31, _⟩ => ⟨S32x8x1024, .f32⟩
  | .hbm, ⟨32, _⟩ => ⟨S32x8x1024, .f32⟩
  | .hbm, ⟨33, _⟩ => ⟨S32x8x1024, .f32⟩
  | .hbm, ⟨34, _⟩ => ⟨S32x8x1024, .f32⟩
  | .hbm, ⟨35, _⟩ => ⟨S32x8x1024, .f32⟩
  | .hbm, ⟨36, _⟩ => ⟨S32x8x1024, .f32⟩
  | .hbm, ⟨37, _⟩ => ⟨S32x8x1024, .f32⟩
  | .hbm, ⟨38, _⟩ => ⟨S32x8x1024, .f32⟩
  | .hbm, ⟨39, _⟩ => ⟨S_, .f32⟩
  | .hbm, ⟨40, _⟩ => ⟨S32x8, .f32⟩
  | .hbm, ⟨41, _⟩ => ⟨S32x8x1, .f32⟩
  | .hbm, ⟨42, _⟩ => ⟨S_, .f32⟩
  | .hbm, ⟨43, _⟩ => ⟨S32x8x1, .f32⟩
  | .hbm, ⟨44, _⟩ => ⟨S32x8x1, .f32⟩
  | .hbm, ⟨45, _⟩ => ⟨S_, .f32⟩
  | .hbm, ⟨46, _⟩ => ⟨S32x8x1, .f32⟩
  | .hbm, ⟨47, _⟩ => ⟨S32x8x1, .f32⟩
  | .hbm, ⟨48, _⟩ => ⟨S32x8x1, .f32⟩
  | .hbm, ⟨49, _⟩ => ⟨S32x8x1024, .f32⟩
  | .hbm, ⟨50, _⟩ => ⟨S32x8x1024, .f32⟩
  | .hbm, ⟨51, _⟩ => ⟨S1x1x1024, .f32⟩
  | .hbm, ⟨52, _⟩ => ⟨S32x8x1024, .f32⟩
  | .hbm, ⟨53, _⟩ => ⟨S32x8x1024, .f32⟩
  | .hbm, ⟨54, _⟩ => ⟨S32x8x2816, .f32⟩
  | .hbm, ⟨55, _⟩ => ⟨S32x8x2816, .f32⟩
  | .hbm, ⟨56, _⟩ => ⟨S32x8x2816, .f32⟩
  | .hbm, ⟨57, _⟩ => ⟨S_, .f32⟩
  | .hbm, ⟨58, _⟩ => ⟨S32x8x2816, .f32⟩
  | .hbm, ⟨59, _⟩ => ⟨S32x8x2816, .f32⟩
  | .hbm, ⟨60, _⟩ => ⟨S_, .f32⟩
  | .hbm, ⟨61, _⟩ => ⟨S32x8x2816, .f32⟩
  | .hbm, ⟨62, _⟩ => ⟨S32x8x2816, .f32⟩
  | .hbm, ⟨63, _⟩ => ⟨S32x8x2816, .f32⟩
  | .hbm, ⟨64, _⟩ => ⟨S32x8x2816, .f32⟩
  | .hbm, ⟨65, _⟩ => ⟨S32x8x2816, .f32⟩
  | .hbm, ⟨66, _⟩ => ⟨S32x8x1024, .f32⟩
  | .hbm, ⟨67, _⟩ => ⟨S32x8x1024, .f32⟩
  | .hbm, ⟨68, _⟩ => ⟨S32x8x1024, .f32⟩
  | .hbm, ⟨69, _⟩ => ⟨S_, .f32⟩
  | .hbm, ⟨70, _⟩ => ⟨S32x8, .f32⟩
  | .hbm, ⟨71, _⟩ => ⟨S32x8x1, .f32⟩
  | .hbm, ⟨72, _⟩ => ⟨S_, .f32⟩
  | .hbm, ⟨73, _⟩ => ⟨S32x8x1, .f32⟩
  | .hbm, ⟨74, _⟩ => ⟨S32x8x1, .f32⟩
  | .hbm, ⟨75, _⟩ => ⟨S_, .f32⟩
  | .hbm, ⟨76, _⟩ => ⟨S32x8x1, .f32⟩
  | .hbm, ⟨77, _⟩ => ⟨S32x8x1, .f32⟩
  | .hbm, ⟨78, _⟩ => ⟨S32x8x1, .f32⟩
  | .hbm, ⟨79, _⟩ => ⟨S32x8x1024, .f32⟩
  | .hbm, ⟨80, _⟩ => ⟨S32x8x1024, .f32⟩
  | .hbm, ⟨81, _⟩ => ⟨S1x1x1024, .f32⟩
  | .hbm, ⟨82, _⟩ => ⟨S32x8x1024, .f32⟩
  | .hbm, ⟨83, _⟩ => ⟨S32x8x1024, .f32⟩
  | .hbm, ⟨84, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_v44 : Ref sig .tc := ⟨.hbm, 74, rfl⟩
abbrev main_cst_8 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩

abbrev nD : Nat := 1
abbrev τ : Topo := Topo.v7x

variable {F : FTy → Type} [FloatOps F]
-- ==== Kernel4.lean ====
abbrev S4x4096x1024 : Shape := ⟨3, ![4, 4096, 1024]⟩
abbrev S1024 : Shape := ⟨1, ![1024]⟩
abbrev S1024x5192 : Shape := ⟨2, ![1024, 5192]⟩
abbrev S16384x1024 : Shape := ⟨2, ![16384, 1024]⟩
abbrev S1024x1024 : Shape := ⟨2, ![1024, 1024]⟩
abbrev S1024x256 : Shape := ⟨2, ![1024, 256]⟩
abbrev S1024x512 : Shape := ⟨2, ![1024, 512]⟩
abbrev S1024x64 : Shape := ⟨2, ![1024, 64]⟩
abbrev S1024x8 : Shape := ⟨2, ![1024, 8]⟩
abbrev S_ : Shape := ⟨0, ![]⟩
abbrev S1024x128 : Shape := ⟨2, ![1024, 128]⟩
abbrev S1024x56 : Shape := ⟨2, ![1024, 56]⟩
abbrev S1x1024 : Shape := ⟨2, ![1, 1024]⟩
abbrev S32768x128 : Shape := ⟨2, ![32768, 128]⟩
abbrev S16384x256 : Shape := ⟨2, ![16384, 256]⟩
abbrev S16384x512 : Shape := ⟨2, ![16384, 512]⟩
abbrev S16384x128 : Shape := ⟨2, ![16384, 128]⟩
abbrev S512x1024 : Shape := ⟨2, ![512, 1024]⟩
abbrev S512x256 : Shape := ⟨2, ![512, 256]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 43
  | .vmem => 36
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5192, .f32⟩
  | .hbm, ⟨3, _⟩ => ⟨S16384x1024, .f32⟩
  | .hbm, ⟨4, _⟩ => ⟨S1024x1024, .f32⟩
  | .hbm, ⟨5, _⟩ => ⟨S1024x256, .f32⟩
  | .hbm, ⟨6, _⟩ => ⟨S1024x256, .f32⟩
  | .hbm, ⟨7, _⟩ => ⟨S1024x512, .f32⟩
  | .hbm, ⟨8, _⟩ => ⟨S1024x64, .f32⟩
  | .hbm, ⟨9, _⟩ => ⟨S1024x8, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x64, .f32⟩
  | .hbm, ⟨15, _⟩ => ⟨S1024x512, .f32⟩
  | .hbm, ⟨16, _⟩ => ⟨S1024x128, .f32⟩
  | .hbm, ⟨17, _⟩ => ⟨S1024x128, .f32⟩
  | .hbm, ⟨18, _⟩ => ⟨S_, .f32⟩
  | .hbm, ⟨19, _⟩ => ⟨S1024x56, .f32⟩
  | .hbm, ⟨20, _⟩ => ⟨S1024x128, .f32⟩
  | .hbm, ⟨21, _⟩ => ⟨S1024x1024, .bf16⟩
  | .hbm, ⟨22, _⟩ => ⟨S1024x512, .bf16⟩
  | .hbm, ⟨23, _⟩ => ⟨S1024x512, .bf16⟩
  | .hbm, ⟨24, _⟩ => ⟨S1024x128, .bf16⟩
  | .hbm, ⟨25, _⟩ => ⟨S1024x128, .bf16⟩
  | .hbm, ⟨26, _⟩ => ⟨S1024x128, .bf16⟩
  | .hbm, ⟨27, _⟩ => ⟨S1024x1024, .bf16⟩
  | .hbm, ⟨28, _⟩ => ⟨S1024x1024, .bf16⟩
  | .hbm, ⟨29, _⟩ => ⟨S1024x1024, .bf16⟩
  | .hbm, ⟨30, _⟩ => ⟨S1x1024, .f32⟩
  | .hbm, ⟨31, _⟩ => ⟨S16384x1024, .bf16⟩
  | .hbm, ⟨32, _⟩ => ⟨S32768x128, .f32⟩
  | .hbm, ⟨33, _⟩ => ⟨S32768x128, .f32⟩
  | .hbm, ⟨34, _⟩ => ⟨S16384x256, .bf16⟩
  | .hbm, ⟨35, _⟩ => ⟨S16384x256, .bf16⟩
  | .hbm, ⟨36, _⟩ => ⟨S16384x512, .bf16⟩
  | .hbm, ⟨37, _⟩ => ⟨S16384x128, .bf16⟩
  | .hbm, ⟨38, _⟩ => ⟨S16384x128, .bf16⟩
  | .hbm, ⟨39, _⟩ => ⟨S16384x128, .f32⟩
  | .hbm, ⟨40, _⟩ => ⟨S16384x1024, .f32⟩
  | .hbm, ⟨41, _⟩ => ⟨S16384x1024, .f32⟩
  | .hbm, ⟨42, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x512, .bf16⟩
  | .local _ .vmem, ⟨23, _⟩ => ⟨S512x512, .bf16⟩
  | .local _ .vmem, ⟨24, _⟩ => ⟨S512x128, .bf16⟩
  | .local _ .vmem, ⟨25, _⟩ => ⟨S512x128, .bf16⟩
  | .local _ .vmem, ⟨26, _⟩ => ⟨S512x128, .bf16⟩
  | .local _ .vmem, ⟨27, _⟩ => ⟨S512x128, .bf16⟩
  | .local _ .vmem, ⟨28, _⟩ => ⟨S512x128, .f32⟩
  | .local _ .vmem, ⟨29, _⟩ => ⟨S512x128, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26_0 : Ref sig .tc := ⟨.hbm, 31, rfl⟩
abbrev main_v26_1 : Ref sig .tc := ⟨.hbm, 32, rfl⟩
abbrev main_v26_2 : Ref sig .tc := ⟨.hbm, 33, rfl⟩
abbrev main_v26_3 : Ref sig .tc := ⟨.hbm, 34, rfl⟩
abbrev main_v26_4 : Ref sig .tc := ⟨.hbm, 35, rfl⟩
abbrev main_v26_5 : Ref sig .tc := ⟨.hbm, 36, rfl⟩
abbrev main_v26_6 : Ref sig .tc := ⟨.hbm, 37, rfl⟩
abbrev main_v26_7 : Ref sig .tc := ⟨.hbm, 38, rfl⟩
abbrev main_v26_8 : Ref sig .tc := ⟨.hbm, 39, rfl⟩
abbrev main_v26_9 : Ref sig .tc := ⟨.hbm, 40, rfl⟩
abbrev main_v26_10 : Ref sig .tc := ⟨.hbm, 41, rfl⟩
abbrev main_v26_11 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Kernel4Ideal.lean ====
abbrev S4x4096x1024 : Shape := ⟨3, ![4, 4096, 1024]⟩
abbrev S1024 : Shape := ⟨1, ![1024]⟩
abbrev S1024x5192 : Shape := ⟨2, ![1024, 5192]⟩
abbrev S16384x1024 : Shape := ⟨2, ![16384, 1024]⟩
abbrev S1024x1024 : Shape := ⟨2, ![1024, 1024]⟩
abbrev S1024x256 : Shape := ⟨2, ![1024, 256]⟩
abbrev S1024x512 : Shape := ⟨2, ![1024, 512]⟩
abbrev S1024x64 : Shape := ⟨2, ![1024, 64]⟩
abbrev S1024x8 : Shape := ⟨2, ![1024, 8]⟩
abbrev S_ : Shape := ⟨0, ![]⟩
abbrev S1024x128 : Shape := ⟨2, ![1024, 128]⟩
abbrev S1024x56 : Shape := ⟨2, ![1024, 56]⟩
abbrev S1x1024 : Shape := ⟨2, ![1, 1024]⟩
abbrev S32768x128 : Shape := ⟨2, ![32768, 128]⟩
abbrev S16384x256 : Shape := ⟨2, ![16384, 256]⟩
abbrev S16384x512 : Shape := ⟨2, ![16384, 512]⟩
abbrev S16384x128 : Shape := ⟨2, ![16384, 128]⟩
abbrev S512x1024 : Shape := ⟨2, ![512, 1024]⟩
abbrev S512x256 : Shape := ⟨2, ![512, 256]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 43
  | .vmem => 36
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5192, .f32⟩
  | .hbm, ⟨3, _⟩ => ⟨S16384x1024, .f32⟩
  | .hbm, ⟨4, _⟩ => ⟨S1024x1024, .f32⟩
  | .hbm, ⟨5, _⟩ => ⟨S1024x256, .f32⟩
  | .hbm, ⟨6, _⟩ => ⟨S1024x256, .f32⟩
  | .hbm, ⟨7, _⟩ => ⟨S1024x512, .f32⟩
  | .hbm, ⟨8, _⟩ => ⟨S1024x64, .f32⟩
  | .hbm, ⟨9, _⟩ => ⟨S1024x8, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x64, .f32⟩
  | .hbm, ⟨15, _⟩ => ⟨S1024x512, .f32⟩
  | .hbm, ⟨16, _⟩ => ⟨S1024x128, .f32⟩
  | .hbm, ⟨17, _⟩ => ⟨S1024x128, .f32⟩
  | .hbm, ⟨18, _⟩ => ⟨S_, .f32⟩
  | .hbm, ⟨19, _⟩ => ⟨S1024x56, .f32⟩
  | .hbm, ⟨20, _⟩ => ⟨S1024x128, .f32⟩
  | .hbm, ⟨21, _⟩ => ⟨S1024x1024, .bf16⟩
  | .hbm, ⟨22, _⟩ => ⟨S1024x512, .bf16⟩
  | .hbm, ⟨23, _⟩ => ⟨S1024x512, .bf16⟩
  | .hbm, ⟨24, _⟩ => ⟨S1024x128, .bf16⟩
  | .hbm, ⟨25, _⟩ => ⟨S1024x128, .bf16⟩
  | .hbm, ⟨26, _⟩ => ⟨S1024x128, .bf16⟩
  | .hbm, ⟨27, _⟩ => ⟨S1024x1024, .bf16⟩
  | .hbm, ⟨28, _⟩ => ⟨S1024x1024, .bf16⟩
  | .hbm, ⟨29, _⟩ => ⟨S1024x1024, .bf16⟩
  | .hbm, ⟨30, _⟩ => ⟨S1x1024, .f32⟩
  | .hbm, ⟨31, _⟩ => ⟨S16384x1024, .bf16⟩
  | .hbm, ⟨32, _⟩ => ⟨S32768x128, .f32⟩
  | .hbm, ⟨33, _⟩ => ⟨S32768x128, .f32⟩
  | .hbm, ⟨34, _⟩ => ⟨S16384x256, .bf16⟩
  | .hbm, ⟨35, _⟩ => ⟨S16384x256, .bf16⟩
  | .hbm, ⟨36, _⟩ => ⟨S16384x512, .bf16⟩
  | .hbm, ⟨37, _⟩ => ⟨S16384x128, .bf16⟩
  | .hbm, ⟨38, _⟩ => ⟨S16384x128, .bf16⟩
  | .hbm, ⟨39, _⟩ => ⟨S16384x128, .f32⟩
  | .hbm, ⟨40, _⟩ => ⟨S16384x1024, .f32⟩
  | .hbm, ⟨41, _⟩ => ⟨S16384x1024, .f32⟩
  | .hbm, ⟨42, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x512, .bf16⟩
  | .local _ .vmem, ⟨23, _⟩ => ⟨S512x512, .bf16⟩
  | .local _ .vmem, ⟨24, _⟩ => ⟨S512x128, .bf16⟩
  | .local _ .vmem, ⟨25, _⟩ => ⟨S512x128, .bf16⟩
  | .local _ .vmem, ⟨26, _⟩ => ⟨S512x128, .bf16⟩
  | .local _ .vmem, ⟨27, _⟩ => ⟨S512x128, .bf16⟩
  | .local _ .vmem, ⟨28, _⟩ => ⟨S512x128, .f32⟩
  | .local _ .vmem, ⟨29, _⟩ => ⟨S512x128, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26_0 : Ref sig .tc := ⟨.hbm, 31, rfl⟩
abbrev main_v26_1 : Ref sig .tc := ⟨.hbm, 32, rfl⟩
abbrev main_v26_2 : Ref sig .tc := ⟨.hbm, 33, rfl⟩
abbrev main_v26_3 : Ref sig .tc := ⟨.hbm, 34, rfl⟩
abbrev main_v26_4 : Ref sig .tc := ⟨.hbm, 35, rfl⟩
abbrev main_v26_5 : Ref sig .tc := ⟨.hbm, 36, rfl⟩
abbrev main_v26_6 : Ref sig .tc := ⟨.hbm, 37, rfl⟩
abbrev main_v26_7 : Ref sig .tc := ⟨.hbm, 38, rfl⟩
abbrev main_v26_8 : Ref sig .tc := ⟨.hbm, 39, rfl⟩
abbrev main_v26_9 : Ref sig .tc := ⟨.hbm, 40, rfl⟩
abbrev main_v26_10 : Ref sig .tc := ⟨.hbm, 41, rfl⟩
abbrev main_v26_11 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference4Ideal.lean ====
abbrev S4x4096x1024 : Shape := ⟨3, ![4, 4096, 1024]⟩
abbrev S1024 : Shape := ⟨1, ![1024]⟩
abbrev S1024x5192 : Shape := ⟨2, ![1024, 5192]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5192 : Shape := ⟨3, ![4, 4096, 5192]⟩
abbrev S4x4096x256 : Shape := ⟨3, ![4, 4096, 256]⟩
abbrev S4x4096x512 : Shape := ⟨3, ![4, 4096, 512]⟩
abbrev S4x4096x64 : Shape := ⟨3, ![4, 4096, 64]⟩
abbrev S4x4096x8 : Shape := ⟨3, ![4, 4096, 8]⟩
abbrev S4x4096x56 : Shape := ⟨3, ![4, 4096, 56]⟩
abbrev S16384x1024 : Shape := ⟨2, ![16384, 1024]⟩
abbrev S32768x128 : Shape := ⟨2, ![32768, 128]⟩
abbrev S16384x256 : Shape := ⟨2, ![16384, 256]⟩
abbrev S16384x512 : Shape := ⟨2, ![16384, 512]⟩
abbrev S4x4096x128 : Shape := ⟨3, ![4, 4096, 128]⟩
abbrev S16384x128 : Shape := ⟨2, ![16384, 128]⟩

abbrev nBuf : Space → Nat
  | .hbm => 59
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5192, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x5192, .f32⟩
  | .hbm, ⟨20, _⟩ => ⟨S4x4096x1024, .f32⟩
  | .hbm, ⟨21, _⟩ => ⟨S4x4096x256, .f32⟩
  | .hbm, ⟨22, _⟩ => ⟨S4x4096x256, .f32⟩
  | .hbm, ⟨23, _⟩ => ⟨S4x4096x512, .f32⟩
  | .hbm, ⟨24, _⟩ => ⟨S4x4096x64, .f32⟩
  | .hbm, ⟨25, _⟩ => ⟨S4x4096x8, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S_, .f32⟩
  | .hbm, ⟨30, _⟩ => ⟨S4x4096x8, .f32⟩
  | .hbm, ⟨31, _⟩ => ⟨S4x4096x8, .f32⟩
  | .hbm, ⟨32, _⟩ => ⟨S4x4096x64, .bf16⟩
  | .hbm, ⟨33, _⟩ => ⟨S_, .bf16⟩
  | .hbm, ⟨34, _⟩ => ⟨S4x4096x64, .bf16⟩
  | .hbm, ⟨35, _⟩ => ⟨S_, .f32⟩
  | .hbm, ⟨36, _⟩ => ⟨S4x4096x56, .f32⟩
  | .hbm, ⟨37, _⟩ => ⟨S_, .f32⟩
  | .hbm, ⟨38, _⟩ => ⟨S4x4096x1024, .f32⟩
  | .hbm, ⟨39, _⟩ => ⟨S4x4096x1024, .f32⟩
  | .hbm, ⟨40, _⟩ => ⟨S4x4096x1024, .bf16⟩
  | .hbm, ⟨41, _⟩ => ⟨S16384x1024, .bf16⟩
  | .hbm, ⟨42, _⟩ => ⟨S32768x128, .f32⟩
  | .hbm, ⟨43, _⟩ => ⟨S32768x128, .f32⟩
  | .hbm, ⟨44, _⟩ => ⟨S4x4096x256, .bf16⟩
  | .hbm, ⟨45, _⟩ => ⟨S16384x256, .bf16⟩
  | .hbm, ⟨46, _⟩ => ⟨S4x4096x256, .bf16⟩
  | .hbm, ⟨47, _⟩ => ⟨S16384x256, .bf16⟩
  | .hbm, ⟨48, _⟩ => ⟨S4x4096x512, .bf16⟩
  | .hbm, ⟨49, _⟩ => ⟨S16384x512, .bf16⟩
  | .hbm, ⟨50, _⟩ => ⟨S4x4096x128, .bf16⟩
  | .hbm, ⟨51, _⟩ => ⟨S16384x128, .bf16⟩
  | .hbm, ⟨52, _⟩ => ⟨S4x4096x128, .bf16⟩
  | .hbm, ⟨53, _⟩ => ⟨S16384x128, .bf16⟩
  | .hbm, ⟨54, _⟩ => ⟨S4x4096x128, .f32⟩
  | .hbm, ⟨55, _⟩ => ⟨S16384x128, .f32⟩
  | .hbm, ⟨56, _⟩ => ⟨S16384x1024, .f32⟩
  | .hbm, ⟨57, _⟩ => ⟨S16384x1024, .f32⟩
  | .hbm, ⟨58, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩

abbrev nD : Nat := 1
abbrev τ : Topo := Topo.v7x

variable {F : FTy → Type} [FloatOps F]
-- ==== Kernel5.lean ====
abbrev S32x8x1024 : Shape := ⟨3, ![32, 8, 1024]⟩
abbrev S1024 : Shape := ⟨1, ![1024]⟩
abbrev S1024x5192 : Shape := ⟨2, ![1024, 5192]⟩
abbrev S256x1024 : Shape := ⟨2, ![256, 1024]⟩
abbrev S1024x1024 : Shape := ⟨2, ![1024, 1024]⟩
abbrev S1024x256 : Shape := ⟨2, ![1024, 256]⟩
abbrev S1024x512 : Shape := ⟨2, ![1024, 512]⟩
abbrev S1024x64 : Shape := ⟨2, ![1024, 64]⟩
abbrev S1024x8 : Shape := ⟨2, ![1024, 8]⟩
abbrev S_ : Shape := ⟨0, ![]⟩
abbrev S1024x128 : Shape := ⟨2, ![1024, 128]⟩
abbrev S1024x56 : Shape := ⟨2, ![1024, 56]⟩
abbrev S1x1024 : Shape := ⟨2, ![1, 1024]⟩
abbrev S512x128 : Shape := ⟨2, ![512, 128]⟩
abbrev S256x256 : Shape := ⟨2, ![256, 256]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 43
  | .vmem => 23
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x5192, .f32⟩
  | .hbm, ⟨3, _⟩ => ⟨S256x1024, .f32⟩
  | .hbm, ⟨4, _⟩ => ⟨S1024x1024, .f32⟩
  | .hbm, ⟨5, _⟩ => ⟨S1024x256, .f32⟩
  | .hbm, ⟨6, _⟩ => ⟨S1024x256, .f32⟩
  | .hbm, ⟨7, _⟩ => ⟨S1024x512, .f32⟩
  | .hbm, ⟨8, _⟩ => ⟨S1024x64, .f32⟩
  | .hbm, ⟨9, _⟩ => ⟨S1024x8, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x64, .f32⟩
  | .hbm, ⟨15, _⟩ => ⟨S1024x512, .f32⟩
  | .hbm, ⟨16, _⟩ => ⟨S1024x128, .f32⟩
  | .hbm, ⟨17, _⟩ => ⟨S1024x128, .f32⟩
  | .hbm, ⟨18, _⟩ => ⟨S_, .f32⟩
  | .hbm, ⟨19, _⟩ => ⟨S1024x56, .f32⟩
  | .hbm, ⟨20, _⟩ => ⟨S1024x128, .f32⟩
  | .hbm, ⟨21, _⟩ => ⟨S1024x1024, .bf16⟩
  | .hbm, ⟨22, _⟩ => ⟨S1024x512, .bf16⟩
  | .hbm, ⟨23, _⟩ => ⟨S1024x512, .bf16⟩
  | .hbm, ⟨24, _⟩ => ⟨S1024x128, .bf16⟩
  | .hbm, ⟨25, _⟩ => ⟨S1024x128, .bf16⟩
  | .hbm, ⟨26, _⟩ => ⟨S1024x128, .bf16⟩
  | .hbm, ⟨27, _⟩ => ⟨S1024x1024, .bf16⟩
  | .hbm, ⟨28, _⟩ => ⟨S1024x1024, .bf16⟩
  | .hbm, ⟨29, _⟩ => ⟨S1024x1024, .bf16⟩
  | .hbm, ⟨30, _⟩ => ⟨S1x1024, .f32⟩
  | .hbm, ⟨31, _⟩ => ⟨S256x1024, .bf16⟩
  | .hbm, ⟨32, _⟩ => ⟨S512x128, .f32⟩
  | .hbm, ⟨33, _⟩ => ⟨S512x128, .f32⟩
  | .hbm, ⟨34, _⟩ => ⟨S256x256, .bf16⟩
  | .hbm, ⟨35, _⟩ => ⟨S256x256, .bf16⟩
  | .hbm, ⟨36, _⟩ => ⟨S256x512, .bf16⟩
  | .hbm, ⟨37, _⟩ => ⟨S256x128, .bf16⟩
  | .hbm, ⟨38, _⟩ => ⟨S256x128, .bf16⟩
  | .hbm, ⟨39, _⟩ => ⟨S256x128, .f32⟩
  | .hbm, ⟨40, _⟩ => ⟨S256x1024, .f32⟩
  | .hbm, ⟨41, _⟩ => ⟨S256x1024, .f32⟩
  | .hbm, ⟨42, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1024x512, .bf16⟩
  | .local _ .vmem, ⟨4, _⟩ => ⟨S1024x512, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S256x1024, .bf16⟩
  | .local _ .vmem, ⟨12, _⟩ => ⟨S512x128, .f32⟩
  | .local _ .vmem, ⟨13, _⟩ => ⟨S512x128, .f32⟩
  | .local _ .vmem, ⟨14, _⟩ => ⟨S256x256, .bf16⟩
  | .local _ .vmem, ⟨15, _⟩ => ⟨S256x256, .bf16⟩
  | .local _ .vmem, ⟨16, _⟩ => ⟨S256x512, .bf16⟩
  | .local _ .vmem, ⟨17, _⟩ => ⟨S256x128, .bf16⟩
  | .local _ .vmem, ⟨18, _⟩ => ⟨S256x128, .bf16⟩
  | .local _ .vmem, ⟨19, _⟩ => ⟨S256x128, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26_0 : Ref sig .tc := ⟨.hbm, 31, rfl⟩
abbrev main_v26_1 : Ref sig .tc := ⟨.hbm, 32, rfl⟩
abbrev main_v26_2 : Ref sig .tc := ⟨.hbm, 33, rfl⟩
abbrev main_v26_3 : Ref sig .tc := ⟨.hbm, 34, rfl⟩
abbrev main_v26_4 : Ref sig .tc := ⟨.hbm, 35, rfl⟩
abbrev main_v26_5 : Ref sig .tc := ⟨.hbm, 36, rfl⟩
abbrev main_v26_6 : Ref sig .tc := ⟨.hbm, 37, rfl⟩
abbrev main_v26_7 : Ref sig .tc := ⟨.hbm, 38, rfl⟩
abbrev main_v26_8 : Ref sig .tc := ⟨.hbm, 39, rfl⟩
abbrev main_v26_9 : Ref sig .tc := ⟨.hbm, 40, rfl⟩
abbrev main_v26_10 : Ref sig .tc := ⟨.hbm, 41, rfl⟩
abbrev main_v26_11 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S256x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S256x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S256x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S256x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S256x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S256x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S256x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]
-- ==== Reference5Ideal.lean ====
abbrev S32x8x1024 : Shape := ⟨3, ![32, 8, 1024]⟩
abbrev S1024 : Shape := ⟨1, ![1024]⟩
abbrev S1024x5192 : Shape := ⟨2, ![1024, 5192]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x5192 : Shape := ⟨3, ![32, 8, 5192]⟩
abbrev S32x8x256 : Shape := ⟨3, ![32, 8, 256]⟩
abbrev S32x8x512 : Shape := ⟨3, ![32, 8, 512]⟩
abbrev S32x8x64 : Shape := ⟨3, ![32, 8, 64]⟩
abbrev S32x8x8 : Shape := ⟨3, ![32, 8, 8]⟩
abbrev S32x8x56 : Shape := ⟨3, ![32, 8, 56]⟩
abbrev S256x1024 : Shape := ⟨2, ![256, 1024]⟩
abbrev S512x128 : Shape := ⟨2, ![512, 128]⟩
abbrev S256x256 : Shape := ⟨2, ![256, 256]⟩
abbrev S256x512 : Shape := ⟨2, ![256, 512]⟩
abbrev S32x8x128 : Shape := ⟨3, ![32, 8, 128]⟩
abbrev S256x128 : Shape := ⟨2, ![256, 128]⟩

abbrev nBuf : Space → Nat
  | .hbm => 59
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x5192, .f32⟩
  | .hbm, ⟨3, _⟩ => ⟨S32x8x1024, .f32⟩
  | .hbm, ⟨4, _⟩ => ⟨S_, .f32⟩
  | .hbm, ⟨5, _⟩ => ⟨S32x8, .f32⟩
  | .hbm, ⟨6, _⟩ => ⟨S32x8x1, .f32⟩
  | .hbm, ⟨7, _⟩ => ⟨S_, .f32⟩
  | .hbm, ⟨8, _⟩ => ⟨S32x8x1, .f32⟩
  | .hbm, ⟨9, _⟩ => ⟨S32x8x1, .f32⟩
  | .hbm, ⟨10, _⟩ => ⟨S_, .f32⟩
  | .hbm, ⟨11, _⟩ => ⟨S32x8x1, .f32⟩
  | .hbm, ⟨12, _⟩ => ⟨S32x8x1, .f32⟩
  | .hbm, ⟨13, _⟩ => ⟨S32x8x1, .f32⟩
  | .hbm, ⟨14, _⟩ => ⟨S32x8x1024, .f32⟩
  | .hbm, ⟨15, _⟩ => ⟨S32x8x1024, .f32⟩
  | .hbm, ⟨16, _⟩ => ⟨S1x1x1024, .f32⟩
  | .hbm, ⟨17, _⟩ => ⟨S32x8x1024, .f32⟩
  | .hbm, ⟨18, _⟩ => ⟨S32x8x1024, .f32⟩
  | .hbm, ⟨19, _⟩ => ⟨S32x8x5192, .f32⟩
  | .hbm, ⟨20, _⟩ => ⟨S32x8x1024, .f32⟩
  | .hbm, ⟨21, _⟩ => ⟨S32x8x256, .f32⟩
  | .hbm, ⟨22, _⟩ => ⟨S32x8x256, .f32⟩
  | .hbm, ⟨23, _⟩ => ⟨S32x8x512, .f32⟩
  | .hbm, ⟨24, _⟩ => ⟨S32x8x64, .f32⟩
  | .hbm, ⟨25, _⟩ => ⟨S32x8x8, .f32⟩
  | .hbm, ⟨26, _⟩ => ⟨S32x8x1024, .f32⟩
  | .hbm, ⟨27, _⟩ => ⟨S32x8x1024, .f32⟩
  | .hbm, ⟨28, _⟩ => ⟨S32x8x1024, .f32⟩
  | .hbm, ⟨29, _⟩ => ⟨S_, .f32⟩
  | .hbm, ⟨30, _⟩ => ⟨S32x8x8, .f32⟩
  | .hbm, ⟨31, _⟩ => ⟨S32x8x8, .f32⟩
  | .hbm, ⟨32, _⟩ => ⟨S32x8x64, .bf16⟩
  | .hbm, ⟨33, _⟩ => ⟨S_, .bf16⟩
  | .hbm, ⟨34, _⟩ => ⟨S32x8x64, .bf16⟩
  | .hbm, ⟨35, _⟩ => ⟨S_, .f32⟩
  | .hbm, ⟨36, _⟩ => ⟨S32x8x56, .f32⟩
  | .hbm, ⟨37, _⟩ => ⟨S_, .f32⟩
  | .hbm, ⟨38, _⟩ => ⟨S32x8x1024, .f32⟩
  | .hbm, ⟨39, _⟩ => ⟨S32x8x1024, .f32⟩
  | .hbm, ⟨40, _⟩ => ⟨S32x8x1024, .bf16⟩
  | .hbm, ⟨41, _⟩ => ⟨S256x1024, .bf16⟩
  | .hbm, ⟨42, _⟩ => ⟨S512x128, .f32⟩
  | .hbm, ⟨43, _⟩ => ⟨S512x128, .f32⟩
  | .hbm, ⟨44, _⟩ => ⟨S32x8x256, .bf16⟩
  | .hbm, ⟨45, _⟩ => ⟨S256x256, .bf16⟩
  | .hbm, ⟨46, _⟩ => ⟨S32x8x256, .bf16⟩
  | .hbm, ⟨47, _⟩ => ⟨S256x256, .bf16⟩
  | .hbm, ⟨48, _⟩ => ⟨S32x8x512, .bf16⟩
  | .hbm, ⟨49, _⟩ => ⟨S256x512, .bf16⟩
  | .hbm, ⟨50, _⟩ => ⟨S32x8x128, .bf16⟩
  | .hbm, ⟨51, _⟩ => ⟨S256x128, .bf16⟩
  | .hbm, ⟨52, _⟩ => ⟨S32x8x128, .bf16⟩
  | .hbm, ⟨53, _⟩ => ⟨S256x128, .bf16⟩
  | .hbm, ⟨54, _⟩ => ⟨S32x8x128, .f32⟩
  | .hbm, ⟨55, _⟩ => ⟨S256x128, .f32⟩
  | .hbm, ⟨56, _⟩ => ⟨S256x1024, .f32⟩
  | .hbm, ⟨57, _⟩ => ⟨S256x1024, .f32⟩
  | .hbm, ⟨58, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩

abbrev nD : Nat := 1
abbrev τ : Topo := Topo.v7x

variable {F : FTy → Type} [FloatOps F]
-- ==== Proof.FfnRef.lean ====
/- The reference of the merge and feed-forward call, cut into its stages. -/
module

public import proofs.«01_k».proof.Proof.Gen.Reference2Ideal.Run
public import Idealize.ShloMosaic.PureOps.Ideal

@[expose] public section

set_option maxRecDepth 16384

noncomputable section

namespace Cert.Ffn

open Idealize.ShloMosaic Idealize.ShloMosaic.TcCoe Idealize.SL.Sem
open Cert.Reference2Ideal Cert.Reference2Ideal.Gen

/-- `sigmoid` as the host prints it: one over one plus the exponential of the negated argument. -/
def refSig (z : FVec Ideal S4x4096x1024 .f32) : FVec Ideal S4x4096x1024 .f32 :=
  Host.divf (broadcastInDim S4x4096x1024 ![] bcast_S_S4x4096x1024 (constant S_ .f32 0x3F800000#32))
    (addf (broadcastInDim S4x4096x1024 ![] bcast_S_S4x4096x1024 (constant S_ .f32 0x3F800000#32)) (Host.exp (Host.negf z)))

/-- The merge of the two branches: `sigmoid(ga) * (attn @ w_o_attn) + sigmoid(gb) * (lru @ w_o_lru)`. -/
def refMerged (A L : FVec Ideal S4x4096x1024 .bf16) (Ga Gb : FVec Ideal S4x4096x1024 .f32)
    (Wa Wl : FVec Ideal S1024x1024 .f32) : FVec Ideal S4x4096x1024 .f32 :=
  addf (mulf (refSig Ga) (Host.dotGeneral dot_S4x4096x1024_S1024x1024_S4x4096x1024_2_0_01_1_n_n none (extf .f32 A bitsLt_bf16_f32) Wa))
    (mulf (refSig Gb) (Host.dotGeneral dot_S4x4096x1024_S1024x1024_S4x4096x1024_2_0_01_1_n_n none (extf .f32 L bitsLt_bf16_f32) Wl))

/-- The residual stream after the merge: `x + merged @ w_out`. -/
def refH (X M : FVec Ideal S4x4096x1024 .f32) (Wo : FVec Ideal S1024x1024 .f32) : FVec Ideal S4x4096x1024 .f32 :=
  addf X (Host.dotGeneral dot_S4x4096x1024_S1024x1024_S4x4096x1024_2_0_01_1_n_n none M Wo)

/-- `rms_norm`. -/
def refNorm (H : FVec Ideal S4x4096x1024 .f32) (G : FVec Ideal S1024 .f32) : FVec Ideal S4x4096x1024 .f32 :=
  mulf (mulf H (broadcastInDim S4x4096x1024 ![0, 1, 2] bcast_S4x4096x1_S4x4096x1024_0_1_2
      (Host.rsqrt (addf (Host.divf (broadcastInDim S4x4096x1 ![0, 1] bcast_S4x4096_S4x4096x1_0_1
          (Host.reduceAdd (mulf H H) (constant S_ .f32 0x00000000#32) reducesTo_S4x4096x1024_S4x4096_d2 h_S_))
        (broadcastInDim S4x4096x1 ![] bcast_S_S4x4096x1 (constant S_ .f32 0x44800000#32)))
        (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 G))

/-- One of the two widening products of the feed-forward network. -/
def refUp (Hn : FVec Ideal S4x4096x1024 .f32) (W : FVec Ideal S1024x2816 .f32) : FVec Ideal S4x4096x2816 .f32 :=
  Host.dotGeneral dot_S4x4096x1024_S1024x2816_S4x4096x2816_2_0_01_1_n_n none Hn W

/-- The gated activation: `silu(g) * u`. -/
def refAct (P Q : FVec Ideal S4x4096x2816 .f32) : FVec Ideal S4x4096x2816 .f32 :=
  mulf (mulf P (Host.divf (broadcastInDim S4x4096x2816 ![] bcast_S_S4x4096x2816 (constant S_ .f32 0x3F800000#32))
    (addf (broadcastInDim S4x4096x2816 ![] bcast_S_S4x4096x2816 (constant S_ .f32 0x3F800000#32)) (Host.exp (Host.negf P))))) Q

/-- The layer's output before its last norm: `h + act @ w_fd`. -/
def refY (H : FVec Ideal S4x4096x1024 .f32) (T : FVec Ideal S4x4096x2816 .f32) (Wd : FVec Ideal S2816x1024 .f32) :
    FVec Ideal S4x4096x1024 .f32 :=
  addf H (Host.dotGeneral dot_S4x4096x2816_S2816x1024_S4x4096x1024_2_0_01_1_n_n none T Wd)

/-- The whole reference as a composition of its stages, before the last change of shape. -/
def refAll (X : FVec Ideal S4x4096x1024 .f32) (A L : FVec Ideal S4x4096x1024 .bf16) (Ga Gb : FVec Ideal S4x4096x1024 .f32)
    (Wa Wl Wo : FVec Ideal S1024x1024 .f32) (G : FVec Ideal S1024 .f32) (Wg Wu : FVec Ideal S1024x2816 .f32)
    (Wd : FVec Ideal S2816x1024 .f32) (Gf : FVec Ideal S1024 .f32) : FVec Ideal S4x4096x1024 .f32 :=
  refNorm (refY (refH X (refMerged A L Ga Gb Wa Wl) Wo)
    (refAct (refUp (refNorm (refH X (refMerged A L Ga Gb Wa Wl) Wo) G) Wg)
      (refUp (refNorm (refH X (refMerged A L Ga Gb Wa Wl) Wo) G) Wu)) Wd) Gf

set_option maxHeartbeats 1600000 in
/-- The reference's result is that composition, its rows laid out one after the other. -/
theorem res_eq (m : (ℓ : Loc nD τ sig) → Buf (Elt Ideal) ℓ) (c : Dev nD) :
    Cert.Reference2Ideal.Value.res_out0 m c
      = shapeCast S16384x1024 (refAll (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12))) shapeCasts_S4x4096x1024_S16384x1024 := by
  unfold Cert.Reference2Ideal.Value.res_out0 Cert.Reference2Ideal.Value.res_main_v53 refAll refY refAct refUp refNorm refH refMerged refSig
  rfl

end Cert.Ffn

end
-- ==== Proof.FfnRow.lean ====
/- One row of the merge and feed-forward block: what the kernel's body computes on it is what the reference computes on it. -/
module

public import proofs.«01_k».proof.Proof.FfnRef
public import proofs.«01_k».proof.Proof.Gen.Kernel2Ideal.Skeleton
public import Idealize.ShloMosaic.Lib.Pointwise

@[expose] public section

set_option maxRecDepth 16384

noncomputable section

namespace Cert.Ffn

open Idealize.ShloMosaic Idealize.ShloMosaic.TcCoe Idealize.SL.Sem
open Cert.Reference2Ideal Cert.Reference2Ideal.Gen

/-- The residual stream after the merge, one entry of it. -/
theorem h_at (x : FVec Ideal Cert.Kernel2Ideal.S256x1024 .f32) (a l : FVec Ideal Cert.Kernel2Ideal.S256x1024 .bf16)
    (ga gb : FVec Ideal Cert.Kernel2Ideal.S256x1024 .f32) (wa wl wo : FVec Ideal Cert.Kernel2Ideal.S1024x1024 .bf16)
    (X : FVec Ideal S4x4096x1024 .f32) (A L : FVec Ideal S4x4096x1024 .bf16) (Ga Gb : FVec Ideal S4x4096x1024 .f32)
    (Wa Wl Wo : FVec Ideal S1024x1024 .f32) (r : Fin 256) (b : Fin 4) (s : Fin 4096)
    (hx : ∀ k : Fin 1024, x (ix2 r k) = X (ix3 b s k)) (ha : ∀ k : Fin 1024, a (ix2 r k) = A (ix3 b s k))
    (hl : ∀ k : Fin 1024, l (ix2 r k) = L (ix3 b s k)) (hga : ∀ k : Fin 1024, ga (ix2 r k) = Ga (ix3 b s k))
    (hgb : ∀ k : Fin 1024, gb (ix2 r k) = Gb (ix3 b s k))
    (hwa : ∀ k j : Fin 1024, wa (ix2 k j) = Wa (ix2 k j)) (hwl : ∀ k j : Fin 1024, wl (ix2 k j) = Wl (ix2 k j))
    (hwo : ∀ k j : Fin 1024, wo (ix2 k j) = Wo (ix2 k j)) (j : Fin 1024) :
    Cert.Kernel2Ideal.Gen.k0_pay2 ga a wa gb l wl x wo (ix2 r j) = refH X (refMerged A L Ga Gb Wa Wl) Wo (ix3 b s j) := by
  pointwise [Cert.Kernel2Ideal.Gen.k0_pay2, refH, refMerged, refSig]
  simp only [hx, ha, hl, hga, hgb, hwa, hwl, hwo, Ideal.logistic]

/-- The normalised row before its gain, times the gain. -/
theorem norm_at (x : FVec Ideal Cert.Kernel2Ideal.S256x1024 .f32) (a l : FVec Ideal Cert.Kernel2Ideal.S256x1024 .bf16)
    (ga gb : FVec Ideal Cert.Kernel2Ideal.S256x1024 .f32) (wa wl wo : FVec Ideal Cert.Kernel2Ideal.S1024x1024 .bf16)
    (g : FVec Ideal Cert.Kernel2Ideal.S1x1024 .f32) (H : FVec Ideal S4x4096x1024 .f32) (G : FVec Ideal S1024 .f32)
    (r : Fin 256) (b : Fin 4) (s : Fin 4096)
    (hH : ∀ k : Fin 1024, Cert.Kernel2Ideal.Gen.k0_pay2 (F := Ideal) ga a wa gb l wl x wo (ix2 r k) = H (ix3 b s k))
    (hg : ∀ k : Fin 1024, g (ix2 0 k) = G (ix1 k)) (j : Fin 1024) :
    Cert.Kernel2Ideal.Gen.k0_pay3 (F := Ideal) ga a wa gb l wl x wo (ix2 r j) * g (ix2 0 j) = refNorm H G (ix3 b s j) := by
  unfold Cert.Kernel2Ideal.Gen.k0_pay3
  generalize Cert.Kernel2Ideal.Gen.k0_pay2 (F := Ideal) ga a wa gb l wl x wo = v at hH ⊢
  pointwise [refNorm]
  simp only [hH, hg]

/-- The feed-forward network and the last norm, one entry, from the residual row and its normalised row. -/
theorem out_at (v u : FVec Ideal Cert.Kernel2Ideal.S256x1024 .f32) (g gf : FVec Ideal Cert.Kernel2Ideal.S1x1024 .f32)
    (wg wu : FVec Ideal Cert.Kernel2Ideal.S1024x2816 .bf16) (wd : FVec Ideal Cert.Kernel2Ideal.S2816x1024 .bf16)
    (H N : FVec Ideal S4x4096x1024 .f32) (Wg Wu : FVec Ideal S1024x2816 .f32) (Wd : FVec Ideal S2816x1024 .f32)
    (Gf : FVec Ideal S1024 .f32) (r : Fin 256) (b : Fin 4) (s : Fin 4096)
    (hH : ∀ k : Fin 1024, v (ix2 r k) = H (ix3 b s k))
    (hN : ∀ k : Fin 1024, u (ix2 r k) * g (ix2 0 k) = N (ix3 b s k))
    (hwg : ∀ (k : Fin 1024) (j : Fin 2816), wg (ix2 k j) = Wg (ix2 k j))
    (hwu : ∀ (k : Fin 1024) (j : Fin 2816), wu (ix2 k j) = Wu (ix2 k j))
    (hwd : ∀ (k : Fin 2816) (j : Fin 1024), wd (ix2 k j) = Wd (ix2 k j))
    (hgf : ∀ k : Fin 1024, gf (ix2 0 k) = Gf (ix1 k)) (j : Fin 1024) :
    Cert.Kernel2Ideal.Gen.k0_pay1 (F := Ideal) v u g wg wu wd gf (ix2 r j)
      = refNorm (refY H (refAct (refUp N Wg) (refUp N Wu)) Wd) Gf (ix3 b s j) := by
  pointwise [Cert.Kernel2Ideal.Gen.k0_pay1, refNorm, refY, refAct, refUp]
  simp only [hH, hN, hwg, hwu, hwd, hgf, Ideal.logistic]

end Cert.Ffn

end
-- ==== Proof.Ffn.lean ====
/- The merge and feed-forward call: the array it leaves is the reference's, for every argument. -/
module

public import proofs.«01_k».proof.Proof.FfnRow
public import proofs.«01_k».proof.Proof.Gen.Kernel2Ideal.Value
public import Idealize.ShloMosaic.Lib.Pipeline.ValueKit
public import Idealize.ShloMosaic.Lib.Claim

@[expose] public section

set_option maxRecDepth 16384

noncomputable section

namespace Cert.Ffn

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- Where each window's block lies at a grid point: a band of rows, or the whole of a weight. -/
theorem idx : ∀ t : Fin cfg0.N, win0_0.index t = ![t.val, 0] ∧ win0_1.index t = ![t.val, 0] ∧ win0_2.index t = ![t.val, 0]
      ∧ win0_3.index t = ![t.val, 0] ∧ win0_4.index t = ![t.val, 0] ∧ win0_5.index t = ![0, 0] ∧ win0_6.index t = ![0, 0]
      ∧ win0_7.index t = ![0, 0] ∧ win0_8.index t = ![0, 0] ∧ win0_9.index t = ![0, 0] ∧ win0_10.index t = ![0, 0]
      ∧ win0_11.index t = ![0, 0] ∧ win0_12.index t = ![0, 0] ∧ win0_13.index t = ![t.val, 0] :=
  (by decide +kernel : ∀ t : Fin grid0.N, _)

/-- The reference over this program's own argument arrays. -/
abbrev target (c : Dev nD) : FVec Ideal Cert.Reference2Ideal.S4x4096x1024 .f32 :=
  refAll (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12))

/-- The batch of the row `r` of grid point `t`. -/
abbrev bat (t : Fin cfg0.N) (r : Fin 256) : Fin 4 := ⟨(t.val * 256 + r.val) / 4096, by have : t.val < 64 := t.isLt; omega⟩

/-- Its place in the sequence. -/
abbrev pos (t : Fin cfg0.N) (r : Fin 256) : Fin 4096 := ⟨(t.val * 256 + r.val) % 4096, by omega⟩

/-- The block of the x rows. -/
theorem row0 (c : Dev nD) (t : Fin cfg0.N) (r : Fin 256) (k : Fin 1024) :
    (show FVec Ideal S256x1024 .f32 from iblk m c 0 t) (ix2 r k)
      = (m ((c : Thread nD τ).loc main_arg0) : FVec Ideal S4x4096x1024 .f32) (ix3 (bat t r) (pos t r) k) := by
  blk_point [iblk, V, idx t]

/-- The block of the attention rows. -/
theorem row1 (c : Dev nD) (t : Fin cfg0.N) (r : Fin 256) (k : Fin 1024) :
    (show FVec Ideal S256x1024 .bf16 from iblk m c 1 t) (ix2 r k)
      = (m ((c : Thread nD τ).loc main_arg1) : FVec Ideal S4x4096x1024 .bf16) (ix3 (bat t r) (pos t r) k) := by
  blk_point [iblk, V, idx t]

/-- The block of the recurrence rows. -/
theorem row2 (c : Dev nD) (t : Fin cfg0.N) (r : Fin 256) (k : Fin 1024) :
    (show FVec Ideal S256x1024 .bf16 from iblk m c 2 t) (ix2 r k)
      = (m ((c : Thread nD τ).loc main_arg2) : FVec Ideal S4x4096x1024 .bf16) (ix3 (bat t r) (pos t r) k) := by
  blk_point [iblk, V, idx t]

/-- The block of the first gate rows. -/
theorem row3 (c : Dev nD) (t : Fin cfg0.N) (r : Fin 256) (k : Fin 1024) :
    (show FVec Ideal S256x1024 .f32 from iblk m c 3 t) (ix2 r k)
      = (m ((c : Thread nD τ).loc main_arg3) : FVec Ideal S4x4096x1024 .f32) (ix3 (bat t r) (pos t r) k) := by
  blk_point [iblk, V, idx t]

/-- The block of the second gate rows. -/
theorem row4 (c : Dev nD) (t : Fin cfg0.N) (r : Fin 256) (k : Fin 1024) :
    (show FVec Ideal S256x1024 .f32 from iblk m c 4 t) (ix2 r k)
      = (m ((c : Thread nD τ).loc main_arg4) : FVec Ideal S4x4096x1024 .f32) (ix3 (bat t r) (pos t r) k) := by
  blk_point [iblk, V, idx t]

/-- A weight is staged whole. -/
theorem weight5 (c : Dev nD) (t : Fin cfg0.N) (k : Fin 1024) (j : Fin 1024) :
    (show FVec Ideal S1024x1024 .bf16 from iblk m c 5 t) (ix2 k j)
      = (m ((c : Thread nD τ).loc main_arg5) : FVec Ideal S1024x1024 .f32) (ix2 k j) := by
  blk_point [iblk, V, idx t]

/-- A weight is staged whole. -/
theorem weight6 (c : Dev nD) (t : Fin cfg0.N) (k : Fin 1024) (j : Fin 1024) :
    (show FVec Ideal S1024x1024 .bf16 from iblk m c 6 t) (ix2 k j)
      = (m ((c : Thread nD τ).loc main_arg6) : FVec Ideal S1024x1024 .f32) (ix2 k j) := by
  blk_point [iblk, V, idx t]

/-- A weight is staged whole. -/
theorem weight7 (c : Dev nD) (t : Fin cfg0.N) (k : Fin 1024) (j : Fin 1024) :
    (show FVec Ideal S1024x1024 .bf16 from iblk m c 7 t) (ix2 k j)
      = (m ((c : Thread nD τ).loc main_arg7) : FVec Ideal S1024x1024 .f32) (ix2 k j) := by
  blk_point [iblk, V, idx t]

/-- A weight is staged whole. -/
theorem weight9 (c : Dev nD) (t : Fin cfg0.N) (k : Fin 1024) (j : Fin 2816) :
    (show FVec Ideal S1024x2816 .bf16 from iblk m c 9 t) (ix2 k j)
      = (m ((c : Thread nD τ).loc main_arg9) : FVec Ideal S1024x2816 .f32) (ix2 k j) := by
  blk_point [iblk, V, idx t]

/-- A weight is staged whole. -/
theorem weight10 (c : Dev nD) (t : Fin cfg0.N) (k : Fin 1024) (j : Fin 2816) :
    (show FVec Ideal S1024x2816 .bf16 from iblk m c 10 t) (ix2 k j)
      = (m ((c : Thread nD τ).loc main_arg10) : FVec Ideal S1024x2816 .f32) (ix2 k j) := by
  blk_point [iblk, V, idx t]

/-- A weight is staged whole. -/
theorem weight11 (c : Dev nD) (t : Fin cfg0.N) (k : Fin 2816) (j : Fin 1024) :
    (show FVec Ideal S2816x1024 .bf16 from iblk m c 11 t) (ix2 k j)
      = (m ((c : Thread nD τ).loc main_arg11) : FVec Ideal S2816x1024 .f32) (ix2 k j) := by
  blk_point [iblk, V, idx t]

/-- A gain is staged whole. -/
theorem gain8 (c : Dev nD) (t : Fin cfg0.N) (k : Fin 1024) :
    (show FVec Ideal S1x1024 .f32 from iblk m c 8 t) (ix2 0 k)
      = (m ((c : Thread nD τ).loc main_arg8) : FVec Ideal S1024 .f32) (ix1 k) := by
  blk_point [iblk, V, idx t]

/-- A gain is staged whole. -/
theorem gain12 (c : Dev nD) (t : Fin cfg0.N) (k : Fin 1024) :
    (show FVec Ideal S1x1024 .f32 from iblk m c 12 t) (ix2 0 k)
      = (m ((c : Thread nD τ).loc main_arg12) : FVec Ideal S1024 .f32) (ix1 k) := by
  blk_point [iblk, V, idx t]

/-- The array after the run is the reference's result, laid out row after row. -/
theorem final (c : Dev nD) : (dats m 0 c).arrAt 13 cfg0.N
    = shapeCast Cert.Reference2Ideal.S16384x1024 (target m c) Cert.Reference2Ideal.Gen.shapeCasts_S4x4096x1024_S16384x1024 := by
  refine (dats m 0 c).arrAt_eq_of_covers 13 _ (by decide +kernel) fun t _ y => ?_
  blk_simp
  rw [after0_13]; frame_out
  obtain ⟨r, j, rfl⟩ : ∃ (r : Fin 256) (j : Fin 1024), y = ix2 r j := ⟨y 0, y 1, eq_ix2 y⟩
  refine (out_at _ _ _ _ _ _ _ _ _ _ _ _ _ r (bat t r) (pos t r)
    (h_at _ _ _ _ _ _ _ _ _ _ _ _ _ _ _ _ r (bat t r) (pos t r) (row0 m c t r) (row1 m c t r) (row2 m c t r) (row3 m c t r)
      (row4 m c t r) (weight5 m c t) (weight6 m c t) (weight7 m c t))
    (norm_at _ _ _ _ _ _ _ _ _ _ _ r (bat t r) (pos t r)
      (h_at _ _ _ _ _ _ _ _ _ _ _ _ _ _ _ _ r (bat t r) (pos t r) (row0 m c t r) (row1 m c t r) (row2 m c t r) (row3 m c t r)
        (row4 m c t r) (weight5 m c t) (weight6 m c t) (weight7 m c t)) (gain8 m c t))
    (weight9 m c t) (weight10 m c t) (weight11 m c t) (gain12 m c t) j).trans ?_
  show target m c (ix3 (bat t r) (pos t r) j) = _
  generalize target m c = T
  pointwise
  blk_ext [idx t]

end Cert.Ffn

end
-- ==== Proof.FfnClaim.lean ====
/- The claims of the merge and feed-forward call. -/
module

public import proofs.«01_k».proof.Defs
public import proofs.«01_k».proof.Proof.Ffn
public import proofs.«01_k».proof.Proof.Gen.Kernel2.Frame

@[expose] public section

noncomputable section

namespace Cert.Ffn

open Idealize.ShloMosaic Idealize.ShloMosaic.TcCoe Idealize.SL.Sem

/-- The floating-point program runs to the end and leaves its arguments as they were. -/
theorem quiescent_kernel : Cert.quiescent_Kernel2 := fun m ρ _ => Cert.Kernel2.Gen.frame m ρ

/-- So does its idealization. -/
theorem quiescent_ideal : Cert.quiescent_Kernel2Ideal := fun m ρ _ => Cert.Kernel2Ideal.Gen.frame m ρ

/-- And the reference. -/
theorem quiescent_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- Kernel and reference leave the same array, for every argument. -/
theorem same_result : Cert.algebraic_Kernel2Ideal_Reference2Ideal := by
  pair_intro
  · run_from Cert.Kernel2Ideal.Value.run_blocks m g
  · refine (θ_run Cert.Reference2Ideal.defs _ _).mono (fun r h c => ⟨(h c).1.trans ?_, (h c).2⟩) (Cert.Reference2Ideal.Value.run m' g')
    have key : Cert.Reference2Ideal.Value.res_main_v53 m' c = _ := res_eq m' c
    obtain ⟨h0, h1, h2, h3, h4, h5, h6, h7, h8, h9, h10, h11, h12⟩ := hagree c
    rw [key, h0, h1, h2, h3, h4, h5, h6, h7, h8, h9, h10, h11, h12]
    exact (final m c).symm

end Cert.Ffn

end
-- ==== Proof.FfnSampleRef.lean ====
/- The reference of the merge and feed-forward call on the sample, cut into its stages. -/
module

public import proofs.«01_k».proof.Proof.Gen.Reference3Ideal.Run
public import Idealize.ShloMosaic.PureOps.Ideal

@[expose] public section

set_option maxRecDepth 16384

noncomputable section

namespace Cert.FfnSample

open Idealize.ShloMosaic Idealize.ShloMosaic.TcCoe Idealize.SL.Sem
open Cert.Reference3Ideal Cert.Reference3Ideal.Gen

/-- `sigmoid` as the host prints it: one over one plus the exponential of the negated argument. -/
def refSig (z : FVec Ideal S32x8x1024 .f32) : FVec Ideal S32x8x1024 .f32 :=
  Host.divf (broadcastInDim S32x8x1024 ![] bcast_S_S32x8x1024 (constant S_ .f32 0x3F800000#32))
    (addf (broadcastInDim S32x8x1024 ![] bcast_S_S32x8x1024 (constant S_ .f32 0x3F800000#32)) (Host.exp (Host.negf z)))

/-- The merge of the two branches: `sigmoid(ga) * (attn @ w_o_attn) + sigmoid(gb) * (lru @ w_o_lru)`. -/
def refMerged (A L : FVec Ideal S32x8x1024 .bf16) (Ga Gb : FVec Ideal S32x8x1024 .f32)
    (Wa Wl : FVec Ideal S1024x1024 .f32) : FVec Ideal S32x8x1024 .f32 :=
  addf (mulf (refSig Ga) (Host.dotGeneral dot_S32x8x1024_S1024x1024_S32x8x1024_2_0_01_1_n_n none (extf .f32 A bitsLt_bf16_f32) Wa))
    (mulf (refSig Gb) (Host.dotGeneral dot_S32x8x1024_S1024x1024_S32x8x1024_2_0_01_1_n_n none (extf .f32 L bitsLt_bf16_f32) Wl))

/-- The residual stream after the merge: `x + merged @ w_out`. -/
def refH (X M : FVec Ideal S32x8x1024 .f32) (Wo : FVec Ideal S1024x1024 .f32) : FVec Ideal S32x8x1024 .f32 :=
  addf X (Host.dotGeneral dot_S32x8x1024_S1024x1024_S32x8x1024_2_0_01_1_n_n none M Wo)

/-- `rms_norm`. -/
def refNorm (H : FVec Ideal S32x8x1024 .f32) (G : FVec Ideal S1024 .f32) : FVec Ideal S32x8x1024 .f32 :=
  mulf (mulf H (broadcastInDim S32x8x1024 ![0, 1, 2] bcast_S32x8x1_S32x8x1024_0_1_2
      (Host.rsqrt (addf (Host.divf (broadcastInDim S32x8x1 ![0, 1] bcast_S32x8_S32x8x1_0_1
          (Host.reduceAdd (mulf H H) (constant S_ .f32 0x00000000#32) reducesTo_S32x8x1024_S32x8_d2 h_S_))
        (broadcastInDim S32x8x1 ![] bcast_S_S32x8x1 (constant S_ .f32 0x44800000#32)))
        (broadcastInDim S32x8x1 ![] bcast_S_S32x8x1 (constant S_ .f32 0x358637BD#32))))))
    (broadcastInDim S32x8x1024 ![0, 1, 2] bcast_S1x1x1024_S32x8x1024_0_1_2 (broadcastInDim S1x1x1024 ![2] bcast_S1024_S1x1x1024_2 G))

/-- One of the two widening products of the feed-forward network. -/
def refUp (Hn : FVec Ideal S32x8x1024 .f32) (W : FVec Ideal S1024x2816 .f32) : FVec Ideal S32x8x2816 .f32 :=
  Host.dotGeneral dot_S32x8x1024_S1024x2816_S32x8x2816_2_0_01_1_n_n none Hn W

/-- The gated activation: `silu(g) * u`. -/
def refAct (P Q : FVec Ideal S32x8x2816 .f32) : FVec Ideal S32x8x2816 .f32 :=
  mulf (mulf P (Host.divf (broadcastInDim S32x8x2816 ![] bcast_S_S32x8x2816 (constant S_ .f32 0x3F800000#32))
    (addf (broadcastInDim S32x8x2816 ![] bcast_S_S32x8x2816 (constant S_ .f32 0x3F800000#32)) (Host.exp (Host.negf P))))) Q

/-- The layer's output before its last norm: `h + act @ w_fd`. -/
def refY (H : FVec Ideal S32x8x1024 .f32) (T : FVec Ideal S32x8x2816 .f32) (Wd : FVec Ideal S2816x1024 .f32) :
    FVec Ideal S32x8x1024 .f32 :=
  addf H (Host.dotGeneral dot_S32x8x2816_S2816x1024_S32x8x1024_2_0_01_1_n_n none T Wd)

/-- The whole reference as a composition of its stages, before the last change of shape. -/
def refAll (X : FVec Ideal S32x8x1024 .f32) (A L : FVec Ideal S32x8x1024 .bf16) (Ga Gb : FVec Ideal S32x8x1024 .f32)
    (Wa Wl Wo : FVec Ideal S1024x1024 .f32) (G : FVec Ideal S1024 .f32) (Wg Wu : FVec Ideal S1024x2816 .f32)
    (Wd : FVec Ideal S2816x1024 .f32) (Gf : FVec Ideal S1024 .f32) : FVec Ideal S32x8x1024 .f32 :=
  refNorm (refY (refH X (refMerged A L Ga Gb Wa Wl) Wo)
    (refAct (refUp (refNorm (refH X (refMerged A L Ga Gb Wa Wl) Wo) G) Wg)
      (refUp (refNorm (refH X (refMerged A L Ga Gb Wa Wl) Wo) G) Wu)) Wd) Gf

set_option maxHeartbeats 1600000 in
/-- The reference's result is that composition, its rows laid out one after the other. -/
theorem res_eq (m : (ℓ : Loc nD τ sig) → Buf (Elt Ideal) ℓ) (c : Dev nD) :
    Cert.Reference3Ideal.Value.res_out0 m c
      = shapeCast S256x1024 (refAll (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12))) shapeCasts_S32x8x1024_S256x1024 := by
  unfold Cert.Reference3Ideal.Value.res_out0 Cert.Reference3Ideal.Value.res_main_v53 refAll refY refAct refUp refNorm refH refMerged refSig
  rfl

end Cert.FfnSample

end
-- ==== Proof.FfnSampleRow.lean ====
/- One row of the merge and feed-forward block of the sample: what the kernel's body computes on it is what the reference computes on it. -/
module

public import proofs.«01_k».proof.Proof.FfnSampleRef
public import proofs.«01_k».proof.Proof.Gen.Kernel3Ideal.Skeleton
public import Idealize.ShloMosaic.Lib.Pointwise

@[expose] public section

set_option maxRecDepth 16384

noncomputable section

namespace Cert.FfnSample

open Idealize.ShloMosaic Idealize.ShloMosaic.TcCoe Idealize.SL.Sem
open Cert.Reference3Ideal Cert.Reference3Ideal.Gen

/-- The residual stream after the merge, one entry of it. -/
theorem h_at (x : FVec Ideal Cert.Kernel3Ideal.S256x1024 .f32) (a l : FVec Ideal Cert.Kernel3Ideal.S256x1024 .bf16)
    (ga gb : FVec Ideal Cert.Kernel3Ideal.S256x1024 .f32) (wa wl wo : FVec Ideal Cert.Kernel3Ideal.S1024x1024 .bf16)
    (X : FVec Ideal S32x8x1024 .f32) (A L : FVec Ideal S32x8x1024 .bf16) (Ga Gb : FVec Ideal S32x8x1024 .f32)
    (Wa Wl Wo : FVec Ideal S1024x1024 .f32) (r : Fin 256) (b : Fin 32) (s : Fin 8)
    (hx : ∀ k : Fin 1024, x (ix2 r k) = X (ix3 b s k)) (ha : ∀ k : Fin 1024, a (ix2 r k) = A (ix3 b s k))
    (hl : ∀ k : Fin 1024, l (ix2 r k) = L (ix3 b s k)) (hga : ∀ k : Fin 1024, ga (ix2 r k) = Ga (ix3 b s k))
    (hgb : ∀ k : Fin 1024, gb (ix2 r k) = Gb (ix3 b s k))
    (hwa : ∀ k j : Fin 1024, wa (ix2 k j) = Wa (ix2 k j)) (hwl : ∀ k j : Fin 1024, wl (ix2 k j) = Wl (ix2 k j))
    (hwo : ∀ k j : Fin 1024, wo (ix2 k j) = Wo (ix2 k j)) (j : Fin 1024) :
    Cert.Kernel3Ideal.Gen.k0_pay2 ga a wa gb l wl x wo (ix2 r j) = refH X (refMerged A L Ga Gb Wa Wl) Wo (ix3 b s j) := by
  pointwise [Cert.Kernel3Ideal.Gen.k0_pay2, refH, refMerged, refSig]
  simp only [hx, ha, hl, hga, hgb, hwa, hwl, hwo, Ideal.logistic]

/-- The normalised row before its gain, times the gain. -/
theorem norm_at (x : FVec Ideal Cert.Kernel3Ideal.S256x1024 .f32) (a l : FVec Ideal Cert.Kernel3Ideal.S256x1024 .bf16)
    (ga gb : FVec Ideal Cert.Kernel3Ideal.S256x1024 .f32) (wa wl wo : FVec Ideal Cert.Kernel3Ideal.S1024x1024 .bf16)
    (g : FVec Ideal Cert.Kernel3Ideal.S1x1024 .f32) (H : FVec Ideal S32x8x1024 .f32) (G : FVec Ideal S1024 .f32)
    (r : Fin 256) (b : Fin 32) (s : Fin 8)
    (hH : ∀ k : Fin 1024, Cert.Kernel3Ideal.Gen.k0_pay2 (F := Ideal) ga a wa gb l wl x wo (ix2 r k) = H (ix3 b s k))
    (hg : ∀ k : Fin 1024, g (ix2 0 k) = G (ix1 k)) (j : Fin 1024) :
    Cert.Kernel3Ideal.Gen.k0_pay3 (F := Ideal) ga a wa gb l wl x wo (ix2 r j) * g (ix2 0 j) = refNorm H G (ix3 b s j) := by
  unfold Cert.Kernel3Ideal.Gen.k0_pay3
  generalize Cert.Kernel3Ideal.Gen.k0_pay2 (F := Ideal) ga a wa gb l wl x wo = v at hH ⊢
  pointwise [refNorm]
  simp only [hH, hg]

/-- The feed-forward network and the last norm, one entry, from the residual row and its normalised row. -/
theorem out_at (v u : FVec Ideal Cert.Kernel3Ideal.S256x1024 .f32) (g gf : FVec Ideal Cert.Kernel3Ideal.S1x1024 .f32)
    (wg wu : FVec Ideal Cert.Kernel3Ideal.S1024x2816 .bf16) (wd : FVec Ideal Cert.Kernel3Ideal.S2816x1024 .bf16)
    (H N : FVec Ideal S32x8x1024 .f32) (Wg Wu : FVec Ideal S1024x2816 .f32) (Wd : FVec Ideal S2816x1024 .f32)
    (Gf : FVec Ideal S1024 .f32) (r : Fin 256) (b : Fin 32) (s : Fin 8)
    (hH : ∀ k : Fin 1024, v (ix2 r k) = H (ix3 b s k))
    (hN : ∀ k : Fin 1024, u (ix2 r k) * g (ix2 0 k) = N (ix3 b s k))
    (hwg : ∀ (k : Fin 1024) (j : Fin 2816), wg (ix2 k j) = Wg (ix2 k j))
    (hwu : ∀ (k : Fin 1024) (j : Fin 2816), wu (ix2 k j) = Wu (ix2 k j))
    (hwd : ∀ (k : Fin 2816) (j : Fin 1024), wd (ix2 k j) = Wd (ix2 k j))
    (hgf : ∀ k : Fin 1024, gf (ix2 0 k) = Gf (ix1 k)) (j : Fin 1024) :
    Cert.Kernel3Ideal.Gen.k0_pay1 (F := Ideal) v u g wg wu wd gf (ix2 r j)
      = refNorm (refY H (refAct (refUp N Wg) (refUp N Wu)) Wd) Gf (ix3 b s j) := by
  pointwise [Cert.Kernel3Ideal.Gen.k0_pay1, refNorm, refY, refAct, refUp]
  simp only [hH, hN, hwg, hwu, hwd, hgf, Ideal.logistic]

end Cert.FfnSample

end
-- ==== Proof.FfnSample.lean ====
/- The merge and feed-forward call on the sample: the array it leaves is the reference's, for every argument. -/
module

public import proofs.«01_k».proof.Proof.FfnSampleRow
public import proofs.«01_k».proof.Proof.Gen.Kernel3Ideal.Value
public import Idealize.ShloMosaic.Lib.Pipeline.ValueKit
public import Idealize.ShloMosaic.Lib.Claim

@[expose] public section

set_option maxRecDepth 16384

noncomputable section

namespace Cert.FfnSample

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- Where each window's block lies at a grid point: a band of rows, or the whole of a weight. -/
theorem idx : ∀ t : Fin cfg0.N, win0_0.index t = ![t.val, 0] ∧ win0_1.index t = ![t.val, 0] ∧ win0_2.index t = ![t.val, 0]
      ∧ win0_3.index t = ![t.val, 0] ∧ win0_4.index t = ![t.val, 0] ∧ win0_5.index t = ![0, 0] ∧ win0_6.index t = ![0, 0]
      ∧ win0_7.index t = ![0, 0] ∧ win0_8.index t = ![0, 0] ∧ win0_9.index t = ![0, 0] ∧ win0_10.index t = ![0, 0]
      ∧ win0_11.index t = ![0, 0] ∧ win0_12.index t = ![0, 0] ∧ win0_13.index t = ![t.val, 0] :=
  (by decide +kernel : ∀ t : Fin grid0.N, _)

/-- The reference over this program's own argument arrays. -/
abbrev target (c : Dev nD) : FVec Ideal Cert.Reference3Ideal.S32x8x1024 .f32 :=
  refAll (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12))

/-- The batch of the row `r` of grid point `t`. -/
abbrev bat (t : Fin cfg0.N) (r : Fin 256) : Fin 32 := ⟨(t.val * 256 + r.val) / 8, by have : t.val < 1 := t.isLt; omega⟩

/-- Its place in the sequence. -/
abbrev pos (t : Fin cfg0.N) (r : Fin 256) : Fin 8 := ⟨(t.val * 256 + r.val) % 8, by omega⟩

/-- The block of the x rows. -/
theorem row0 (c : Dev nD) (t : Fin cfg0.N) (r : Fin 256) (k : Fin 1024) :
    (show FVec Ideal S256x1024 .f32 from iblk m c 0 t) (ix2 r k)
      = (m ((c : Thread nD τ).loc main_arg0) : FVec Ideal S32x8x1024 .f32) (ix3 (bat t r) (pos t r) k) := by
  blk_point [iblk, V, idx t]

/-- The block of the attention rows. -/
theorem row1 (c : Dev nD) (t : Fin cfg0.N) (r : Fin 256) (k : Fin 1024) :
    (show FVec Ideal S256x1024 .bf16 from iblk m c 1 t) (ix2 r k)
      = (m ((c : Thread nD τ).loc main_arg1) : FVec Ideal S32x8x1024 .bf16) (ix3 (bat t r) (pos t r) k) := by
  blk_point [iblk, V, idx t]

/-- The block of the recurrence rows. -/
theorem row2 (c : Dev nD) (t : Fin cfg0.N) (r : Fin 256) (k : Fin 1024) :
    (show FVec Ideal S256x1024 .bf16 from iblk m c 2 t) (ix2 r k)
      = (m ((c : Thread nD τ).loc main_arg2) : FVec Ideal S32x8x1024 .bf16) (ix3 (bat t r) (pos t r) k) := by
  blk_point [iblk, V, idx t]

/-- The block of the first gate rows. -/
theorem row3 (c : Dev nD) (t : Fin cfg0.N) (r : Fin 256) (k : Fin 1024) :
    (show FVec Ideal S256x1024 .f32 from iblk m c 3 t) (ix2 r k)
      = (m ((c : Thread nD τ).loc main_arg3) : FVec Ideal S32x8x1024 .f32) (ix3 (bat t r) (pos t r) k) := by
  blk_point [iblk, V, idx t]

/-- The block of the second gate rows. -/
theorem row4 (c : Dev nD) (t : Fin cfg0.N) (r : Fin 256) (k : Fin 1024) :
    (show FVec Ideal S256x1024 .f32 from iblk m c 4 t) (ix2 r k)
      = (m ((c : Thread nD τ).loc main_arg4) : FVec Ideal S32x8x1024 .f32) (ix3 (bat t r) (pos t r) k) := by
  blk_point [iblk, V, idx t]

/-- A weight is staged whole. -/
theorem weight5 (c : Dev nD) (t : Fin cfg0.N) (k : Fin 1024) (j : Fin 1024) :
    (show FVec Ideal S1024x1024 .bf16 from iblk m c 5 t) (ix2 k j)
      = (m ((c : Thread nD τ).loc main_arg5) : FVec Ideal S1024x1024 .f32) (ix2 k j) := by
  blk_point [iblk, V, idx t]

/-- A weight is staged whole. -/
theorem weight6 (c : Dev nD) (t : Fin cfg0.N) (k : Fin 1024) (j : Fin 1024) :
    (show FVec Ideal S1024x1024 .bf16 from iblk m c 6 t) (ix2 k j)
      = (m ((c : Thread nD τ).loc main_arg6) : FVec Ideal S1024x1024 .f32) (ix2 k j) := by
  blk_point [iblk, V, idx t]

/-- A weight is staged whole. -/
theorem weight7 (c : Dev nD) (t : Fin cfg0.N) (k : Fin 1024) (j : Fin 1024) :
    (show FVec Ideal S1024x1024 .bf16 from iblk m c 7 t) (ix2 k j)
      = (m ((c : Thread nD τ).loc main_arg7) : FVec Ideal S1024x1024 .f32) (ix2 k j) := by
  blk_point [iblk, V, idx t]

/-- A weight is staged whole. -/
theorem weight9 (c : Dev nD) (t : Fin cfg0.N) (k : Fin 1024) (j : Fin 2816) :
    (show FVec Ideal S1024x2816 .bf16 from iblk m c 9 t) (ix2 k j)
      = (m ((c : Thread nD τ).loc main_arg9) : FVec Ideal S1024x2816 .f32) (ix2 k j) := by
  blk_point [iblk, V, idx t]

/-- A weight is staged whole. -/
theorem weight10 (c : Dev nD) (t : Fin cfg0.N) (k : Fin 1024) (j : Fin 2816) :
    (show FVec Ideal S1024x2816 .bf16 from iblk m c 10 t) (ix2 k j)
      = (m ((c : Thread nD τ).loc main_arg10) : FVec Ideal S1024x2816 .f32) (ix2 k j) := by
  blk_point [iblk, V, idx t]

/-- A weight is staged whole. -/
theorem weight11 (c : Dev nD) (t : Fin cfg0.N) (k : Fin 2816) (j : Fin 1024) :
    (show FVec Ideal S2816x1024 .bf16 from iblk m c 11 t) (ix2 k j)
      = (m ((c : Thread nD τ).loc main_arg11) : FVec Ideal S2816x1024 .f32) (ix2 k j) := by
  blk_point [iblk, V, idx t]

/-- A gain is staged whole. -/
theorem gain8 (c : Dev nD) (t : Fin cfg0.N) (k : Fin 1024) :
    (show FVec Ideal S1x1024 .f32 from iblk m c 8 t) (ix2 0 k)
      = (m ((c : Thread nD τ).loc main_arg8) : FVec Ideal S1024 .f32) (ix1 k) := by
  blk_point [iblk, V, idx t]

/-- A gain is staged whole. -/
theorem gain12 (c : Dev nD) (t : Fin cfg0.N) (k : Fin 1024) :
    (show FVec Ideal S1x1024 .f32 from iblk m c 12 t) (ix2 0 k)
      = (m ((c : Thread nD τ).loc main_arg12) : FVec Ideal S1024 .f32) (ix1 k) := by
  blk_point [iblk, V, idx t]

/-- The array after the run is the reference's result, laid out row after row. -/
theorem final (c : Dev nD) : (dats m 0 c).arrAt 13 cfg0.N
    = shapeCast Cert.Reference3Ideal.S256x1024 (target m c) Cert.Reference3Ideal.Gen.shapeCasts_S32x8x1024_S256x1024 := by
  refine (dats m 0 c).arrAt_eq_of_covers 13 _ (by decide +kernel) fun t _ y => ?_
  blk_simp
  rw [after0_13]; frame_out
  obtain ⟨r, j, rfl⟩ : ∃ (r : Fin 256) (j : Fin 1024), y = ix2 r j := ⟨y 0, y 1, eq_ix2 y⟩
  refine (out_at _ _ _ _ _ _ _ _ _ _ _ _ _ r (bat t r) (pos t r)
    (h_at _ _ _ _ _ _ _ _ _ _ _ _ _ _ _ _ r (bat t r) (pos t r) (row0 m c t r) (row1 m c t r) (row2 m c t r) (row3 m c t r)
      (row4 m c t r) (weight5 m c t) (weight6 m c t) (weight7 m c t))
    (norm_at _ _ _ _ _ _ _ _ _ _ _ r (bat t r) (pos t r)
      (h_at _ _ _ _ _ _ _ _ _ _ _ _ _ _ _ _ r (bat t r) (pos t r) (row0 m c t r) (row1 m c t r) (row2 m c t r) (row3 m c t r)
        (row4 m c t r) (weight5 m c t) (weight6 m c t) (weight7 m c t)) (gain8 m c t))
    (weight9 m c t) (weight10 m c t) (weight11 m c t) (gain12 m c t) j).trans ?_
  show target m c (ix3 (bat t r) (pos t r) j) = _
  generalize target m c = T
  pointwise
  blk_ext [idx t]

end Cert.FfnSample

end
-- ==== Proof.FfnSampleClaim.lean ====
/- The claims of the merge and feed-forward call on the sample. -/
module

public import proofs.«01_k».proof.Defs
public import proofs.«01_k».proof.Proof.FfnSample
public import proofs.«01_k».proof.Proof.Gen.Kernel3.Frame

@[expose] public section

noncomputable section

namespace Cert.FfnSample

open Idealize.ShloMosaic Idealize.ShloMosaic.TcCoe Idealize.SL.Sem

/-- The floating-point program runs to the end and leaves its arguments as they were. -/
theorem quiescent_kernel : Cert.quiescent_Kernel3 := fun m ρ _ => Cert.Kernel3.Gen.frame m ρ

/-- So does its idealization. -/
theorem quiescent_ideal : Cert.quiescent_Kernel3Ideal := fun m ρ _ => Cert.Kernel3Ideal.Gen.frame m ρ

/-- And the reference. -/
theorem quiescent_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- Kernel and reference leave the same array, for every argument. -/
theorem same_result : Cert.algebraic_Kernel3Ideal_Reference3Ideal := by
  pair_intro
  · run_from Cert.Kernel3Ideal.Value.run_blocks m g
  · refine (θ_run Cert.Reference3Ideal.defs _ _).mono (fun r h c => ⟨(h c).1.trans ?_, (h c).2⟩) (Cert.Reference3Ideal.Value.run m' g')
    have key : Cert.Reference3Ideal.Value.res_main_v53 m' c = _ := res_eq m' c
    obtain ⟨h0, h1, h2, h3, h4, h5, h6, h7, h8, h9, h10, h11, h12⟩ := hagree c
    rw [key, h0, h1, h2, h3, h4, h5, h6, h7, h8, h9, h10, h11, h12]
    exact (final m c).symm

end Cert.FfnSample

end
-- ==== Proof.ProjRef.lean ====
/- The reference of the call that starts the layer (on the prompt), cut into its stages. -/
module

public import proofs.«01_k».proof.Proof.Gen.Reference4Ideal.Run
public import Idealize.ShloMosaic.PureOps.Ideal

@[expose] public section

set_option maxRecDepth 16384

noncomputable section

namespace Cert.Proj

open Idealize.ShloMosaic Idealize.ShloMosaic.TcCoe Idealize.SL.Sem
open Cert.Reference4Ideal Cert.Reference4Ideal.Gen

/-- `rms_norm`. -/
def refNorm (X : FVec Ideal S4x4096x1024 .f32) (G : FVec Ideal S1024 .f32) : FVec Ideal S4x4096x1024 .f32 :=
  mulf (mulf X (broadcastInDim S4x4096x1024 ![0, 1, 2] bcast_S4x4096x1_S4x4096x1024_0_1_2
      (Host.rsqrt (addf (Host.divf (broadcastInDim S4x4096x1 ![0, 1] bcast_S4x4096_S4x4096x1_0_1
          (Host.reduceAdd (mulf X X) (constant S_ .f32 0x00000000#32) reducesTo_S4x4096x1024_S4x4096_d2 h_S_))
        (broadcastInDim S4x4096x1 ![] bcast_S_S4x4096x1 (constant S_ .f32 0x44800000#32)))
        (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 G))

/-- The one wide product that all the parts are columns of. -/
def refZ (X : FVec Ideal S4x4096x1024 .f32) (G : FVec Ideal S1024 .f32) (W : FVec Ideal S1024x5192 .f32) :
    FVec Ideal S4x4096x5192 .f32 :=
  Host.dotGeneral dot_S4x4096x1024_S1024x5192_S4x4096x5192_2_0_01_1_n_n none (refNorm X G) W

/-- The queries, scaled. -/
def refQ (Z : FVec Ideal S4x4096x5192 .f32) : FVec Ideal S4x4096x1024 .bf16 :=
  truncf .bf16 (mulf (extractStridedSlice S4x4096x1024 ![0, 0, 0] Z slices_S4x4096x5192_S4x4096x1024_0_0_0)
    (broadcastInDim S4x4096x1024 ![] bcast_S_S4x4096x1024 (constant S_ .f32 0x3E0293EE#32))) bitsLt_bf16_f32

/-- The keys. -/
def refK (Z : FVec Ideal S4x4096x5192 .f32) : FVec Ideal S4x4096x256 .f32 :=
  extractStridedSlice S4x4096x256 ![0, 0, 1024] Z slices_S4x4096x5192_S4x4096x256_0_0_1024

/-- The values. -/
def refV (Z : FVec Ideal S4x4096x5192 .f32) : FVec Ideal S4x4096x256 .f32 :=
  extractStridedSlice S4x4096x256 ![0, 0, 1280] Z slices_S4x4096x5192_S4x4096x256_0_0_1280

/-- The indexer's queries. -/
def refQi (Z : FVec Ideal S4x4096x5192 .f32) : FVec Ideal S4x4096x512 .bf16 :=
  truncf .bf16 (extractStridedSlice S4x4096x512 ![0, 0, 1536] Z slices_S4x4096x5192_S4x4096x512_0_0_1536) bitsLt_bf16_f32

/-- The indexer's key. -/
def refKi (Z : FVec Ideal S4x4096x5192 .f32) : FVec Ideal S4x4096x64 .f32 :=
  extractStridedSlice S4x4096x64 ![0, 0, 2048] Z slices_S4x4096x5192_S4x4096x64_0_0_2048

/-- The zeros that fill a row of the indexer's keys. -/
def refZero : FVec Ideal S4x4096x64 .bf16 :=
  broadcastInDim S4x4096x64 ![] bcast_S_S4x4096x64 (constant S_ .bf16 0x0000#16)

/-- The indexer's key in the first half of a row. -/
def refKie (Z : FVec Ideal S4x4096x5192 .f32) : FVec Ideal S4x4096x128 .bf16 :=
  concatenate S4x4096x128 2 [⟨S4x4096x64, truncf .bf16 (refKi Z) bitsLt_bf16_f32⟩, ⟨S4x4096x64, refZero⟩]
    concatenates_S4x4096x64_S4x4096x64_S4x4096x128_d2

/-- The indexer's key in the second half of a row. -/
def refKio (Z : FVec Ideal S4x4096x5192 .f32) : FVec Ideal S4x4096x128 .bf16 :=
  concatenate S4x4096x128 2 [⟨S4x4096x64, refZero⟩, ⟨S4x4096x64, truncf .bf16 (refKi Z) bitsLt_bf16_f32⟩]
    concatenates_S4x4096x64_S4x4096x64_S4x4096x128_d2

/-- The indexer's head weights, scaled. -/
def refWi (Z : FVec Ideal S4x4096x5192 .f32) : FVec Ideal S4x4096x8 .f32 :=
  mulf (extractStridedSlice S4x4096x8 ![0, 0, 2112] Z slices_S4x4096x5192_S4x4096x8_0_0_2112)
    (broadcastInDim S4x4096x8 ![] bcast_S_S4x4096x8 (constant S_ .f32 0x3D3504F3#32))

/-- The indexer's key, its head weights, and zeros to the end of the row. -/
def refKw (Z : FVec Ideal S4x4096x5192 .f32) : FVec Ideal S4x4096x128 .f32 :=
  concatenate S4x4096x128 2 [⟨S4x4096x64, refKi Z⟩, ⟨S4x4096x8, refWi Z⟩,
    ⟨S4x4096x56, broadcastInDim S4x4096x56 ![] bcast_S_S4x4096x56 (constant S_ .f32 0x00000000#32)⟩]
    concatenates_S4x4096x64_S4x4096x8_S4x4096x56_S4x4096x128_d2

/-- The input of the linear recurrence. -/
def refU (Z : FVec Ideal S4x4096x5192 .f32) : FVec Ideal S4x4096x1024 .f32 :=
  extractStridedSlice S4x4096x1024 ![0, 0, 2120] Z slices_S4x4096x5192_S4x4096x1024_0_0_2120

/-- The gate of the attention branch. -/
def refGa (Z : FVec Ideal S4x4096x5192 .f32) : FVec Ideal S4x4096x1024 .f32 :=
  extractStridedSlice S4x4096x1024 ![0, 0, 3144] Z slices_S4x4096x5192_S4x4096x1024_0_0_3144

/-- The gate of the recurrence branch. -/
def refGb (Z : FVec Ideal S4x4096x5192 .f32) : FVec Ideal S4x4096x1024 .f32 :=
  extractStridedSlice S4x4096x1024 ![0, 0, 4168] Z slices_S4x4096x5192_S4x4096x1024_0_0_4168

/-- The wide product over the program's own arguments. -/
abbrev refZm (m : (ℓ : Loc nD τ sig) → Buf (Elt Ideal) ℓ) (c : Dev nD) : FVec Ideal S4x4096x5192 .f32 :=
  refZ (m ((c.tc : Thread nD τ).loc main_arg0)) (m ((c.tc : Thread nD τ).loc main_arg1)) (m ((c.tc : Thread nD τ).loc main_arg2))

set_option maxHeartbeats 3200000 in
/-- The reference's run with each result as its stage, the rows laid out one after the other. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = shapeCast S16384x1024 (refQ (refZm m c)) shapeCasts_S4x4096x1024_S16384x1024
      ∧ r.2.mem ((c.tc : Thread nD τ).loc main_v32) = shapeCast S32768x128 (refK (refZm m c)) shapeCasts_S4x4096x256_S32768x128
      ∧ r.2.mem ((c.tc : Thread nD τ).loc main_v33) = shapeCast S32768x128 (refV (refZm m c)) shapeCasts_S4x4096x256_S32768x128
      ∧ r.2.mem ((c.tc : Thread nD τ).loc main_v35)
          = shapeCast S16384x256 (truncf .bf16 (refK (refZm m c)) bitsLt_bf16_f32) shapeCasts_S4x4096x256_S16384x256
      ∧ r.2.mem ((c.tc : Thread nD τ).loc main_v37)
          = shapeCast S16384x256 (truncf .bf16 (refV (refZm m c)) bitsLt_bf16_f32) shapeCasts_S4x4096x256_S16384x256
      ∧ r.2.mem ((c.tc : Thread nD τ).loc main_v39) = shapeCast S16384x512 (refQi (refZm m c)) shapeCasts_S4x4096x512_S16384x512
      ∧ r.2.mem ((c.tc : Thread nD τ).loc main_v41) = shapeCast S16384x128 (refKie (refZm m c)) shapeCasts_S4x4096x128_S16384x128
      ∧ r.2.mem ((c.tc : Thread nD τ).loc main_v43) = shapeCast S16384x128 (refKio (refZm m c)) shapeCasts_S4x4096x128_S16384x128
      ∧ r.2.mem ((c.tc : Thread nD τ).loc main_v45) = shapeCast S16384x128 (refKw (refZm m c)) shapeCasts_S4x4096x128_S16384x128
      ∧ r.2.mem ((c.tc : Thread nD τ).loc main_v46) = shapeCast S16384x1024 (refU (refZm m c)) shapeCasts_S4x4096x1024_S16384x1024
      ∧ r.2.mem ((c.tc : Thread nD τ).loc main_v47) = shapeCast S16384x1024 (refGa (refZm m c)) shapeCasts_S4x4096x1024_S16384x1024
      ∧ r.2.mem ((c.tc : Thread nD τ).loc main_v48) = shapeCast S16384x1024 (refGb (refZm m c)) shapeCasts_S4x4096x1024_S16384x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold refZm refQ refQi refKie refKio refKw refWi refZero refKi refK refV refU refGa refGb refZ refNorm
  exact Cert.Reference4Ideal.Value.run (F := Ideal) m ρ

end Cert.Proj

end
-- ==== Proof.ProjRow.lean ====
/- One row of the call that starts the layer (on the prompt): what the kernel's body computes on it is what the reference computes on it. -/
module

public import proofs.«01_k».proof.Proof.ProjRef
public import proofs.«01_k».proof.Proof.Gen.Kernel4Ideal.Skeleton
public import Idealize.ShloMosaic.Lib.Pointwise

@[expose] public section

set_option maxRecDepth 16384

noncomputable section

namespace Cert.Proj

open Idealize.ShloMosaic Idealize.ShloMosaic.TcCoe Idealize.SL.Sem
open Cert.Reference4Ideal Cert.Reference4Ideal.Gen

/-- The normalised row. -/
theorem norm_at (x : FVec Ideal Cert.Kernel4Ideal.S512x1024 .f32) (g : FVec Ideal Cert.Kernel4Ideal.S1x1024 .f32)
    (X : FVec Ideal S4x4096x1024 .f32) (G : FVec Ideal S1024 .f32) (r : Fin 512) (b : Fin 4) (s : Fin 4096)
    (hx : ∀ k : Fin 1024, x (ix2 r k) = X (ix3 b s k)) (hg : ∀ k : Fin 1024, g (ix2 0 k) = G (ix1 k)) (k : Fin 1024) :
    Cert.Kernel4Ideal.Gen.k0_pay5 (F := Ideal) x g (ix2 r k) = refNorm X G (ix3 b s k) := by
  pointwise [Cert.Kernel4Ideal.Gen.k0_pay5, refNorm]
  simp only [hx, hg]

/-- One entry of the wide product. -/
theorem z_at (X : FVec Ideal S4x4096x1024 .f32) (G : FVec Ideal S1024 .f32) (W : FVec Ideal S1024x5192 .f32)
    (b : Fin 4) (s : Fin 4096) (j : Fin 5192) :
    refZ X G W (ix3 b s j) = ∑ k : Fin 1024, refNorm X G (ix3 b s k) * W (ix2 k j) := by
  pointwise [refZ]

variable (n : FVec Ideal Cert.Kernel4Ideal.S512x1024 .bf16) (X : FVec Ideal S4x4096x1024 .f32) (G : FVec Ideal S1024 .f32)
    (W : FVec Ideal S1024x5192 .f32) (r : Fin 512) (b : Fin 4) (s : Fin 4096)

/-- The queries. -/
theorem q_at (x : FVec Ideal Cert.Kernel4Ideal.S512x1024 .f32) (g : FVec Ideal Cert.Kernel4Ideal.S1x1024 .f32)
    (w : FVec Ideal Cert.Kernel4Ideal.S1024x1024 .bf16)
    (hN : ∀ k : Fin 1024, Cert.Kernel4Ideal.Gen.k0_pay5 (F := Ideal) x g (ix2 r k) = refNorm X G (ix3 b s k))
    (hw : ∀ k j : Fin 1024, w (ix2 k j) = W (ix2 k ⟨j.val, by omega⟩)) (j : Fin 1024) :
    Cert.Kernel4Ideal.Gen.k0_pay6 (F := Ideal) x g w (ix2 r j) = refQ (refZ X G W) (ix3 b s j) := by
  unfold Cert.Kernel4Ideal.Gen.k0_pay6
  generalize Cert.Kernel4Ideal.Gen.k0_pay5 (F := Ideal) x g = n at hN ⊢
  pointwise [refQ, z_at]
  simp only [hN, hw]

/-- The keys and values, side by side. -/
theorem kv_at (x : FVec Ideal Cert.Kernel4Ideal.S512x1024 .f32) (g : FVec Ideal Cert.Kernel4Ideal.S1x1024 .f32)
    (w : FVec Ideal Cert.Kernel4Ideal.S1024x512 .bf16)
    (hN : ∀ k : Fin 1024, Cert.Kernel4Ideal.Gen.k0_pay5 (F := Ideal) x g (ix2 r k) = refNorm X G (ix3 b s k))
    (hw : ∀ (k : Fin 1024) (j : Fin 512), w (ix2 k j) = W (ix2 k ⟨1024 + j.val, by omega⟩)) (j : Fin 512) :
    Cert.Kernel4Ideal.Gen.k0_pay7 (F := Ideal) x g w (ix2 r j) = refZ X G W (ix3 b s ⟨1024 + j.val, by omega⟩) := by
  unfold Cert.Kernel4Ideal.Gen.k0_pay7
  generalize Cert.Kernel4Ideal.Gen.k0_pay5 (F := Ideal) x g = n at hN ⊢
  pointwise [z_at]
  simp only [hN, hw]

/-- The indexer's queries. -/
theorem qi_at (w : FVec Ideal Cert.Kernel4Ideal.S1024x512 .bf16)
    (hN : ∀ k : Fin 1024, n (ix2 r k) = refNorm X G (ix3 b s k))
    (hw : ∀ (k : Fin 1024) (j : Fin 512), w (ix2 k j) = W (ix2 k ⟨1536 + j.val, by omega⟩)) (j : Fin 512) :
    Cert.Kernel4Ideal.Gen.k0_pay14 (F := Ideal) n w (ix2 r j) = refQi (refZ X G W) (ix3 b s j) := by
  pointwise [Cert.Kernel4Ideal.Gen.k0_pay14, refQi, z_at]
  simp only [hN, hw]

/-- The indexer's key in the first half of its row. -/
theorem kie_at (w : FVec Ideal Cert.Kernel4Ideal.S1024x128 .bf16)
    (hN : ∀ k : Fin 1024, n (ix2 r k) = refNorm X G (ix3 b s k))
    (hw : ∀ (k : Fin 1024) (j : Fin 128) (h : j.val < 64), w (ix2 k j) = W (ix2 k ⟨2048 + j.val, by omega⟩))
    (hz : ∀ (k : Fin 1024) (j : Fin 128), ¬ j.val < 64 → w (ix2 k j) = (0 : EReal)) (j : Fin 128) :
    Cert.Kernel4Ideal.Gen.k0_pay15 (F := Ideal) n w (ix2 r j) = refKie (refZ X G W) (ix3 b s j) := by
  by_cases h : j.val < 64
  · pointwise [Cert.Kernel4Ideal.Gen.k0_pay15, refKie, refKi, refZero, z_at, h]
    simp only [hN, hw _ _ h]
  · pointwise [Cert.Kernel4Ideal.Gen.k0_pay15, refKie, refKi, refZero, z_at, h]
    simp only [hN, hz _ _ h, mul_zero, Finset.sum_const_zero]

/-- The indexer's key in the second half of its row. -/
theorem kio_at (w : FVec Ideal Cert.Kernel4Ideal.S1024x128 .bf16)
    (hN : ∀ k : Fin 1024, n (ix2 r k) = refNorm X G (ix3 b s k))
    (hw : ∀ (k : Fin 1024) (j : Fin 128) (h : ¬ j.val < 64), w (ix2 k j) = W (ix2 k ⟨2048 + (j.val - 64), by omega⟩))
    (hz : ∀ (k : Fin 1024) (j : Fin 128), j.val < 64 → w (ix2 k j) = (0 : EReal)) (j : Fin 128) :
    Cert.Kernel4Ideal.Gen.k0_pay16 (F := Ideal) n w (ix2 r j) = refKio (refZ X G W) (ix3 b s j) := by
  by_cases h : j.val < 64
  · pointwise [Cert.Kernel4Ideal.Gen.k0_pay16, refKio, refKi, refZero, z_at, h]
    simp only [hN, hz _ _ h, mul_zero, Finset.sum_const_zero]
  · pointwise [Cert.Kernel4Ideal.Gen.k0_pay16, refKio, refKi, refZero, z_at, h]
    simp only [hN, hw _ _ h]

/-- Which lanes of a row are scaled: those from the 64th on. -/
theorem lane : ∀ j : Fin 128, IntOp.cmpi CmpIPredicate.sge (BitVec.ofNat 32 j.val) 64#32 = if j.val < 64 then 0#1 else 1#1 := by
  decide +kernel

/-- The indexer's key, its head weights, scaled, and zeros. -/
theorem kw_at (w : FVec Ideal Cert.Kernel4Ideal.S1024x128 .bf16)
    (hN : ∀ k : Fin 1024, n (ix2 r k) = refNorm X G (ix3 b s k))
    (hw : ∀ (k : Fin 1024) (j : Fin 128) (h : j.val < 72), w (ix2 k j) = W (ix2 k ⟨2048 + j.val, by omega⟩))
    (hz : ∀ (k : Fin 1024) (j : Fin 128), ¬ j.val < 72 → w (ix2 k j) = (0 : EReal)) (j : Fin 128) :
    Cert.Kernel4Ideal.Gen.k0_pay1 (F := Ideal) (Cert.Kernel4Ideal.Gen.k0_pay17 n w) Cert.Kernel4Ideal.Gen.k0_pay18 (ix2 r j)
      = refKw (refZ X G W) (ix3 b s j) := by
  by_cases h : j.val < 64
  · pointwise [Cert.Kernel4Ideal.Gen.k0_pay1, Cert.Kernel4Ideal.Gen.k0_pay17, Cert.Kernel4Ideal.Gen.k0_pay18, refKw, refKi, refWi, z_at, h]
    simp only [hN, hw _ _ (show j.val < 72 by omega), lane, h, if_true, Scalar.select]
    rfl
  · by_cases h' : j.val < 72
    · pointwise [Cert.Kernel4Ideal.Gen.k0_pay1, Cert.Kernel4Ideal.Gen.k0_pay17, Cert.Kernel4Ideal.Gen.k0_pay18, refKw, refKi, refWi, z_at, h, h']
      have e : (⟨2112 + (j.val - 64), by omega⟩ : Fin 5192) = ⟨2048 + j.val, by omega⟩ := Fin.ext (by show 2112 + (j.val - 64) = 2048 + j.val; omega)
      simp only [hN, hw _ _ h', lane, h, if_false, Scalar.select, show j.val - 64 < 8 by omega, dif_pos, e]
      rfl
    · pointwise [Cert.Kernel4Ideal.Gen.k0_pay1, Cert.Kernel4Ideal.Gen.k0_pay17, Cert.Kernel4Ideal.Gen.k0_pay18, refKw, refKi, refWi, z_at, h, h']
      simp only [hN, hz _ _ h', mul_zero, zero_mul, Finset.sum_const_zero, show ¬ j.val - 64 < 8 by omega, dif_neg, not_false_eq_true, Scalar.select, ite_self]

/-- The input of the linear recurrence. -/
theorem u_at (w : FVec Ideal Cert.Kernel4Ideal.S1024x1024 .bf16)
    (hN : ∀ k : Fin 1024, n (ix2 r k) = refNorm X G (ix3 b s k))
    (hw : ∀ k j : Fin 1024, w (ix2 k j) = W (ix2 k ⟨2120 + j.val, by omega⟩)) (j : Fin 1024) :
    Cert.Kernel4Ideal.Gen.k0_pay2 (F := Ideal) n w (ix2 r j) = refU (refZ X G W) (ix3 b s j) := by
  pointwise [Cert.Kernel4Ideal.Gen.k0_pay2, refU, z_at]
  simp only [hN, hw]

/-- The gate of the attention branch. -/
theorem ga_at (w : FVec Ideal Cert.Kernel4Ideal.S1024x1024 .bf16)
    (hN : ∀ k : Fin 1024, n (ix2 r k) = refNorm X G (ix3 b s k))
    (hw : ∀ k j : Fin 1024, w (ix2 k j) = W (ix2 k ⟨3144 + j.val, by omega⟩)) (j : Fin 1024) :
    Cert.Kernel4Ideal.Gen.k0_pay3 (F := Ideal) n w (ix2 r j) = refGa (refZ X G W) (ix3 b s j) := by
  pointwise [Cert.Kernel4Ideal.Gen.k0_pay3, refGa, z_at]
  simp only [hN, hw]

/-- The gate of the recurrence branch. -/
theorem gb_at (w : FVec Ideal Cert.Kernel4Ideal.S1024x1024 .bf16)
    (hN : ∀ k : Fin 1024, n (ix2 r k) = refNorm X G (ix3 b s k))
    (hw : ∀ k j : Fin 1024, w (ix2 k j) = W (ix2 k ⟨4168 + j.val, by omega⟩)) (j : Fin 1024) :
    Cert.Kernel4Ideal.Gen.k0_pay4 (F := Ideal) n w (ix2 r j) = refGb (refZ X G W) (ix3 b s j) := by
  pointwise [Cert.Kernel4Ideal.Gen.k0_pay4, refGb, z_at]
  simp only [hN, hw]

/-- The keys of head 0. -/
theorem k0_at {x : FVec Ideal Cert.Kernel4Ideal.S512x1024 .f32} {g : FVec Ideal Cert.Kernel4Ideal.S1x1024 .f32} {w : FVec Ideal Cert.Kernel4Ideal.S1024x512 .bf16} (Z : FVec Ideal S4x4096x5192 .f32) (r : Fin 512) (b : Fin 4) (s : Fin 4096)
    (hv : ∀ j : Fin 512, Cert.Kernel4Ideal.Gen.k0_pay7 (F := Ideal) x g w (ix2 r j) = Z (ix3 b s ⟨1024 + j.val, by omega⟩)) (j : Fin 128) :
    Cert.Kernel4Ideal.Gen.k0_pay8 (F := Ideal) x g w (ix2 r j) = refK Z (ix3 b s ⟨j.val, by omega⟩) := by
  unfold Cert.Kernel4Ideal.Gen.k0_pay8
  generalize Cert.Kernel4Ideal.Gen.k0_pay7 (F := Ideal) x g w = v at hv ⊢
  pointwise [refK]
  rw [hv]

/-- The keys of head 1. -/
theorem k1_at {x : FVec Ideal Cert.Kernel4Ideal.S512x1024 .f32} {g : FVec Ideal Cert.Kernel4Ideal.S1x1024 .f32} {w : FVec Ideal Cert.Kernel4Ideal.S1024x512 .bf16} (Z : FVec Ideal S4x4096x5192 .f32) (r : Fin 512) (b : Fin 4) (s : Fin 4096)
    (hv : ∀ j : Fin 512, Cert.Kernel4Ideal.Gen.k0_pay7 (F := Ideal) x g w (ix2 r j) = Z (ix3 b s ⟨1024 + j.val, by omega⟩)) (j : Fin 128) :
    Cert.Kernel4Ideal.Gen.k0_pay10 (F := Ideal) x g w (ix2 r j) = refK Z (ix3 b s ⟨128 + j.val, by omega⟩) := by
  unfold Cert.Kernel4Ideal.Gen.k0_pay10
  generalize Cert.Kernel4Ideal.Gen.k0_pay7 (F := Ideal) x g w = v at hv ⊢
  pointwise [refK]
  rw [hv]

/-- The values of head 0. -/
theorem v0_at {x : FVec Ideal Cert.Kernel4Ideal.S512x1024 .f32} {g : FVec Ideal Cert.Kernel4Ideal.S1x1024 .f32} {w : FVec Ideal Cert.Kernel4Ideal.S1024x512 .bf16} (Z : FVec Ideal S4x4096x5192 .f32) (r : Fin 512) (b : Fin 4) (s : Fin 4096)
    (hv : ∀ j : Fin 512, Cert.Kernel4Ideal.Gen.k0_pay7 (F := Ideal) x g w (ix2 r j) = Z (ix3 b s ⟨1024 + j.val, by omega⟩)) (j : Fin 128) :
    Cert.Kernel4Ideal.Gen.k0_pay9 (F := Ideal) x g w (ix2 r j) = refV Z (ix3 b s ⟨j.val, by omega⟩) := by
  unfold Cert.Kernel4Ideal.Gen.k0_pay9
  generalize Cert.Kernel4Ideal.Gen.k0_pay7 (F := Ideal) x g w = v at hv ⊢
  pointwise [refV]
  rw [hv]
  exact congrArg (fun q : Fin 5192 => Z (ix3 b s q)) (Fin.ext (by show 1024 + (256 + j.val) = 1280 + (j.val); omega))

/-- The values of head 1. -/
theorem v1_at (v : FVec Ideal Cert.Kernel4Ideal.S512x512 .f32) (Z : FVec Ideal S4x4096x5192 .f32) (r : Fin 512) (b : Fin 4) (s : Fin 4096)
    (hv : ∀ j : Fin 512, v (ix2 r j) = Z (ix3 b s ⟨1024 + j.val, by omega⟩)) (j : Fin 128) :
    Cert.Kernel4Ideal.Gen.k0_pay11 (F := Ideal) v (ix2 r j) = refV Z (ix3 b s ⟨128 + j.val, by omega⟩) := by
  pointwise [Cert.Kernel4Ideal.Gen.k0_pay11, refV]
  rw [hv]
  exact congrArg (fun q : Fin 5192 => Z (ix3 b s q)) (Fin.ext (by show 1024 + (384 + j.val) = 1280 + (128 + j.val); omega))

/-- The keys of both heads, rounded. -/
theorem kb_at (v : FVec Ideal Cert.Kernel4Ideal.S512x512 .f32) (Z : FVec Ideal S4x4096x5192 .f32) (r : Fin 512) (b : Fin 4) (s : Fin 4096)
    (hv : ∀ j : Fin 512, v (ix2 r j) = Z (ix3 b s ⟨1024 + j.val, by omega⟩)) (j : Fin 256) :
    Cert.Kernel4Ideal.Gen.k0_pay12 (F := Ideal) v (ix2 r j) = (truncf .bf16 (refK Z) bitsLt_bf16_f32 : FVec Ideal S4x4096x256 .bf16) (ix3 b s j) := by
  pointwise [Cert.Kernel4Ideal.Gen.k0_pay12, refK]
  rw [hv]

/-- The values of both heads, rounded. -/
theorem vb_at (v : FVec Ideal Cert.Kernel4Ideal.S512x512 .f32) (Z : FVec Ideal S4x4096x5192 .f32) (r : Fin 512) (b : Fin 4) (s : Fin 4096)
    (hv : ∀ j : Fin 512, v (ix2 r j) = Z (ix3 b s ⟨1024 + j.val, by omega⟩)) (j : Fin 256) :
    Cert.Kernel4Ideal.Gen.k0_pay13 (F := Ideal) v (ix2 r j) = (truncf .bf16 (refV Z) bitsLt_bf16_f32 : FVec Ideal S4x4096x256 .bf16) (ix3 b s j) := by
  pointwise [Cert.Kernel4Ideal.Gen.k0_pay13, refV]
  rw [hv]
  exact congrArg (fun q : Fin 5192 => Z (ix3 b s q)) (Fin.ext (by show 1024 + (256 + j.val) = 1280 + (j.val); omega))

end Cert.Proj

end
-- ==== Proof.ProjRun.lean ====
/- The run of the call that starts the layer (Proj): what its body leaves in each output's buffer, its triple, the
   grid's run with every array it leaves named, and the frame. The rows of the two key and value heads are stored
   interleaved, every second row at a time. -/
module

public import proofs.«01_k».proof.Proof.Gen.Kernel4Ideal.Frame
public import proofs.«01_k».proof.Proof.Gen.Kernel4Ideal.Skeleton
public import Idealize.ShloMosaic.Lib.Claim
public import Idealize.ShloMosaic.Lib.Pointwise

@[expose] public section

set_option maxRecDepth 16384

noncomputable section

namespace Cert.Proj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S1024x1024 := Rect.unit (s := S1024x1024) ![0, 0] S1024x1024.size inb_S1024x1024_S1024x1024_0_0
abbrev r0_3 : Rect S1024x512 := Rect.unit (s := S1024x512) ![0, 0] S1024x512.size inb_S1024x512_S1024x512_0_0
abbrev r0_4 : Rect S1024x128 := ⟨(⟨![0, 0], S512x128.size, ![2, 1], inb_S1024x128_S512x128_0_0_s_2_1⟩ : LoadRect S1024x128), spos_2_1⟩
abbrev r0_5 : Rect S1024x128 := ⟨(⟨![1, 0], S512x128.size, ![2, 1], inb_S1024x128_S512x128_1_0_s_2_1⟩ : LoadRect S1024x128), spos_2_1⟩
abbrev r0_6 : Rect S512x256 := Rect.unit (s := S512x256) ![0, 0] S512x256.size inb_S512x256_S512x256_0_0
abbrev r0_7 : Rect S512x512 := Rect.unit (s := S512x512) ![0, 0] S512x512.size inb_S512x512_S512x512_0_0
abbrev r0_8 : Rect S1024x128 := Rect.unit (s := S1024x128) ![0, 0] S1024x128.size inb_S1024x128_S1024x128_0_0
abbrev r0_9 : Rect S512x128 := Rect.unit (s := S512x128) ![0, 0] S512x128.size inb_S512x128_S512x128_0_0

/-- The two stores of every second row cover the buffer: a row is in the one of its parity. -/
theorem cover_parity (p0 p1 : Vec F S512x128 .f32) (y : S1024x128.Idx) :
    ∃ pc ∈ ([⟨r0_5, p0⟩, ⟨r0_4, p1⟩] : List (View.Piece (Elt F) S1024x128 .f32)), y ∈ pc.1.set := by
  have h0 : (y 0).val < 1024 := (y 0).isLt
  rcases Nat.mod_two_eq_zero_or_one (y 0).val with h | h
  · refine ⟨⟨r0_4, p1⟩, by simp, r0_4.mem_set.mpr fun a => ?_⟩
    fin_cases a
    · exact ⟨(y 0).val / 2, by show _ < 512; omega, by show (y 0).val = 0 + 2 * ((y 0).val / 2); omega⟩
    · exact ⟨(y 1).val, (y 1).isLt, by show (y 1).val = 0 + 1 * (y 1).val; omega⟩
  · refine ⟨⟨r0_5, p0⟩, by simp, r0_5.mem_set.mpr fun a => ?_⟩
    fin_cases a
    · exact ⟨(y 0).val / 2, by show _ < 512; omega, by show (y 0).val = 1 + 2 * ((y 0).val / 2); omega⟩
    · exact ⟨(y 1).val, (y 1).isLt, by show (y 1).val = 0 + 1 * (y 1).val; omega⟩

/-! ## What the body leaves in each output window's buffer -/

/-! ### Values of the body that the stores' payloads, spelt out, would write more than once

    Each is a vector the body binds (often a part call's result), stated over the input windows' blocks and
    numbered on from the skeleton's payload functions, so that
    `out0_W` and the values after it name it instead of spelling it out. -/

def k0_pay19 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : FVec F S512x1024 .bf16 :=
  k0_pay5 (View.ld x0 r0_0) (View.ld x1 r0_1) -- `v16`
def k0_pay20 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : FVec F S512x512 .f32 :=
  k0_pay7 (View.ld x0 r0_0) (View.ld x1 r0_1) (View.ld x3 r0_3) -- `v26`

/-- Window 11's staging buffer after the body, from the input windows' blocks: its 1 store as pieces, LAST
    FIRST (Lib/Pipeline/FrameBody.lean `View.canon`; the payloads are the skeleton's and the values stated above). -/
def out0_11 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S512x1024 .bf16 :=
  View.canon [⟨r0_0, k0_pay6 (View.ld x0 r0_0) (View.ld x1 r0_1) (View.ld x2 r0_2)⟩]

/-- Its stores tile the buffer (checked by evaluation), so they cover it. -/
theorem cover0_11 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-- Window 12's staging buffer after the body, from the input windows' blocks: its 2 stores as pieces, LAST
    FIRST (Lib/Pipeline/FrameBody.lean `View.canon`; the payloads are the skeleton's and the values stated above). -/
def out0_12 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S1024x128 .f32 :=
  View.canon [⟨r0_5, k0_pay10 (View.ld x0 r0_0) (View.ld x1 r0_1) (View.ld x3 r0_3)⟩,
    ⟨r0_4, k0_pay8 (View.ld x0 r0_0) (View.ld x1 r0_1) (View.ld x3 r0_3)⟩]

/-- Its stores tile the buffer (checked by evaluation), so they cover it. -/
theorem cover0_12 (p0 : Vec F S512x128 .f32) (p1 : Vec F S512x128 .f32) (y : S1024x128.Idx) :
    ∃ pc ∈ ([⟨r0_5, p0⟩, ⟨r0_4, p1⟩] : List (View.Piece (Elt F) S1024x128 .f32)), y ∈ pc.1.set :=
  cover_parity p0 p1 y

/-- Window 13's staging buffer after the body, from the input windows' blocks: its 2 stores as pieces, LAST
    FIRST (Lib/Pipeline/FrameBody.lean `View.canon`; the payloads are the skeleton's and the values stated above). -/
def out0_13 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S1024x128 .f32 :=
  View.canon [⟨r0_5, k0_pay11 (k0_pay20 x0 x1 x2 x3 x4 x5 x6 x7 x8 x9 x10)⟩,
    ⟨r0_4, k0_pay9 (View.ld x0 r0_0) (View.ld x1 r0_1) (View.ld x3 r0_3)⟩]

/-- Its stores tile the buffer (checked by evaluation), so they cover it. -/
theorem cover0_13 (p0 : Vec F S512x128 .f32) (p1 : Vec F S512x128 .f32) (y : S1024x128.Idx) :
    ∃ pc ∈ ([⟨r0_5, p0⟩, ⟨r0_4, p1⟩] : List (View.Piece (Elt F) S1024x128 .f32)), y ∈ pc.1.set :=
  cover_parity p0 p1 y

/-- Window 14's staging buffer after the body, from the input windows' blocks: its 1 store as pieces, LAST
    FIRST (Lib/Pipeline/FrameBody.lean `View.canon`; the payloads are the skeleton's and the values stated above). -/
def out0_14 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S512x256 .bf16 :=
  View.canon [⟨r0_6, k0_pay12 (k0_pay20 x0 x1 x2 x3 x4 x5 x6 x7 x8 x9 x10)⟩]

/-- Its stores tile the buffer (checked by evaluation), so they cover it. -/
theorem cover0_14 (p0 : Vec F S512x256 .bf16) (y : S512x256.Idx) :
    ∃ pc ∈ ([⟨r0_6, p0⟩] : List (View.Piece (Elt F) S512x256 .bf16)), y ∈ pc.1.set :=
  View.cover_of_tiled [⟨r0_6, p0⟩] S512x256.size (by rfl) y

/-- Window 15's staging buffer after the body, from the input windows' blocks: its 1 store as pieces, LAST
    FIRST (Lib/Pipeline/FrameBody.lean `View.canon`; the payloads are the skeleton's and the values stated above). -/
def out0_15 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S512x256 .bf16 :=
  View.canon [⟨r0_6, k0_pay13 (k0_pay20 x0 x1 x2 x3 x4 x5 x6 x7 x8 x9 x10)⟩]

/-- Its stores tile the buffer (checked by evaluation), so they cover it. -/
theorem cover0_15 (p0 : Vec F S512x256 .bf16) (y : S512x256.Idx) :
    ∃ pc ∈ ([⟨r0_6, p0⟩] : List (View.Piece (Elt F) S512x256 .bf16)), y ∈ pc.1.set :=
  View.cover_of_tiled [⟨r0_6, p0⟩] S512x256.size (by rfl) y

/-- Window 16's staging buffer after the body, from the input windows' blocks: its 1 store as pieces, LAST
    FIRST (Lib/Pipeline/FrameBody.lean `View.canon`; the payloads are the skeleton's and the values stated above). -/
def out0_16 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S512x512 .bf16 :=
  View.canon [⟨r0_7, k0_pay14 (k0_pay19 x0 x1 x2 x3 x4 x5 x6 x7 x8 x9 x10) (View.ld x4 r0_3)⟩]

/-- Its stores tile the buffer (checked by evaluation), so they cover it. -/
theorem cover0_16 (p0 : Vec F S512x512 .bf16) (y : S512x512.Idx) :
    ∃ pc ∈ ([⟨r0_7, p0⟩] : List (View.Piece (Elt F) S512x512 .bf16)), y ∈ pc.1.set :=
  View.cover_of_tiled [⟨r0_7, p0⟩] S512x512.size (by rfl) y

/-- Window 17's staging buffer after the body, from the input windows' blocks: its 1 store as pieces, LAST
    FIRST (Lib/Pipeline/FrameBody.lean `View.canon`; the payloads are the skeleton's and the values stated above). -/
def out0_17 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S512x128 .bf16 :=
  View.canon [⟨r0_9, k0_pay15 (k0_pay19 x0 x1 x2 x3 x4 x5 x6 x7 x8 x9 x10) (View.ld x5 r0_8)⟩]

/-- Its stores tile the buffer (checked by evaluation), so they cover it. -/
theorem cover0_17 (p0 : Vec F S512x128 .bf16) (y : S512x128.Idx) :
    ∃ pc ∈ ([⟨r0_9, p0⟩] : List (View.Piece (Elt F) S512x128 .bf16)), y ∈ pc.1.set :=
  View.cover_of_tiled [⟨r0_9, p0⟩] S512x128.size (by rfl) y

/-- Window 18's staging buffer after the body, from the input windows' blocks: its 1 store as pieces, LAST
    FIRST (Lib/Pipeline/FrameBody.lean `View.canon`; the payloads are the skeleton's and the values stated above). -/
def out0_18 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S512x128 .bf16 :=
  View.canon [⟨r0_9, k0_pay16 (k0_pay19 x0 x1 x2 x3 x4 x5 x6 x7 x8 x9 x10) (View.ld x6 r0_8)⟩]

/-- Its stores tile the buffer (checked by evaluation), so they cover it. -/
theorem cover0_18 (p0 : Vec F S512x128 .bf16) (y : S512x128.Idx) :
    ∃ pc ∈ ([⟨r0_9, p0⟩] : List (View.Piece (Elt F) S512x128 .bf16)), y ∈ pc.1.set :=
  View.cover_of_tiled [⟨r0_9, p0⟩] S512x128.size (by rfl) y

/-- Window 19's staging buffer after the body, from the input windows' blocks: its 1 store as pieces, LAST
    FIRST (Lib/Pipeline/FrameBody.lean `View.canon`; the payloads are the skeleton's and the values stated above). -/
def out0_19 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S512x128 .f32 :=
  View.canon [⟨r0_9, k0_pay1 (k0_pay17 (k0_pay19 x0 x1 x2 x3 x4 x5 x6 x7 x8 x9 x10) (View.ld x7 r0_8)) k0_pay18⟩]

/-- Its stores tile the buffer (checked by evaluation), so they cover it. -/
theorem cover0_19 (p0 : Vec F S512x128 .f32) (y : S512x128.Idx) :
    ∃ pc ∈ ([⟨r0_9, p0⟩] : List (View.Piece (Elt F) S512x128 .f32)), y ∈ pc.1.set :=
  View.cover_of_tiled [⟨r0_9, p0⟩] S512x128.size (by rfl) y

/-- Window 20's staging buffer after the body, from the input windows' blocks: its 1 store as pieces, LAST
    FIRST (Lib/Pipeline/FrameBody.lean `View.canon`; the payloads are the skeleton's and the values stated above). -/
def out0_20 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S512x1024 .f32 :=
  View.canon [⟨r0_0, k0_pay2 (k0_pay19 x0 x1 x2 x3 x4 x5 x6 x7 x8 x9 x10) (View.ld x8 r0_2)⟩]

/-- Its stores tile the buffer (checked by evaluation), so they cover it. -/
theorem cover0_20 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

/-- Window 21's staging buffer after the body, from the input windows' blocks: its 1 store as pieces, LAST
    FIRST (Lib/Pipeline/FrameBody.lean `View.canon`; the payloads are the skeleton's and the values stated above). -/
def out0_21 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S512x1024 .f32 :=
  View.canon [⟨r0_0, k0_pay3 (k0_pay19 x0 x1 x2 x3 x4 x5 x6 x7 x8 x9 x10) (View.ld x9 r0_2)⟩]

/-- Its stores tile the buffer (checked by evaluation), so they cover it. -/
theorem cover0_21 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

/-- Window 22's staging buffer after the body, from the input windows' blocks: its 1 store as pieces, LAST
    FIRST (Lib/Pipeline/FrameBody.lean `View.canon`; the payloads are the skeleton's and the values stated above). -/
def out0_22 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S512x1024 .f32 :=
  View.canon [⟨r0_0, k0_pay4 (k0_pay19 x0 x1 x2 x3 x4 x5 x6 x7 x8 x9 x10) (View.ld x10 r0_2)⟩]

/-- Its stores tile the buffer (checked by evaluation), so they cover it. -/
theorem cover0_22 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`*_eq_skeleton`), which `sl_exec` runs (Lib/Exec.lean), through every part call. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S512x1024 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S512x256 .bf16) (harg15 : arg15.IsWhole) (arg16 : Memref sig .tc .vmem S512x256 .bf16) (harg16 : arg16.IsWhole) (arg17 : Memref sig .tc .vmem S512x512 .bf16) (harg17 : arg17.IsWhole) (arg18 : Memref sig .tc .vmem S512x128 .bf16) (harg18 : arg18.IsWhole) (arg19 : Memref sig .tc .vmem S512x128 .bf16) (harg19 : arg19.IsWhole) (arg20 : Memref sig .tc .vmem S512x128 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole)
    (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10) ∗ owns (c : Thread nD τ) arg14 fullShare (out0_13 x0 x1 x2 x3 x4 x5 x6 x7 x8 x9 x10) ∗ owns (c : Thread nD τ) arg15 fullShare (out0_14 x0 x1 x2 x3 x4 x5 x6 x7 x8 x9 x10) ∗ owns (c : Thread nD τ) arg16 fullShare (out0_15 x0 x1 x2 x3 x4 x5 x6 x7 x8 x9 x10) ∗ owns (c : Thread nD τ) arg17 fullShare (out0_16 x0 x1 x2 x3 x4 x5 x6 x7 x8 x9 x10) ∗ owns (c : Thread nD τ) arg18 fullShare (out0_17 x0 x1 x2 x3 x4 x5 x6 x7 x8 x9 x10) ∗ owns (c : Thread nD τ) arg19 fullShare (out0_18 x0 x1 x2 x3 x4 x5 x6 x7 x8 x9 x10) ∗ owns (c : Thread nD τ) arg20 fullShare (out0_19 x0 x1 x2 x3 x4 x5 x6 x7 x8 x9 x10) ∗ owns (c : Thread nD τ) arg21 fullShare (out0_20 x0 x1 x2 x3 x4 x5 x6 x7 x8 x9 x10) ∗ owns (c : Thread nD τ) arg22 fullShare (out0_21 x0 x1 x2 x3 x4 x5 x6 x7 x8 x9 x10) ∗ owns (c : Thread nD τ) arg23 fullShare (out0_22 x0 x1 x2 x3 x4 x5 x6 x7 x8 x9 x10)) -∗ K ⟨⟩))
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_proj_eq_skeleton]; unfold cc0_proj_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _ _)).trans ?_
    rfl
  isplitl [H13]
  · iexists _; isplitr
    swap; · iexact H13
    ipureintro
    refine (View.read_writes_eq_canon _ _ _ (cover0_13 _ _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  iexists _; isplitr
  swap; · iexact H22
  ipureintro
  refine (View.read_writes_eq_canon _ _ _ (cover0_22 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨_ + 23, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_Kernel4Ideal`'s statement (Defs.lean) at any `F` — Proof.lean cites it at `Bits`:
    `theorem Cert.Proof.claim : Cert.Claim := ⟨Cert.Kernel4Ideal.Gen.facts, fun m ρ _ => Cert.Kernel4Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v26_0) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v26_1) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v26_2) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v26_3) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v26_4) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v26_5) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v26_6) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v26_7) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v26_8) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v26_9) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v26_10) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v26_11) = (dats m 0 c).arrAt 22 cfg0.N :=
  (h c).1 22

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v26_0) = (dats m 0 c).arrAt 11 cfg0.N
      ∧ r.2.mem ((c : Thread nD τ).loc main_v26_1) = (dats m 0 c).arrAt 12 cfg0.N
      ∧ r.2.mem ((c : Thread nD τ).loc main_v26_2) = (dats m 0 c).arrAt 13 cfg0.N
      ∧ r.2.mem ((c : Thread nD τ).loc main_v26_3) = (dats m 0 c).arrAt 14 cfg0.N
      ∧ r.2.mem ((c : Thread nD τ).loc main_v26_4) = (dats m 0 c).arrAt 15 cfg0.N
      ∧ r.2.mem ((c : Thread nD τ).loc main_v26_5) = (dats m 0 c).arrAt 16 cfg0.N
      ∧ r.2.mem ((c : Thread nD τ).loc main_v26_6) = (dats m 0 c).arrAt 17 cfg0.N
      ∧ r.2.mem ((c : Thread nD τ).loc main_v26_7) = (dats m 0 c).arrAt 18 cfg0.N
      ∧ r.2.mem ((c : Thread nD τ).loc main_v26_8) = (dats m 0 c).arrAt 19 cfg0.N
      ∧ r.2.mem ((c : Thread nD τ).loc main_v26_9) = (dats m 0 c).arrAt 20 cfg0.N
      ∧ r.2.mem ((c : Thread nD τ).loc main_v26_10) = (dats m 0 c).arrAt 21 cfg0.N
      ∧ r.2.mem ((c : Thread nD τ).loc main_v26_11) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post11 m r h c,
      post12 m r h c,
      post13 m r h c,
      post14 m r h c,
      post15 m r h c,
      post16 m r h c,
      post17 m r h c,
      post18 m r h c,
      post19 m r h c,
      post20 m r h c,
      post21 m r h c,
      post22 m r h c,
      kept_main_arg0 m r h c,
      kept_main_arg1 m r h c,
      kept_main_arg2 m r h c⟩)
    (run_main m ρ)

end Cert.Proj

end
-- ==== Proof.ProjWeight.lean ====
/- The weights that the call's host code puts together from columns of the one input weight (on the prompt). -/
module

public import proofs.«01_k».proof.Proof.Gen.Kernel4Ideal.Frame
public import Idealize.ShloMosaic.Lib.Pipeline.ValueKit
public import Idealize.ShloMosaic.Lib.Pointwise

@[expose] public section

set_option maxRecDepth 16384

noncomputable section

namespace Cert.Proj

open Idealize.ShloMosaic Idealize.ShloMosaic.TcCoe Idealize.SL.Sem
open Cert.Kernel4Ideal Cert.Kernel4Ideal.Gen

/-- The columns of the keys and of the values. -/
def kvCols (W : FVec Ideal S1024x5192 .f32) : FVec Ideal S1024x512 .bf16 :=
  truncf .bf16 (concatenate S1024x512 1 [⟨S1024x256, extractStridedSlice S1024x256 ![0, 1024] W slices_S1024x5192_S1024x256_0_1024⟩,
    ⟨S1024x256, extractStridedSlice S1024x256 ![0, 1280] W slices_S1024x5192_S1024x256_0_1280⟩]
    concatenates_S1024x256_S1024x256_S1024x512_d1) bitsLt_bf16_f32

/-- The columns of the indexer's key. -/
def kiCols (W : FVec Ideal S1024x5192 .f32) : FVec Ideal S1024x64 .f32 :=
  extractStridedSlice S1024x64 ![0, 2048] W slices_S1024x5192_S1024x64_0_2048

/-- Columns of zeros. -/
def zeroCols : FVec Ideal S1024x64 .f32 := broadcastInDim S1024x64 ![] bcast_S_S1024x64 (constant S_ .f32 0x00000000#32)

/-- The columns of the indexer's key, then zeros. -/
def kieCols (W : FVec Ideal S1024x5192 .f32) : FVec Ideal S1024x128 .bf16 :=
  truncf .bf16 (concatenate S1024x128 1 [⟨S1024x64, kiCols W⟩, ⟨S1024x64, zeroCols⟩] concatenates_S1024x64_S1024x64_S1024x128_d1)
    bitsLt_bf16_f32

/-- Zeros, then the columns of the indexer's key. -/
def kioCols (W : FVec Ideal S1024x5192 .f32) : FVec Ideal S1024x128 .bf16 :=
  truncf .bf16 (concatenate S1024x128 1 [⟨S1024x64, zeroCols⟩, ⟨S1024x64, kiCols W⟩] concatenates_S1024x64_S1024x64_S1024x128_d1)
    bitsLt_bf16_f32

/-- The columns of the indexer's key and of its head weights, then zeros. -/
def kwCols (W : FVec Ideal S1024x5192 .f32) : FVec Ideal S1024x128 .bf16 :=
  truncf .bf16 (concatenate S1024x128 1 [⟨S1024x64, kiCols W⟩,
    ⟨S1024x8, extractStridedSlice S1024x8 ![0, 2112] W slices_S1024x5192_S1024x8_0_2112⟩,
    ⟨S1024x56, broadcastInDim S1024x56 ![] bcast_S_S1024x56 (constant S_ .f32 0x00000000#32)⟩]
    concatenates_S1024x64_S1024x8_S1024x56_S1024x128_d1) bitsLt_bf16_f32

variable (W : FVec Ideal S1024x5192 .f32) (k : Fin 1024)

/-- Column `1024 + j` of the input weight. -/
theorem kvCols_at (j : Fin 512) : kvCols W (ix2 k j) = W (ix2 k ⟨1024 + j.val, by omega⟩) := by
  by_cases h : j.val < 256
  · pointwise [kvCols, h]
  · have e : (⟨1280 + (j.val - 256), by omega⟩ : Fin 5192) = ⟨1024 + j.val, by omega⟩ :=
      Fin.ext (by show 1280 + (j.val - 256) = 1024 + j.val; omega)
    pointwise [kvCols, h]
    rw [e]

/-- Column `2048 + j`. -/
theorem kieCols_at (j : Fin 128) (h : j.val < 64) : kieCols W (ix2 k j) = W (ix2 k ⟨2048 + j.val, by omega⟩) := by
  pointwise [kieCols, kiCols, zeroCols, h]

/-- The zeros. -/
theorem kieCols_zero (j : Fin 128) (h : ¬ j.val < 64) : kieCols W (ix2 k j) = (0 : EReal) := by
  pointwise [kieCols, kiCols, zeroCols, h]

/-- Column `2048 + (j - 64)`. -/
theorem kioCols_at (j : Fin 128) (h : ¬ j.val < 64) : kioCols W (ix2 k j) = W (ix2 k ⟨2048 + (j.val - 64), by omega⟩) := by
  pointwise [kioCols, kiCols, zeroCols, h]

/-- The zeros. -/
theorem kioCols_zero (j : Fin 128) (h : j.val < 64) : kioCols W (ix2 k j) = (0 : EReal) := by
  pointwise [kioCols, kiCols, zeroCols, h]

/-- Column `2048 + j`. -/
theorem kwCols_at (j : Fin 128) (h : j.val < 72) : kwCols W (ix2 k j) = W (ix2 k ⟨2048 + j.val, by omega⟩) := by
  by_cases h' : j.val < 64
  · pointwise [kwCols, kiCols, h']
  · have e : (⟨2112 + (j.val - 64), by omega⟩ : Fin 5192) = ⟨2048 + j.val, by omega⟩ :=
      Fin.ext (by show 2112 + (j.val - 64) = 2048 + j.val; omega)
    pointwise [kwCols, kiCols, h']
    rw [dif_pos (by omega), e]

/-- The zeros. -/
theorem kwCols_zero (j : Fin 128) (h : ¬ j.val < 72) : kwCols W (ix2 k j) = (0 : EReal) := by
  pointwise [kwCols, kiCols, show ¬ j.val < 64 by omega]
  rw [dif_neg (by omega)]

variable (m : (ℓ : Loc nD τ sig) → Buf (Elt Ideal) ℓ)

/-- The array window 3 stages. -/
theorem V_main_v17 (c : Dev nD) : V m c main_v17 = kvCols (m ((c : Thread nD τ).loc main_arg2)) := by
  unfold V kvCols
  after_results_simp <;> rfl

/-- The array window 5 stages. -/
theorem V_main_v19 (c : Dev nD) : V m c main_v19 = kieCols (m ((c : Thread nD τ).loc main_arg2)) := by
  unfold V kieCols kiCols zeroCols
  after_results_simp <;> rfl

/-- The array window 6 stages. -/
theorem V_main_v20 (c : Dev nD) : V m c main_v20 = kioCols (m ((c : Thread nD τ).loc main_arg2)) := by
  unfold V kioCols kiCols zeroCols
  after_results_simp <;> rfl

/-- The array window 7 stages. -/
theorem V_main_v21 (c : Dev nD) : V m c main_v21 = kwCols (m ((c : Thread nD τ).loc main_arg2)) := by
  unfold V kwCols kiCols
  after_results_simp <;> (try dsimp only [Matrix.cons_val]) <;> (try after_results_simp) <;> rfl

/-- Where each window of the weights lies: it is staged whole. -/
theorem idxW : ∀ t : Fin cfg0.N, win0_3.index t = ![0, 0] ∧ win0_5.index t = ![0, 0] ∧ win0_6.index t = ![0, 0]
    ∧ win0_7.index t = ![0, 0] :=
  (by decide +kernel : ∀ t : Fin grid0.N, _)

/-- Window 3 stages the whole of its array. -/
theorem blk3 (c : Dev nD) (t : Fin cfg0.N) (j : Fin 512) :
    (show FVec Ideal S1024x512 .bf16 from iblk m c 3 t) (ix2 k j) = (V m c main_v17 : FVec Ideal S1024x512 .bf16) (ix2 k j) := by
  unfold iblk
  generalize V m c = v
  blk_point [idxW t]

/-- Window 5 stages the whole of its array. -/
theorem blk5 (c : Dev nD) (t : Fin cfg0.N) (j : Fin 128) :
    (show FVec Ideal S1024x128 .bf16 from iblk m c 5 t) (ix2 k j) = (V m c main_v19 : FVec Ideal S1024x128 .bf16) (ix2 k j) := by
  unfold iblk
  generalize V m c = v
  blk_point [idxW t]

/-- Window 6 stages the whole of its array. -/
theorem blk6 (c : Dev nD) (t : Fin cfg0.N) (j : Fin 128) :
    (show FVec Ideal S1024x128 .bf16 from iblk m c 6 t) (ix2 k j) = (V m c main_v20 : FVec Ideal S1024x128 .bf16) (ix2 k j) := by
  unfold iblk
  generalize V m c = v
  blk_point [idxW t]

/-- Window 7 stages the whole of its array. -/
theorem blk7 (c : Dev nD) (t : Fin cfg0.N) (j : Fin 128) :
    (show FVec Ideal S1024x128 .bf16 from iblk m c 7 t) (ix2 k j) = (V m c main_v21 : FVec Ideal S1024x128 .bf16) (ix2 k j) := by
  unfold iblk
  generalize V m c = v
  blk_point [idxW t]

end Cert.Proj

end
-- ==== Proof.ProjBlk.lean ====
/- The call that starts the layer (on the prompt): what each window's block holds. -/
module

public import proofs.«01_k».proof.Proof.ProjRow
public import proofs.«01_k».proof.Proof.ProjRun
public import proofs.«01_k».proof.Proof.ProjWeight
public import Idealize.ShloMosaic.Lib.Pipeline.ValueKit
public import Idealize.ShloMosaic.Lib.Claim

@[expose] public section

set_option maxRecDepth 16384

noncomputable section

namespace Cert.Proj

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

/-- Where each window's block lies at a grid point: a band of rows, or the whole of a weight. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] ∧ win0_21.index t = ![t.val, 0] ∧ win0_22.index t = ![t.val, 0] :=
  (by decide +kernel : ∀ t : Fin grid0.N, _)

/-- The wide product over this program's own argument arrays. -/
abbrev target (c : Dev nD) : FVec Ideal Cert.Reference4Ideal.S4x4096x5192 .f32 :=
  refZ (m ((c : Thread nD τ).loc main_arg0)) (m ((c : Thread nD τ).loc main_arg1)) (m ((c : Thread nD τ).loc main_arg2))

/-- The batch of the row `r` of grid point `t`. -/
abbrev bat (t : Fin cfg0.N) (r : Fin 512) : Fin 4 := ⟨(t.val * 512 + r.val) / 4096, by have : t.val < 32 := t.isLt; omega⟩

/-- Its place in the sequence. -/
abbrev pos (t : Fin cfg0.N) (r : Fin 512) : Fin 4096 := ⟨(t.val * 512 + r.val) % 4096, by omega⟩

/-- The block of the x rows. -/
theorem row0 (c : Dev nD) (t : Fin cfg0.N) (r : Fin 512) (k : Fin 1024) :
    (show FVec Ideal S512x1024 .f32 from iblk m c 0 t) (ix2 r k)
      = (m ((c : Thread nD τ).loc main_arg0) : FVec Ideal S4x4096x1024 .f32) (ix3 (bat t r) (pos t r) k) := by
  blk_point [iblk, V, idx t]

/-- The gain is staged whole. -/
theorem gain1 (c : Dev nD) (t : Fin cfg0.N) (k : Fin 1024) :
    (show FVec Ideal S1x1024 .f32 from iblk m c 1 t) (ix2 0 k)
      = (m ((c : Thread nD τ).loc main_arg1) : FVec Ideal S1024 .f32) (ix1 k) := by
  blk_point [iblk, V, idx t]

/-- The queries' columns. -/
theorem weight2 (c : Dev nD) (t : Fin cfg0.N) (k : Fin 1024) (j : Fin 1024) :
    (show FVec Ideal S1024x1024 .bf16 from iblk m c 2 t) (ix2 k j) = (m ((c : Thread nD τ).loc main_arg2) : FVec Ideal S1024x5192 .f32) (ix2 k ⟨j.val, by omega⟩) := by
  blk_point [iblk, V, idx t]

/-- The keys' and the values' columns. -/
theorem weight3 (c : Dev nD) (t : Fin cfg0.N) (k : Fin 1024) (j : Fin 512) :
    (show FVec Ideal S1024x512 .bf16 from iblk m c 3 t) (ix2 k j) = (m ((c : Thread nD τ).loc main_arg2) : FVec Ideal S1024x5192 .f32) (ix2 k ⟨1024 + j.val, by omega⟩) :=
  (blk3 k m c t j).trans ((congrFun (V_main_v17 m c) (ix2 k j)).trans (kvCols_at _ k j))

/-- The columns of the indexer's queries. -/
theorem weight4 (c : Dev nD) (t : Fin cfg0.N) (k : Fin 1024) (j : Fin 512) :
    (show FVec Ideal S1024x512 .bf16 from iblk m c 4 t) (ix2 k j) = (m ((c : Thread nD τ).loc main_arg2) : FVec Ideal S1024x5192 .f32) (ix2 k ⟨1536 + j.val, by omega⟩) := by
  blk_point [iblk, V, idx t]

/-- The columns of the indexer's key, in the first half. -/
theorem weight5 (c : Dev nD) (t : Fin cfg0.N) (k : Fin 1024) (j : Fin 128) (h : j.val < 64) :
    (show FVec Ideal S1024x128 .bf16 from iblk m c 5 t) (ix2 k j) = (m ((c : Thread nD τ).loc main_arg2) : FVec Ideal S1024x5192 .f32) (ix2 k ⟨2048 + j.val, by omega⟩) :=
  (blk5 k m c t j).trans ((congrFun (V_main_v19 m c) (ix2 k j)).trans (kieCols_at _ k j h))

/-- Beside them, zeros. -/
theorem zero5 (c : Dev nD) (t : Fin cfg0.N) (k : Fin 1024) (j : Fin 128) (h : ¬ j.val < 64) :
    (show FVec Ideal S1024x128 .bf16 from iblk m c 5 t) (ix2 k j) = (0 : EReal) :=
  (blk5 k m c t j).trans ((congrFun (V_main_v19 m c) (ix2 k j)).trans (kieCols_zero _ k j h))

/-- The columns of the indexer's key, in the second half. -/
theorem weight6 (c : Dev nD) (t : Fin cfg0.N) (k : Fin 1024) (j : Fin 128) (h : ¬ j.val < 64) :
    (show FVec Ideal S1024x128 .bf16 from iblk m c 6 t) (ix2 k j) = (m ((c : Thread nD τ).loc main_arg2) : FVec Ideal S1024x5192 .f32) (ix2 k ⟨2048 + (j.val - 64), by omega⟩) :=
  (blk6 k m c t j).trans ((congrFun (V_main_v20 m c) (ix2 k j)).trans (kioCols_at _ k j h))

/-- Beside them, zeros. -/
theorem zero6 (c : Dev nD) (t : Fin cfg0.N) (k : Fin 1024) (j : Fin 128) (h : j.val < 64) :
    (show FVec Ideal S1024x128 .bf16 from iblk m c 6 t) (ix2 k j) = (0 : EReal) :=
  (blk6 k m c t j).trans ((congrFun (V_main_v20 m c) (ix2 k j)).trans (kioCols_zero _ k j h))

/-- The columns of the indexer's key and of its head weights. -/
theorem weight7 (c : Dev nD) (t : Fin cfg0.N) (k : Fin 1024) (j : Fin 128) (h : j.val < 72) :
    (show FVec Ideal S1024x128 .bf16 from iblk m c 7 t) (ix2 k j) = (m ((c : Thread nD τ).loc main_arg2) : FVec Ideal S1024x5192 .f32) (ix2 k ⟨2048 + j.val, by omega⟩) :=
  (blk7 k m c t j).trans ((congrFun (V_main_v21 m c) (ix2 k j)).trans (kwCols_at _ k j h))

/-- Beside them, zeros. -/
theorem zero7 (c : Dev nD) (t : Fin cfg0.N) (k : Fin 1024) (j : Fin 128) (h : ¬ j.val < 72) :
    (show FVec Ideal S1024x128 .bf16 from iblk m c 7 t) (ix2 k j) = (0 : EReal) :=
  (blk7 k m c t j).trans ((congrFun (V_main_v21 m c) (ix2 k j)).trans (kwCols_zero _ k j h))

/-- The columns of the recurrence's input. -/
theorem weight8 (c : Dev nD) (t : Fin cfg0.N) (k : Fin 1024) (j : Fin 1024) :
    (show FVec Ideal S1024x1024 .bf16 from iblk m c 8 t) (ix2 k j) = (m ((c : Thread nD τ).loc main_arg2) : FVec Ideal S1024x5192 .f32) (ix2 k ⟨2120 + j.val, by omega⟩) := by
  blk_point [iblk, V, idx t]

/-- The columns of the attention branch's gate. -/
theorem weight9 (c : Dev nD) (t : Fin cfg0.N) (k : Fin 1024) (j : Fin 1024) :
    (show FVec Ideal S1024x1024 .bf16 from iblk m c 9 t) (ix2 k j) = (m ((c : Thread nD τ).loc main_arg2) : FVec Ideal S1024x5192 .f32) (ix2 k ⟨3144 + j.val, by omega⟩) := by
  blk_point [iblk, V, idx t]

/-- The columns of the recurrence branch's gate. -/
theorem weight10 (c : Dev nD) (t : Fin cfg0.N) (k : Fin 1024) (j : Fin 1024) :
    (show FVec Ideal S1024x1024 .bf16 from iblk m c 10 t) (ix2 k j) = (m ((c : Thread nD τ).loc main_arg2) : FVec Ideal S1024x5192 .f32) (ix2 k ⟨4168 + j.val, by omega⟩) := by
  blk_point [iblk, V, idx t]

/-- The normalised rows of a grid point. -/
theorem nrow (c : Dev nD) (t : Fin cfg0.N) (r : Fin 512) (k : Fin 1024) :
    k0_pay5 (F := Ideal) (show FVec Ideal S512x1024 .f32 from iblk m c 0 t) (show FVec Ideal S1x1024 .f32 from iblk m c 1 t) (ix2 r k)
      = refNorm (m ((c : Thread nD τ).loc main_arg0)) (m ((c : Thread nD τ).loc main_arg1)) (ix3 (bat t r) (pos t r) k) :=
  norm_at _ _ _ _ r (bat t r) (pos t r) (row0 m c t r) (gain1 m c t) k

/-- The keys and values of a grid point, side by side. -/
theorem kvrow (c : Dev nD) (t : Fin cfg0.N) (r : Fin 512) (j : Fin 512) :
    k0_pay7 (F := Ideal) (show FVec Ideal S512x1024 .f32 from iblk m c 0 t) (show FVec Ideal S1x1024 .f32 from iblk m c 1 t)
        (show FVec Ideal S1024x512 .bf16 from iblk m c 3 t) (ix2 r j)
      = target m c (ix3 (bat t r) (pos t r) ⟨1024 + j.val, by omega⟩) :=
  kv_at _ _ _ r (bat t r) (pos t r) _ _ _ (nrow m c t r) (weight3 m c t) j

end Cert.Proj

end
-- ==== Proof.Proj.lean ====
/- The call that starts the layer (on the prompt): the arrays it leaves beside keys and values are the reference's, for every argument. -/
module

public import proofs.«01_k».proof.Proof.ProjBlk
public import Idealize.ShloMosaic.Lib.Pipeline.ValueKit
public import Idealize.ShloMosaic.Lib.Claim

@[expose] public section

set_option maxRecDepth 16384

noncomputable section

namespace Cert.Proj

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

/-- The queries. -/
theorem final11 (c : Dev nD) : (dats m 0 c).arrAt 11 cfg0.N
    = shapeCast Cert.Reference4Ideal.S16384x1024 (refQ (target m c)) Cert.Reference4Ideal.Gen.shapeCasts_S4x4096x1024_S16384x1024 := by
  refine (dats m 0 c).arrAt_eq_of_covers 11 _ (by decide +kernel) fun t _ y => ?_
  blk_simp
  rw [after0_11]; unfold out0_11; frame_out
  obtain ⟨r, j, rfl⟩ : ∃ (r : Fin 512) (j : Fin 1024), y = ix2 r j := ⟨y 0, y 1, eq_ix2 y⟩
  refine (q_at _ _ _ r (bat t r) (pos t r) _ _ _ (nrow m c t r) (weight2 m c t) j).trans ?_
  show refQ (target m c) (ix3 (bat t r) (pos t r) j) = _
  generalize refQ (target m c) = T
  pointwise
  blk_ext [idx t]

/-- The keys, rounded. -/
theorem final14 (c : Dev nD) : (dats m 0 c).arrAt 14 cfg0.N
    = shapeCast Cert.Reference4Ideal.S16384x256 (truncf .bf16 (refK (target m c)) Cert.Reference4Ideal.Gen.bitsLt_bf16_f32) Cert.Reference4Ideal.Gen.shapeCasts_S4x4096x256_S16384x256 := by
  refine (dats m 0 c).arrAt_eq_of_covers 14 _ (by decide +kernel) fun t _ y => ?_
  blk_simp
  rw [after0_14]; unfold out0_14; frame_out
  obtain ⟨r, j, rfl⟩ : ∃ (r : Fin 512) (j : Fin 256), y = ix2 r j := ⟨y 0, y 1, eq_ix2 y⟩
  unfold k0_pay20
  frame_out
  refine (kb_at _ _ r (bat t r) (pos t r) (kvrow m c t r) j).trans ?_
  show (truncf .bf16 (refK (target m c)) Cert.Reference4Ideal.Gen.bitsLt_bf16_f32) (ix3 (bat t r) (pos t r) j) = _
  generalize truncf .bf16 (refK (target m c)) Cert.Reference4Ideal.Gen.bitsLt_bf16_f32 = T
  pointwise
  blk_ext [idx t]

/-- The values, rounded. -/
theorem final15 (c : Dev nD) : (dats m 0 c).arrAt 15 cfg0.N
    = shapeCast Cert.Reference4Ideal.S16384x256 (truncf .bf16 (refV (target m c)) Cert.Reference4Ideal.Gen.bitsLt_bf16_f32) Cert.Reference4Ideal.Gen.shapeCasts_S4x4096x256_S16384x256 := by
  refine (dats m 0 c).arrAt_eq_of_covers 15 _ (by decide +kernel) fun t _ y => ?_
  blk_simp
  rw [after0_15]; unfold out0_15; frame_out
  obtain ⟨r, j, rfl⟩ : ∃ (r : Fin 512) (j : Fin 256), y = ix2 r j := ⟨y 0, y 1, eq_ix2 y⟩
  unfold k0_pay20
  frame_out
  refine (vb_at _ _ r (bat t r) (pos t r) (kvrow m c t r) j).trans ?_
  show (truncf .bf16 (refV (target m c)) Cert.Reference4Ideal.Gen.bitsLt_bf16_f32) (ix3 (bat t r) (pos t r) j) = _
  generalize truncf .bf16 (refV (target m c)) Cert.Reference4Ideal.Gen.bitsLt_bf16_f32 = T
  pointwise
  blk_ext [idx t]

/-- The indexer's queries. -/
theorem final16 (c : Dev nD) : (dats m 0 c).arrAt 16 cfg0.N
    = shapeCast Cert.Reference4Ideal.S16384x512 (refQi (target m c)) Cert.Reference4Ideal.Gen.shapeCasts_S4x4096x512_S16384x512 := by
  refine (dats m 0 c).arrAt_eq_of_covers 16 _ (by decide +kernel) fun t _ y => ?_
  blk_simp
  rw [after0_16]; unfold out0_16; frame_out
  obtain ⟨r, j, rfl⟩ : ∃ (r : Fin 512) (j : Fin 512), y = ix2 r j := ⟨y 0, y 1, eq_ix2 y⟩
  unfold k0_pay19
  frame_out
  refine (qi_at _ _ _ _ r (bat t r) (pos t r) _ (nrow m c t r) (weight4 m c t) j).trans ?_
  show refQi (target m c) (ix3 (bat t r) (pos t r) j) = _
  generalize refQi (target m c) = T
  pointwise
  blk_ext [idx t]

/-- The indexer's key, in the first half. -/
theorem final17 (c : Dev nD) : (dats m 0 c).arrAt 17 cfg0.N
    = shapeCast Cert.Reference4Ideal.S16384x128 (refKie (target m c)) Cert.Reference4Ideal.Gen.shapeCasts_S4x4096x128_S16384x128 := by
  refine (dats m 0 c).arrAt_eq_of_covers 17 _ (by decide +kernel) fun t _ y => ?_
  blk_simp
  rw [after0_17]; unfold out0_17; frame_out
  obtain ⟨r, j, rfl⟩ : ∃ (r : Fin 512) (j : Fin 128), y = ix2 r j := ⟨y 0, y 1, eq_ix2 y⟩
  unfold k0_pay19
  frame_out
  refine (kie_at _ _ _ _ r (bat t r) (pos t r) _ (nrow m c t r) (weight5 m c t) (zero5 m c t) j).trans ?_
  show refKie (target m c) (ix3 (bat t r) (pos t r) j) = _
  generalize refKie (target m c) = T
  pointwise
  blk_ext [idx t]

/-- The indexer's key, in the second half. -/
theorem final18 (c : Dev nD) : (dats m 0 c).arrAt 18 cfg0.N
    = shapeCast Cert.Reference4Ideal.S16384x128 (refKio (target m c)) Cert.Reference4Ideal.Gen.shapeCasts_S4x4096x128_S16384x128 := by
  refine (dats m 0 c).arrAt_eq_of_covers 18 _ (by decide +kernel) fun t _ y => ?_
  blk_simp
  rw [after0_18]; unfold out0_18; frame_out
  obtain ⟨r, j, rfl⟩ : ∃ (r : Fin 512) (j : Fin 128), y = ix2 r j := ⟨y 0, y 1, eq_ix2 y⟩
  unfold k0_pay19
  frame_out
  refine (kio_at _ _ _ _ r (bat t r) (pos t r) _ (nrow m c t r) (weight6 m c t) (zero6 m c t) j).trans ?_
  show refKio (target m c) (ix3 (bat t r) (pos t r) j) = _
  generalize refKio (target m c) = T
  pointwise
  blk_ext [idx t]

/-- The indexer's key with its head weights. -/
theorem final19 (c : Dev nD) : (dats m 0 c).arrAt 19 cfg0.N
    = shapeCast Cert.Reference4Ideal.S16384x128 (refKw (target m c)) Cert.Reference4Ideal.Gen.shapeCasts_S4x4096x128_S16384x128 := by
  refine (dats m 0 c).arrAt_eq_of_covers 19 _ (by decide +kernel) fun t _ y => ?_
  blk_simp
  rw [after0_19]; unfold out0_19; frame_out
  obtain ⟨r, j, rfl⟩ : ∃ (r : Fin 512) (j : Fin 128), y = ix2 r j := ⟨y 0, y 1, eq_ix2 y⟩
  unfold k0_pay19
  frame_out
  refine (kw_at _ _ _ _ r (bat t r) (pos t r) _ (nrow m c t r) (weight7 m c t) (zero7 m c t) j).trans ?_
  show refKw (target m c) (ix3 (bat t r) (pos t r) j) = _
  generalize refKw (target m c) = T
  pointwise
  blk_ext [idx t]

/-- The recurrence's input. -/
theorem final20 (c : Dev nD) : (dats m 0 c).arrAt 20 cfg0.N
    = shapeCast Cert.Reference4Ideal.S16384x1024 (refU (target m c)) Cert.Reference4Ideal.Gen.shapeCasts_S4x4096x1024_S16384x1024 := by
  refine (dats m 0 c).arrAt_eq_of_covers 20 _ (by decide +kernel) fun t _ y => ?_
  blk_simp
  rw [after0_20]; unfold out0_20; frame_out
  obtain ⟨r, j, rfl⟩ : ∃ (r : Fin 512) (j : Fin 1024), y = ix2 r j := ⟨y 0, y 1, eq_ix2 y⟩
  unfold k0_pay19
  frame_out
  refine (u_at _ _ _ _ r (bat t r) (pos t r) _ (nrow m c t r) (weight8 m c t) j).trans ?_
  show refU (target m c) (ix3 (bat t r) (pos t r) j) = _
  generalize refU (target m c) = T
  pointwise
  blk_ext [idx t]

/-- The attention branch's gate. -/
theorem final21 (c : Dev nD) : (dats m 0 c).arrAt 21 cfg0.N
    = shapeCast Cert.Reference4Ideal.S16384x1024 (refGa (target m c)) Cert.Reference4Ideal.Gen.shapeCasts_S4x4096x1024_S16384x1024 := by
  refine (dats m 0 c).arrAt_eq_of_covers 21 _ (by decide +kernel) fun t _ y => ?_
  blk_simp
  rw [after0_21]; unfold out0_21; frame_out
  obtain ⟨r, j, rfl⟩ : ∃ (r : Fin 512) (j : Fin 1024), y = ix2 r j := ⟨y 0, y 1, eq_ix2 y⟩
  unfold k0_pay19
  frame_out
  refine (ga_at _ _ _ _ r (bat t r) (pos t r) _ (nrow m c t r) (weight9 m c t) j).trans ?_
  show refGa (target m c) (ix3 (bat t r) (pos t r) j) = _
  generalize refGa (target m c) = T
  pointwise
  blk_ext [idx t]

/-- The recurrence branch's gate. -/
theorem final22 (c : Dev nD) : (dats m 0 c).arrAt 22 cfg0.N
    = shapeCast Cert.Reference4Ideal.S16384x1024 (refGb (target m c)) Cert.Reference4Ideal.Gen.shapeCasts_S4x4096x1024_S16384x1024 := by
  refine (dats m 0 c).arrAt_eq_of_covers 22 _ (by decide +kernel) fun t _ y => ?_
  blk_simp
  rw [after0_22]; unfold out0_22; frame_out
  obtain ⟨r, j, rfl⟩ : ∃ (r : Fin 512) (j : Fin 1024), y = ix2 r j := ⟨y 0, y 1, eq_ix2 y⟩
  unfold k0_pay19
  frame_out
  refine (gb_at _ _ _ _ r (bat t r) (pos t r) _ (nrow m c t r) (weight10 m c t) j).trans ?_
  show refGb (target m c) (ix3 (bat t r) (pos t r) j) = _
  generalize refGb (target m c) = T
  pointwise
  blk_ext [idx t]

end Cert.Proj

end
-- ==== Proof.ProjHeads.lean ====
/- The keys and the values, stored head by head (on the prompt), are the reference's. -/
module

public import proofs.«01_k».proof.Proof.ProjBlk
public import Idealize.ShloMosaic.Lib.Pipeline.ValueKit
public import Idealize.ShloMosaic.Lib.Claim

@[expose] public section

set_option maxRecDepth 16384

noncomputable section

namespace Cert.Proj

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

/-- The body reads the whole block of rows. -/
theorem ld_rows (x : Vec Ideal S512x1024 .f32) : View.ld x r0_0 = x := View.ld_unit_lit inb_S512x1024_S512x1024_0_0 x (by decide)

/-- And the whole gain. -/
theorem ld_gain (x : Vec Ideal S1x1024 .f32) : View.ld x r0_1 = x := View.ld_unit_lit inb_S1x1024_S1x1024_0_0 x (by decide)

/-- And the whole of the keys' and the values' columns. -/
theorem ld_kv (x : Vec Ideal S1024x512 .bf16) : View.ld x r0_3 = x := View.ld_unit_lit inb_S1024x512_S1024x512_0_0 x (by decide)

/-- The keys, the rows of the two heads interleaved. -/
theorem final12 (c : Dev nD) : (dats m 0 c).arrAt 12 cfg0.N
    = shapeCast Cert.Reference4Ideal.S32768x128 (refK (target m c)) Cert.Reference4Ideal.Gen.shapeCasts_S4x4096x256_S32768x128 := by
  refine (dats m 0 c).arrAt_eq_of_covers 12 _ (by decide +kernel) fun t _ y => ?_
  blk_simp
  rw [after0_12]; unfold out0_12
  refine View.canon_apply_of_pieces (Val := Elt Ideal) (fun y => shapeCast Cert.Reference4Ideal.S32768x128 (refK (target m c)) Cert.Reference4Ideal.Gen.shapeCasts_S4x4096x256_S32768x128
    ((win0_12.blk t).view.emb y)) _ ?_ y (cover0_12 _ _ y)
  rintro p hp x
  simp only [List.mem_cons, List.not_mem_nil, or_false] at hp
  rcases hp with rfl | rfl
  · obtain ⟨r, j, rfl⟩ : ∃ (r : Fin 512) (j : Fin 128), x = ix2 r j := ⟨x 0, x 1, eq_ix2 x⟩
    have e0 : (r0_5.emb (ix2 r j) 0).val = 1 + 2 * r.val := rfl
    have e1 : (r0_5.emb (ix2 r j) 1).val = j.val := (show _ = 0 + 1 * j.val from rfl).trans (by omega)
    rw [ld_rows, ld_gain, ld_kv]
    refine (k1_at _ r (bat t r) (pos t r) (kvrow m c t r) j).trans ?_
    beta_reduce
    generalize refK (target m c) = T
    generalize r0_5.emb (ix2 r j) = q at e0 e1 ⊢
    pointwise
    blk_ext [idx t, e0, e1] <;> omega
  · obtain ⟨r, j, rfl⟩ : ∃ (r : Fin 512) (j : Fin 128), x = ix2 r j := ⟨x 0, x 1, eq_ix2 x⟩
    have e0 : (r0_4.emb (ix2 r j) 0).val = 2 * r.val := (show _ = 0 + 2 * r.val from rfl).trans (Nat.zero_add _)
    have e1 : (r0_4.emb (ix2 r j) 1).val = j.val := (show _ = 0 + 1 * j.val from rfl).trans (by omega)
    rw [ld_rows, ld_gain, ld_kv]
    refine (k0_at _ r (bat t r) (pos t r) (kvrow m c t r) j).trans ?_
    beta_reduce
    generalize refK (target m c) = T
    generalize r0_4.emb (ix2 r j) = q at e0 e1 ⊢
    have hi : win0_12.index t = ![t.val, 0] := (by decide +kernel : ∀ t : Fin grid0.N, win0_12.index t = ![t.val, 0]) t
    have E0 : (((win0_12.blk t).view.emb q) 0).val = t.val * 1024 + (q 0).val := by
      show win0_12.index t 0 * 1024 + 1 * (q 0).val = _
      rw [hi, Nat.one_mul]; rfl
    have E1 : (((win0_12.blk t).view.emb q) 1).val = (q 1).val := by
      show win0_12.index t 1 * 128 + 1 * (q 1).val = _
      rw [hi, Nat.one_mul]; exact Nat.zero_add _
    generalize (win0_12.blk t).view.emb q = z at E0 E1 ⊢
    obtain ⟨l, hl⟩ : ∃ l : Fin 256, l = ⟨j.val, by omega⟩ := ⟨_, rfl⟩
    have e2 : l.val = j.val := by rw [hl]
    rw [← hl]
    pointwise
    have hj : j.val < 128 := j.isLt
    refine congrArg T ?_
    congr 1 <;> refine Fin.ext ?_ <;> dsimp only <;> omega

/-- The values, the rows of the two heads interleaved. -/
theorem final13 (c : Dev nD) : (dats m 0 c).arrAt 13 cfg0.N
    = shapeCast Cert.Reference4Ideal.S32768x128 (refV (target m c)) Cert.Reference4Ideal.Gen.shapeCasts_S4x4096x256_S32768x128 := by
  refine (dats m 0 c).arrAt_eq_of_covers 13 _ (by decide +kernel) fun t _ y => ?_
  blk_simp
  rw [after0_13]; unfold out0_13
  refine View.canon_apply_of_pieces (Val := Elt Ideal) (fun y => shapeCast Cert.Reference4Ideal.S32768x128 (refV (target m c)) Cert.Reference4Ideal.Gen.shapeCasts_S4x4096x256_S32768x128
    ((win0_13.blk t).view.emb y)) _ ?_ y (cover0_13 _ _ y)
  rintro p hp x
  simp only [List.mem_cons, List.not_mem_nil, or_false] at hp
  rcases hp with rfl | rfl
  · obtain ⟨r, j, rfl⟩ : ∃ (r : Fin 512) (j : Fin 128), x = ix2 r j := ⟨x 0, x 1, eq_ix2 x⟩
    have e0 : (r0_5.emb (ix2 r j) 0).val = 1 + 2 * r.val := rfl
    have e1 : (r0_5.emb (ix2 r j) 1).val = j.val := (show _ = 0 + 1 * j.val from rfl).trans (by omega)
    unfold k0_pay20
    rw [ld_rows, ld_gain, ld_kv]
    refine (v1_at _ _ r (bat t r) (pos t r) (kvrow m c t r) j).trans ?_
    beta_reduce
    generalize refV (target m c) = T
    generalize r0_5.emb (ix2 r j) = q at e0 e1 ⊢
    pointwise
    blk_ext [idx t, e0, e1] <;> omega
  · obtain ⟨r, j, rfl⟩ : ∃ (r : Fin 512) (j : Fin 128), x = ix2 r j := ⟨x 0, x 1, eq_ix2 x⟩
    have e0 : (r0_4.emb (ix2 r j) 0).val = 2 * r.val := (show _ = 0 + 2 * r.val from rfl).trans (Nat.zero_add _)
    have e1 : (r0_4.emb (ix2 r j) 1).val = j.val := (show _ = 0 + 1 * j.val from rfl).trans (by omega)
    rw [ld_rows, ld_gain, ld_kv]
    refine (v0_at _ r (bat t r) (pos t r) (kvrow m c t r) j).trans ?_
    beta_reduce
    generalize refV (target m c) = T
    generalize r0_4.emb (ix2 r j) = q at e0 e1 ⊢
    have hi : win0_13.index t = ![t.val, 0] := (by decide +kernel : ∀ t : Fin grid0.N, win0_13.index t = ![t.val, 0]) t
    have E0 : (((win0_13.blk t).view.emb q) 0).val = t.val * 1024 + (q 0).val := by
      show win0_13.index t 0 * 1024 + 1 * (q 0).val = _
      rw [hi, Nat.one_mul]; rfl
    have E1 : (((win0_13.blk t).view.emb q) 1).val = (q 1).val := by
      show win0_13.index t 1 * 128 + 1 * (q 1).val = _
      rw [hi, Nat.one_mul]; exact Nat.zero_add _
    generalize (win0_13.blk t).view.emb q = z at E0 E1 ⊢
    obtain ⟨l, hl⟩ : ∃ l : Fin 256, l = ⟨j.val, by omega⟩ := ⟨_, rfl⟩
    have e2 : l.val = j.val := by rw [hl]
    rw [← hl]
    pointwise
    have hj : j.val < 128 := j.isLt
    refine congrArg T ?_
    congr 1 <;> refine Fin.ext ?_ <;> dsimp only <;> omega

end Cert.Proj

end
-- ==== Proof.ProjBits.lean ====
/- The run of the floating-point program of the call that starts the layer (on the prompt): its body's triple and the frame. -/
module

public import proofs.«01_k».proof.Proof.Gen.Kernel4.Frame
public import proofs.«01_k».proof.Proof.Gen.Kernel4.Skeleton
public import Idealize.ShloMosaic.Lib.Claim
public import Idealize.ShloMosaic.Lib.Pointwise

@[expose] public section

set_option maxRecDepth 16384

noncomputable section

namespace Cert.Proj.Bits

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S1024x1024 := Rect.unit (s := S1024x1024) ![0, 0] S1024x1024.size inb_S1024x1024_S1024x1024_0_0
abbrev r0_3 : Rect S1024x512 := Rect.unit (s := S1024x512) ![0, 0] S1024x512.size inb_S1024x512_S1024x512_0_0
abbrev r0_4 : Rect S1024x128 := ⟨(⟨![0, 0], S512x128.size, ![2, 1], inb_S1024x128_S512x128_0_0_s_2_1⟩ : LoadRect S1024x128), spos_2_1⟩
abbrev r0_5 : Rect S1024x128 := ⟨(⟨![1, 0], S512x128.size, ![2, 1], inb_S1024x128_S512x128_1_0_s_2_1⟩ : LoadRect S1024x128), spos_2_1⟩
abbrev r0_6 : Rect S512x256 := Rect.unit (s := S512x256) ![0, 0] S512x256.size inb_S512x256_S512x256_0_0
abbrev r0_7 : Rect S512x512 := Rect.unit (s := S512x512) ![0, 0] S512x512.size inb_S512x512_S512x512_0_0
abbrev r0_8 : Rect S1024x128 := Rect.unit (s := S1024x128) ![0, 0] S1024x128.size inb_S1024x128_S1024x128_0_0
abbrev r0_9 : Rect S512x128 := Rect.unit (s := S512x128) ![0, 0] S512x128.size inb_S512x128_S512x128_0_0

/-- The two stores of every second row cover the buffer: a row is in the one of its parity. -/
theorem cover_parity (p0 p1 : Vec F S512x128 .f32) (y : S1024x128.Idx) :
    ∃ pc ∈ ([⟨r0_5, p0⟩, ⟨r0_4, p1⟩] : List (View.Piece (Elt F) S1024x128 .f32)), y ∈ pc.1.set := by
  have h0 : (y 0).val < 1024 := (y 0).isLt
  rcases Nat.mod_two_eq_zero_or_one (y 0).val with h | h
  · refine ⟨⟨r0_4, p1⟩, by simp, r0_4.mem_set.mpr fun a => ?_⟩
    fin_cases a
    · exact ⟨(y 0).val / 2, by show _ < 512; omega, by show (y 0).val = 0 + 2 * ((y 0).val / 2); omega⟩
    · exact ⟨(y 1).val, (y 1).isLt, by show (y 1).val = 0 + 1 * (y 1).val; omega⟩
  · refine ⟨⟨r0_5, p0⟩, by simp, r0_5.mem_set.mpr fun a => ?_⟩
    fin_cases a
    · exact ⟨(y 0).val / 2, by show _ < 512; omega, by show (y 0).val = 1 + 2 * ((y 0).val / 2); omega⟩
    · exact ⟨(y 1).val, (y 1).isLt, by show (y 1).val = 0 + 1 * (y 1).val; omega⟩

/-! ## What the body leaves in each output window's buffer -/

/-! ### Values of the body that the stores' payloads, spelt out, would write more than once

    Each is a vector the body binds (often a part call's result), stated over the input windows' blocks and
    numbered on from the skeleton's payload functions, so that
    `out0_W` and the values after it name it instead of spelling it out. -/

def k0_pay19 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : FVec F S512x1024 .bf16 :=
  k0_pay5 (View.ld x0 r0_0) (View.ld x1 r0_1) -- `v16`
def k0_pay20 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : FVec F S512x512 .f32 :=
  k0_pay7 (View.ld x0 r0_0) (View.ld x1 r0_1) (View.ld x3 r0_3) -- `v26`

/-- Window 11's staging buffer after the body, from the input windows' blocks: its 1 store as pieces, LAST
    FIRST (Lib/Pipeline/FrameBody.lean `View.canon`; the payloads are the skeleton's and the values stated above). -/
def out0_11 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S512x1024 .bf16 :=
  View.canon [⟨r0_0, k0_pay6 (View.ld x0 r0_0) (View.ld x1 r0_1) (View.ld x2 r0_2)⟩]

/-- Its stores tile the buffer (checked by evaluation), so they cover it. -/
theorem cover0_11 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-- Window 12's staging buffer after the body, from the input windows' blocks: its 2 stores as pieces, LAST
    FIRST (Lib/Pipeline/FrameBody.lean `View.canon`; the payloads are the skeleton's and the values stated above). -/
def out0_12 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S1024x128 .f32 :=
  View.canon [⟨r0_5, k0_pay10 (View.ld x0 r0_0) (View.ld x1 r0_1) (View.ld x3 r0_3)⟩,
    ⟨r0_4, k0_pay8 (View.ld x0 r0_0) (View.ld x1 r0_1) (View.ld x3 r0_3)⟩]

/-- Its stores tile the buffer (checked by evaluation), so they cover it. -/
theorem cover0_12 (p0 : Vec F S512x128 .f32) (p1 : Vec F S512x128 .f32) (y : S1024x128.Idx) :
    ∃ pc ∈ ([⟨r0_5, p0⟩, ⟨r0_4, p1⟩] : List (View.Piece (Elt F) S1024x128 .f32)), y ∈ pc.1.set :=
  cover_parity p0 p1 y

/-- Window 13's staging buffer after the body, from the input windows' blocks: its 2 stores as pieces, LAST
    FIRST (Lib/Pipeline/FrameBody.lean `View.canon`; the payloads are the skeleton's and the values stated above). -/
def out0_13 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S1024x128 .f32 :=
  View.canon [⟨r0_5, k0_pay11 (k0_pay20 x0 x1 x2 x3 x4 x5 x6 x7 x8 x9 x10)⟩,
    ⟨r0_4, k0_pay9 (View.ld x0 r0_0) (View.ld x1 r0_1) (View.ld x3 r0_3)⟩]

/-- Its stores tile the buffer (checked by evaluation), so they cover it. -/
theorem cover0_13 (p0 : Vec F S512x128 .f32) (p1 : Vec F S512x128 .f32) (y : S1024x128.Idx) :
    ∃ pc ∈ ([⟨r0_5, p0⟩, ⟨r0_4, p1⟩] : List (View.Piece (Elt F) S1024x128 .f32)), y ∈ pc.1.set :=
  cover_parity p0 p1 y

/-- Window 14's staging buffer after the body, from the input windows' blocks: its 1 store as pieces, LAST
    FIRST (Lib/Pipeline/FrameBody.lean `View.canon`; the payloads are the skeleton's and the values stated above). -/
def out0_14 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S512x256 .bf16 :=
  View.canon [⟨r0_6, k0_pay12 (k0_pay20 x0 x1 x2 x3 x4 x5 x6 x7 x8 x9 x10)⟩]

/-- Its stores tile the buffer (checked by evaluation), so they cover it. -/
theorem cover0_14 (p0 : Vec F S512x256 .bf16) (y : S512x256.Idx) :
    ∃ pc ∈ ([⟨r0_6, p0⟩] : List (View.Piece (Elt F) S512x256 .bf16)), y ∈ pc.1.set :=
  View.cover_of_tiled [⟨r0_6, p0⟩] S512x256.size (by rfl) y

/-- Window 15's staging buffer after the body, from the input windows' blocks: its 1 store as pieces, LAST
    FIRST (Lib/Pipeline/FrameBody.lean `View.canon`; the payloads are the skeleton's and the values stated above). -/
def out0_15 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S512x256 .bf16 :=
  View.canon [⟨r0_6, k0_pay13 (k0_pay20 x0 x1 x2 x3 x4 x5 x6 x7 x8 x9 x10)⟩]

/-- Its stores tile the buffer (checked by evaluation), so they cover it. -/
theorem cover0_15 (p0 : Vec F S512x256 .bf16) (y : S512x256.Idx) :
    ∃ pc ∈ ([⟨r0_6, p0⟩] : List (View.Piece (Elt F) S512x256 .bf16)), y ∈ pc.1.set :=
  View.cover_of_tiled [⟨r0_6, p0⟩] S512x256.size (by rfl) y

/-- Window 16's staging buffer after the body, from the input windows' blocks: its 1 store as pieces, LAST
    FIRST (Lib/Pipeline/FrameBody.lean `View.canon`; the payloads are the skeleton's and the values stated above). -/
def out0_16 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S512x512 .bf16 :=
  View.canon [⟨r0_7, k0_pay14 (k0_pay19 x0 x1 x2 x3 x4 x5 x6 x7 x8 x9 x10) (View.ld x4 r0_3)⟩]

/-- Its stores tile the buffer (checked by evaluation), so they cover it. -/
theorem cover0_16 (p0 : Vec F S512x512 .bf16) (y : S512x512.Idx) :
    ∃ pc ∈ ([⟨r0_7, p0⟩] : List (View.Piece (Elt F) S512x512 .bf16)), y ∈ pc.1.set :=
  View.cover_of_tiled [⟨r0_7, p0⟩] S512x512.size (by rfl) y

/-- Window 17's staging buffer after the body, from the input windows' blocks: its 1 store as pieces, LAST
    FIRST (Lib/Pipeline/FrameBody.lean `View.canon`; the payloads are the skeleton's and the values stated above). -/
def out0_17 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S512x128 .bf16 :=
  View.canon [⟨r0_9, k0_pay15 (k0_pay19 x0 x1 x2 x3 x4 x5 x6 x7 x8 x9 x10) (View.ld x5 r0_8)⟩]

/-- Its stores tile the buffer (checked by evaluation), so they cover it. -/
theorem cover0_17 (p0 : Vec F S512x128 .bf16) (y : S512x128.Idx) :
    ∃ pc ∈ ([⟨r0_9, p0⟩] : List (View.Piece (Elt F) S512x128 .bf16)), y ∈ pc.1.set :=
  View.cover_of_tiled [⟨r0_9, p0⟩] S512x128.size (by rfl) y

/-- Window 18's staging buffer after the body, from the input windows' blocks: its 1 store as pieces, LAST
    FIRST (Lib/Pipeline/FrameBody.lean `View.canon`; the payloads are the skeleton's and the values stated above). -/
def out0_18 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S512x128 .bf16 :=
  View.canon [⟨r0_9, k0_pay16 (k0_pay19 x0 x1 x2 x3 x4 x5 x6 x7 x8 x9 x10) (View.ld x6 r0_8)⟩]

/-- Its stores tile the buffer (checked by evaluation), so they cover it. -/
theorem cover0_18 (p0 : Vec F S512x128 .bf16) (y : S512x128.Idx) :
    ∃ pc ∈ ([⟨r0_9, p0⟩] : List (View.Piece (Elt F) S512x128 .bf16)), y ∈ pc.1.set :=
  View.cover_of_tiled [⟨r0_9, p0⟩] S512x128.size (by rfl) y

/-- Window 19's staging buffer after the body, from the input windows' blocks: its 1 store as pieces, LAST
    FIRST (Lib/Pipeline/FrameBody.lean `View.canon`; the payloads are the skeleton's and the values stated above). -/
def out0_19 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S512x128 .f32 :=
  View.canon [⟨r0_9, k0_pay1 (k0_pay17 (k0_pay19 x0 x1 x2 x3 x4 x5 x6 x7 x8 x9 x10) (View.ld x7 r0_8)) k0_pay18⟩]

/-- Its stores tile the buffer (checked by evaluation), so they cover it. -/
theorem cover0_19 (p0 : Vec F S512x128 .f32) (y : S512x128.Idx) :
    ∃ pc ∈ ([⟨r0_9, p0⟩] : List (View.Piece (Elt F) S512x128 .f32)), y ∈ pc.1.set :=
  View.cover_of_tiled [⟨r0_9, p0⟩] S512x128.size (by rfl) y

/-- Window 20's staging buffer after the body, from the input windows' blocks: its 1 store as pieces, LAST
    FIRST (Lib/Pipeline/FrameBody.lean `View.canon`; the payloads are the skeleton's and the values stated above). -/
def out0_20 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S512x1024 .f32 :=
  View.canon [⟨r0_0, k0_pay2 (k0_pay19 x0 x1 x2 x3 x4 x5 x6 x7 x8 x9 x10) (View.ld x8 r0_2)⟩]

/-- Its stores tile the buffer (checked by evaluation), so they cover it. -/
theorem cover0_20 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

/-- Window 21's staging buffer after the body, from the input windows' blocks: its 1 store as pieces, LAST
    FIRST (Lib/Pipeline/FrameBody.lean `View.canon`; the payloads are the skeleton's and the values stated above). -/
def out0_21 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S512x1024 .f32 :=
  View.canon [⟨r0_0, k0_pay3 (k0_pay19 x0 x1 x2 x3 x4 x5 x6 x7 x8 x9 x10) (View.ld x9 r0_2)⟩]

/-- Its stores tile the buffer (checked by evaluation), so they cover it. -/
theorem cover0_21 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

/-- Window 22's staging buffer after the body, from the input windows' blocks: its 1 store as pieces, LAST
    FIRST (Lib/Pipeline/FrameBody.lean `View.canon`; the payloads are the skeleton's and the values stated above). -/
def out0_22 (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S512x1024 .f32 :=
  View.canon [⟨r0_0, k0_pay4 (k0_pay19 x0 x1 x2 x3 x4 x5 x6 x7 x8 x9 x10) (View.ld x10 r0_2)⟩]

/-- Its stores tile the buffer (checked by evaluation), so they cover it. -/
theorem cover0_22 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`*_eq_skeleton`), which `sl_exec` runs (Lib/Exec.lean), through every part call. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S512x1024 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S512x256 .bf16) (harg15 : arg15.IsWhole) (arg16 : Memref sig .tc .vmem S512x256 .bf16) (harg16 : arg16.IsWhole) (arg17 : Memref sig .tc .vmem S512x512 .bf16) (harg17 : arg17.IsWhole) (arg18 : Memref sig .tc .vmem S512x128 .bf16) (harg18 : arg18.IsWhole) (arg19 : Memref sig .tc .vmem S512x128 .bf16) (harg19 : arg19.IsWhole) (arg20 : Memref sig .tc .vmem S512x128 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole)
    (x0 : Vec F S512x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10) ∗ owns (c : Thread nD τ) arg14 fullShare (out0_13 x0 x1 x2 x3 x4 x5 x6 x7 x8 x9 x10) ∗ owns (c : Thread nD τ) arg15 fullShare (out0_14 x0 x1 x2 x3 x4 x5 x6 x7 x8 x9 x10) ∗ owns (c : Thread nD τ) arg16 fullShare (out0_15 x0 x1 x2 x3 x4 x5 x6 x7 x8 x9 x10) ∗ owns (c : Thread nD τ) arg17 fullShare (out0_16 x0 x1 x2 x3 x4 x5 x6 x7 x8 x9 x10) ∗ owns (c : Thread nD τ) arg18 fullShare (out0_17 x0 x1 x2 x3 x4 x5 x6 x7 x8 x9 x10) ∗ owns (c : Thread nD τ) arg19 fullShare (out0_18 x0 x1 x2 x3 x4 x5 x6 x7 x8 x9 x10) ∗ owns (c : Thread nD τ) arg20 fullShare (out0_19 x0 x1 x2 x3 x4 x5 x6 x7 x8 x9 x10) ∗ owns (c : Thread nD τ) arg21 fullShare (out0_20 x0 x1 x2 x3 x4 x5 x6 x7 x8 x9 x10) ∗ owns (c : Thread nD τ) arg22 fullShare (out0_21 x0 x1 x2 x3 x4 x5 x6 x7 x8 x9 x10) ∗ owns (c : Thread nD τ) arg23 fullShare (out0_22 x0 x1 x2 x3 x4 x5 x6 x7 x8 x9 x10)) -∗ K ⟨⟩))
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_proj_eq_skeleton]; unfold cc0_proj_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _ _)).trans ?_
    rfl
  isplitl [H13]
  · iexists _; isplitr
    swap; · iexact H13
    ipureintro
    refine (View.read_writes_eq_canon _ _ _ (cover0_13 _ _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  iexists _; isplitr
  swap; · iexact H22
  ipureintro
  refine (View.read_writes_eq_canon _ _ _ (cover0_22 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨_ + 23, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_Kernel4`'s statement (Defs.lean) at any `F` — Proof.lean cites it at `Bits`:
    `theorem Cert.Proof.claim : Cert.Claim := ⟨Cert.Kernel4.Gen.facts, fun m ρ _ => Cert.Kernel4.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Proj.Bits

end
-- ==== Proof.ProjClaim.lean ====
/- The claims of the call that starts the layer (on the prompt). -/
module

public import proofs.«01_k».proof.Defs
public import proofs.«01_k».proof.Proof.Proj
public import proofs.«01_k».proof.Proof.ProjHeads
public import proofs.«01_k».proof.Proof.ProjBits

@[expose] public section

noncomputable section

namespace Cert.Proj

open Idealize.ShloMosaic Idealize.ShloMosaic.TcCoe Idealize.SL.Sem

/-- The floating-point program runs to the end and leaves its arguments as they were. -/
theorem quiescent_kernel : Cert.quiescent_Kernel4 := fun m ρ _ =>
  Cert.Proj.Bits.frame m ρ

/-- So does its idealization. -/
theorem quiescent_ideal : Cert.quiescent_Kernel4Ideal := fun m ρ _ => frame m ρ

/-- And the reference. -/
theorem quiescent_reference : Cert.quiescent_Reference4Ideal := fun m ρ _ =>
  (θ_run Cert.Reference4Ideal.defs _ _).mono
    (fun r h => ⟨fun c => (h c).2.2.2.2.2.2.2.2.2.2.2.2, sem_eq_zero_of_no_sems (by decide) r.2⟩)
    (run_stages m ρ)

/-- Kernel and reference leave the same twelve arrays, for every argument. -/
theorem same_result : Cert.algebraic_Kernel4Ideal_Reference4Ideal := by
  pair_intro
  · run_from run_blocks m g
  · refine (θ_run Cert.Reference4Ideal.defs _ _).mono (fun r h c => ?_) (run_stages m' g')
    obtain ⟨h0, h1, h2⟩ := hagree c
    have hZ : refZm m' c = target m c := by
      show refZ _ _ _ = refZ _ _ _
      rw [h0, h1, h2]
    obtain ⟨r11, r12, r13, r14, r15, r16, r17, r18, r19, r20, r21, r22, kept⟩ := h c
    rw [hZ] at r11 r12 r13 r14 r15 r16 r17 r18 r19 r20 r21 r22
    exact ⟨r11.trans (final11 m c).symm, r12.trans (final12 m c).symm, r13.trans (final13 m c).symm,
      r14.trans (final14 m c).symm, r15.trans (final15 m c).symm, r16.trans (final16 m c).symm,
      r17.trans (final17 m c).symm, r18.trans (final18 m c).symm, r19.trans (final19 m c).symm,
      r20.trans (final20 m c).symm, r21.trans (final21 m c).symm, r22.trans (final22 m c).symm, kept⟩

end Cert.Proj

end
-- ==== Proof.ProjSampleRef.lean ====
/- The reference of the call that starts the layer (on the sample), cut into its stages. -/
module

public import proofs.«01_k».proof.Proof.Gen.Reference5Ideal.Run
public import Idealize.ShloMosaic.PureOps.Ideal

@[expose] public section

set_option maxRecDepth 16384

noncomputable section

namespace Cert.ProjSample

open Idealize.ShloMosaic Idealize.ShloMosaic.TcCoe Idealize.SL.Sem
open Cert.Reference5Ideal Cert.Reference5Ideal.Gen

/-- `rms_norm`. -/
def refNorm (X : FVec Ideal S32x8x1024 .f32) (G : FVec Ideal S1024 .f32) : FVec Ideal S32x8x1024 .f32 :=
  mulf (mulf X (broadcastInDim S32x8x1024 ![0, 1, 2] bcast_S32x8x1_S32x8x1024_0_1_2
      (Host.rsqrt (addf (Host.divf (broadcastInDim S32x8x1 ![0, 1] bcast_S32x8_S32x8x1_0_1
          (Host.reduceAdd (mulf X X) (constant S_ .f32 0x00000000#32) reducesTo_S32x8x1024_S32x8_d2 h_S_))
        (broadcastInDim S32x8x1 ![] bcast_S_S32x8x1 (constant S_ .f32 0x44800000#32)))
        (broadcastInDim S32x8x1 ![] bcast_S_S32x8x1 (constant S_ .f32 0x358637BD#32))))))
    (broadcastInDim S32x8x1024 ![0, 1, 2] bcast_S1x1x1024_S32x8x1024_0_1_2 (broadcastInDim S1x1x1024 ![2] bcast_S1024_S1x1x1024_2 G))

/-- The one wide product that all the parts are columns of. -/
def refZ (X : FVec Ideal S32x8x1024 .f32) (G : FVec Ideal S1024 .f32) (W : FVec Ideal S1024x5192 .f32) :
    FVec Ideal S32x8x5192 .f32 :=
  Host.dotGeneral dot_S32x8x1024_S1024x5192_S32x8x5192_2_0_01_1_n_n none (refNorm X G) W

/-- The queries, scaled. -/
def refQ (Z : FVec Ideal S32x8x5192 .f32) : FVec Ideal S32x8x1024 .bf16 :=
  truncf .bf16 (mulf (extractStridedSlice S32x8x1024 ![0, 0, 0] Z slices_S32x8x5192_S32x8x1024_0_0_0)
    (broadcastInDim S32x8x1024 ![] bcast_S_S32x8x1024 (constant S_ .f32 0x3E0293EE#32))) bitsLt_bf16_f32

/-- The keys. -/
def refK (Z : FVec Ideal S32x8x5192 .f32) : FVec Ideal S32x8x256 .f32 :=
  extractStridedSlice S32x8x256 ![0, 0, 1024] Z slices_S32x8x5192_S32x8x256_0_0_1024

/-- The values. -/
def refV (Z : FVec Ideal S32x8x5192 .f32) : FVec Ideal S32x8x256 .f32 :=
  extractStridedSlice S32x8x256 ![0, 0, 1280] Z slices_S32x8x5192_S32x8x256_0_0_1280

/-- The indexer's queries. -/
def refQi (Z : FVec Ideal S32x8x5192 .f32) : FVec Ideal S32x8x512 .bf16 :=
  truncf .bf16 (extractStridedSlice S32x8x512 ![0, 0, 1536] Z slices_S32x8x5192_S32x8x512_0_0_1536) bitsLt_bf16_f32

/-- The indexer's key. -/
def refKi (Z : FVec Ideal S32x8x5192 .f32) : FVec Ideal S32x8x64 .f32 :=
  extractStridedSlice S32x8x64 ![0, 0, 2048] Z slices_S32x8x5192_S32x8x64_0_0_2048

/-- The zeros that fill a row of the indexer's keys. -/
def refZero : FVec Ideal S32x8x64 .bf16 :=
  broadcastInDim S32x8x64 ![] bcast_S_S32x8x64 (constant S_ .bf16 0x0000#16)

/-- The indexer's key in the first half of a row. -/
def refKie (Z : FVec Ideal S32x8x5192 .f32) : FVec Ideal S32x8x128 .bf16 :=
  concatenate S32x8x128 2 [⟨S32x8x64, truncf .bf16 (refKi Z) bitsLt_bf16_f32⟩, ⟨S32x8x64, refZero⟩]
    concatenates_S32x8x64_S32x8x64_S32x8x128_d2

/-- The indexer's key in the second half of a row. -/
def refKio (Z : FVec Ideal S32x8x5192 .f32) : FVec Ideal S32x8x128 .bf16 :=
  concatenate S32x8x128 2 [⟨S32x8x64, refZero⟩, ⟨S32x8x64, truncf .bf16 (refKi Z) bitsLt_bf16_f32⟩]
    concatenates_S32x8x64_S32x8x64_S32x8x128_d2

/-- The indexer's head weights, scaled. -/
def refWi (Z : FVec Ideal S32x8x5192 .f32) : FVec Ideal S32x8x8 .f32 :=
  mulf (extractStridedSlice S32x8x8 ![0, 0, 2112] Z slices_S32x8x5192_S32x8x8_0_0_2112)
    (broadcastInDim S32x8x8 ![] bcast_S_S32x8x8 (constant S_ .f32 0x3D3504F3#32))

/-- The indexer's key, its head weights, and zeros to the end of the row. -/
def refKw (Z : FVec Ideal S32x8x5192 .f32) : FVec Ideal S32x8x128 .f32 :=
  concatenate S32x8x128 2 [⟨S32x8x64, refKi Z⟩, ⟨S32x8x8, refWi Z⟩,
    ⟨S32x8x56, broadcastInDim S32x8x56 ![] bcast_S_S32x8x56 (constant S_ .f32 0x00000000#32)⟩]
    concatenates_S32x8x64_S32x8x8_S32x8x56_S32x8x128_d2

/-- The input of the linear recurrence. -/
def refU (Z : FVec Ideal S32x8x5192 .f32) : FVec Ideal S32x8x1024 .f32 :=
  extractStridedSlice S32x8x1024 ![0, 0, 2120] Z slices_S32x8x5192_S32x8x1024_0_0_2120

/-- The gate of the attention branch. -/
def refGa (Z : FVec Ideal S32x8x5192 .f32) : FVec Ideal S32x8x1024 .f32 :=
  extractStridedSlice S32x8x1024 ![0, 0, 3144] Z slices_S32x8x5192_S32x8x1024_0_0_3144

/-- The gate of the recurrence branch. -/
def refGb (Z : FVec Ideal S32x8x5192 .f32) : FVec Ideal S32x8x1024 .f32 :=
  extractStridedSlice S32x8x1024 ![0, 0, 4168] Z slices_S32x8x5192_S32x8x1024_0_0_4168

/-- The wide product over the program's own arguments. -/
abbrev refZm (m : (ℓ : Loc nD τ sig) → Buf (Elt Ideal) ℓ) (c : Dev nD) : FVec Ideal S32x8x5192 .f32 :=
  refZ (m ((c.tc : Thread nD τ).loc main_arg0)) (m ((c.tc : Thread nD τ).loc main_arg1)) (m ((c.tc : Thread nD τ).loc main_arg2))

set_option maxHeartbeats 3200000 in
/-- The reference's run with each result as its stage, the rows laid out one after the other. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = shapeCast S256x1024 (refQ (refZm m c)) shapeCasts_S32x8x1024_S256x1024
      ∧ r.2.mem ((c.tc : Thread nD τ).loc main_v32) = shapeCast S512x128 (refK (refZm m c)) shapeCasts_S32x8x256_S512x128
      ∧ r.2.mem ((c.tc : Thread nD τ).loc main_v33) = shapeCast S512x128 (refV (refZm m c)) shapeCasts_S32x8x256_S512x128
      ∧ r.2.mem ((c.tc : Thread nD τ).loc main_v35)
          = shapeCast S256x256 (truncf .bf16 (refK (refZm m c)) bitsLt_bf16_f32) shapeCasts_S32x8x256_S256x256
      ∧ r.2.mem ((c.tc : Thread nD τ).loc main_v37)
          = shapeCast S256x256 (truncf .bf16 (refV (refZm m c)) bitsLt_bf16_f32) shapeCasts_S32x8x256_S256x256
      ∧ r.2.mem ((c.tc : Thread nD τ).loc main_v39) = shapeCast S256x512 (refQi (refZm m c)) shapeCasts_S32x8x512_S256x512
      ∧ r.2.mem ((c.tc : Thread nD τ).loc main_v41) = shapeCast S256x128 (refKie (refZm m c)) shapeCasts_S32x8x128_S256x128
      ∧ r.2.mem ((c.tc : Thread nD τ).loc main_v43) = shapeCast S256x128 (refKio (refZm m c)) shapeCasts_S32x8x128_S256x128
      ∧ r.2.mem ((c.tc : Thread nD τ).loc main_v45) = shapeCast S256x128 (refKw (refZm m c)) shapeCasts_S32x8x128_S256x128
      ∧ r.2.mem ((c.tc : Thread nD τ).loc main_v46) = shapeCast S256x1024 (refU (refZm m c)) shapeCasts_S32x8x1024_S256x1024
      ∧ r.2.mem ((c.tc : Thread nD τ).loc main_v47) = shapeCast S256x1024 (refGa (refZm m c)) shapeCasts_S32x8x1024_S256x1024
      ∧ r.2.mem ((c.tc : Thread nD τ).loc main_v48) = shapeCast S256x1024 (refGb (refZm m c)) shapeCasts_S32x8x1024_S256x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold refZm refQ refQi refKie refKio refKw refWi refZero refKi refK refV refU refGa refGb refZ refNorm
  exact Cert.Reference5Ideal.Value.run (F := Ideal) m ρ

end Cert.ProjSample

end
-- ==== Proof.ProjSampleRow.lean ====
/- One row of the call that starts the layer (on the sample): what the kernel's body computes on it is what the reference computes on it. -/
module

public import proofs.«01_k».proof.Proof.ProjSampleRef
public import proofs.«01_k».proof.Proof.Gen.Kernel5Ideal.Skeleton
public import Idealize.ShloMosaic.Lib.Pointwise

@[expose] public section

set_option maxRecDepth 16384

noncomputable section

namespace Cert.ProjSample

open Idealize.ShloMosaic Idealize.ShloMosaic.TcCoe Idealize.SL.Sem
open Cert.Reference5Ideal Cert.Reference5Ideal.Gen

/-- The normalised row. -/
theorem norm_at (x : FVec Ideal Cert.Kernel5Ideal.S256x1024 .f32) (g : FVec Ideal Cert.Kernel5Ideal.S1x1024 .f32)
    (X : FVec Ideal S32x8x1024 .f32) (G : FVec Ideal S1024 .f32) (r : Fin 256) (b : Fin 32) (s : Fin 8)
    (hx : ∀ k : Fin 1024, x (ix2 r k) = X (ix3 b s k)) (hg : ∀ k : Fin 1024, g (ix2 0 k) = G (ix1 k)) (k : Fin 1024) :
    Cert.Kernel5Ideal.Gen.k0_pay5 (F := Ideal) x g (ix2 r k) = refNorm X G (ix3 b s k) := by
  pointwise [Cert.Kernel5Ideal.Gen.k0_pay5, refNorm]
  simp only [hx, hg]

/-- One entry of the wide product. -/
theorem z_at (X : FVec Ideal S32x8x1024 .f32) (G : FVec Ideal S1024 .f32) (W : FVec Ideal S1024x5192 .f32)
    (b : Fin 32) (s : Fin 8) (j : Fin 5192) :
    refZ X G W (ix3 b s j) = ∑ k : Fin 1024, refNorm X G (ix3 b s k) * W (ix2 k j) := by
  pointwise [refZ]

variable (n : FVec Ideal Cert.Kernel5Ideal.S256x1024 .bf16) (X : FVec Ideal S32x8x1024 .f32) (G : FVec Ideal S1024 .f32)
    (W : FVec Ideal S1024x5192 .f32) (r : Fin 256) (b : Fin 32) (s : Fin 8)

/-- The queries. -/
theorem q_at (x : FVec Ideal Cert.Kernel5Ideal.S256x1024 .f32) (g : FVec Ideal Cert.Kernel5Ideal.S1x1024 .f32)
    (w : FVec Ideal Cert.Kernel5Ideal.S1024x1024 .bf16)
    (hN : ∀ k : Fin 1024, Cert.Kernel5Ideal.Gen.k0_pay5 (F := Ideal) x g (ix2 r k) = refNorm X G (ix3 b s k))
    (hw : ∀ k j : Fin 1024, w (ix2 k j) = W (ix2 k ⟨j.val, by omega⟩)) (j : Fin 1024) :
    Cert.Kernel5Ideal.Gen.k0_pay6 (F := Ideal) x g w (ix2 r j) = refQ (refZ X G W) (ix3 b s j) := by
  unfold Cert.Kernel5Ideal.Gen.k0_pay6
  generalize Cert.Kernel5Ideal.Gen.k0_pay5 (F := Ideal) x g = n at hN ⊢
  pointwise [refQ, z_at]
  simp only [hN, hw]

/-- The keys and values, side by side. -/
theorem kv_at (x : FVec Ideal Cert.Kernel5Ideal.S256x1024 .f32) (g : FVec Ideal Cert.Kernel5Ideal.S1x1024 .f32)
    (w : FVec Ideal Cert.Kernel5Ideal.S1024x512 .bf16)
    (hN : ∀ k : Fin 1024, Cert.Kernel5Ideal.Gen.k0_pay5 (F := Ideal) x g (ix2 r k) = refNorm X G (ix3 b s k))
    (hw : ∀ (k : Fin 1024) (j : Fin 512), w (ix2 k j) = W (ix2 k ⟨1024 + j.val, by omega⟩)) (j : Fin 512) :
    Cert.Kernel5Ideal.Gen.k0_pay7 (F := Ideal) x g w (ix2 r j) = refZ X G W (ix3 b s ⟨1024 + j.val, by omega⟩) := by
  unfold Cert.Kernel5Ideal.Gen.k0_pay7
  generalize Cert.Kernel5Ideal.Gen.k0_pay5 (F := Ideal) x g = n at hN ⊢
  pointwise [z_at]
  simp only [hN, hw]

/-- The indexer's queries. -/
theorem qi_at (w : FVec Ideal Cert.Kernel5Ideal.S1024x512 .bf16)
    (hN : ∀ k : Fin 1024, n (ix2 r k) = refNorm X G (ix3 b s k))
    (hw : ∀ (k : Fin 1024) (j : Fin 512), w (ix2 k j) = W (ix2 k ⟨1536 + j.val, by omega⟩)) (j : Fin 512) :
    Cert.Kernel5Ideal.Gen.k0_pay14 (F := Ideal) n w (ix2 r j) = refQi (refZ X G W) (ix3 b s j) := by
  pointwise [Cert.Kernel5Ideal.Gen.k0_pay14, refQi, z_at]
  simp only [hN, hw]

/-- The indexer's key in the first half of its row. -/
theorem kie_at (w : FVec Ideal Cert.Kernel5Ideal.S1024x128 .bf16)
    (hN : ∀ k : Fin 1024, n (ix2 r k) = refNorm X G (ix3 b s k))
    (hw : ∀ (k : Fin 1024) (j : Fin 128) (h : j.val < 64), w (ix2 k j) = W (ix2 k ⟨2048 + j.val, by omega⟩))
    (hz : ∀ (k : Fin 1024) (j : Fin 128), ¬ j.val < 64 → w (ix2 k j) = (0 : EReal)) (j : Fin 128) :
    Cert.Kernel5Ideal.Gen.k0_pay15 (F := Ideal) n w (ix2 r j) = refKie (refZ X G W) (ix3 b s j) := by
  by_cases h : j.val < 64
  · pointwise [Cert.Kernel5Ideal.Gen.k0_pay15, refKie, refKi, refZero, z_at, h]
    simp only [hN, hw _ _ h]
  · pointwise [Cert.Kernel5Ideal.Gen.k0_pay15, refKie, refKi, refZero, z_at, h]
    simp only [hN, hz _ _ h, mul_zero, Finset.sum_const_zero]

/-- The indexer's key in the second half of its row. -/
theorem kio_at (w : FVec Ideal Cert.Kernel5Ideal.S1024x128 .bf16)
    (hN : ∀ k : Fin 1024, n (ix2 r k) = refNorm X G (ix3 b s k))
    (hw : ∀ (k : Fin 1024) (j : Fin 128) (h : ¬ j.val < 64), w (ix2 k j) = W (ix2 k ⟨2048 + (j.val - 64), by omega⟩))
    (hz : ∀ (k : Fin 1024) (j : Fin 128), j.val < 64 → w (ix2 k j) = (0 : EReal)) (j : Fin 128) :
    Cert.Kernel5Ideal.Gen.k0_pay16 (F := Ideal) n w (ix2 r j) = refKio (refZ X G W) (ix3 b s j) := by
  by_cases h : j.val < 64
  · pointwise [Cert.Kernel5Ideal.Gen.k0_pay16, refKio, refKi, refZero, z_at, h]
    simp only [hN, hz _ _ h, mul_zero, Finset.sum_const_zero]
  · pointwise [Cert.Kernel5Ideal.Gen.k0_pay16, refKio, refKi, refZero, z_at, h]
    simp only [hN, hw _ _ h]

/-- Which lanes of a row are scaled: those from the 64th on. -/
theorem lane : ∀ j : Fin 128, IntOp.cmpi CmpIPredicate.sge (BitVec.ofNat 32 j.val) 64#32 = if j.val < 64 then 0#1 else 1#1 := by
  decide +kernel

/-- The indexer's key, its head weights, scaled, and zeros. -/
theorem kw_at (w : FVec Ideal Cert.Kernel5Ideal.S1024x128 .bf16)
    (hN : ∀ k : Fin 1024, n (ix2 r k) = refNorm X G (ix3 b s k))
    (hw : ∀ (k : Fin 1024) (j : Fin 128) (h : j.val < 72), w (ix2 k j) = W (ix2 k ⟨2048 + j.val, by omega⟩))
    (hz : ∀ (k : Fin 1024) (j : Fin 128), ¬ j.val < 72 → w (ix2 k j) = (0 : EReal)) (j : Fin 128) :
    Cert.Kernel5Ideal.Gen.k0_pay1 (F := Ideal) (Cert.Kernel5Ideal.Gen.k0_pay17 n w) Cert.Kernel5Ideal.Gen.k0_pay18 (ix2 r j)
      = refKw (refZ X G W) (ix3 b s j) := by
  by_cases h : j.val < 64
  · pointwise [Cert.Kernel5Ideal.Gen.k0_pay1, Cert.Kernel5Ideal.Gen.k0_pay17, Cert.Kernel5Ideal.Gen.k0_pay18, refKw, refKi, refWi, z_at, h]
    simp only [hN, hw _ _ (show j.val < 72 by omega), lane, h, if_true, Scalar.select]
    rfl
  · by_cases h' : j.val < 72
    · pointwise [Cert.Kernel5Ideal.Gen.k0_pay1, Cert.Kernel5Ideal.Gen.k0_pay17, Cert.Kernel5Ideal.Gen.k0_pay18, refKw, refKi, refWi, z_at, h, h']
      have e : (⟨2112 + (j.val - 64), by omega⟩ : Fin 5192) = ⟨2048 + j.val, by omega⟩ := Fin.ext (by show 2112 + (j.val - 64) = 2048 + j.val; omega)
      simp only [hN, hw _ _ h', lane, h, if_false, Scalar.select, show j.val - 64 < 8 by omega, dif_pos, e]
      rfl
    · pointwise [Cert.Kernel5Ideal.Gen.k0_pay1, Cert.Kernel5Ideal.Gen.k0_pay17, Cert.Kernel5Ideal.Gen.k0_pay18, refKw, refKi, refWi, z_at, h, h']
      simp only [hN, hz _ _ h', mul_zero, zero_mul, Finset.sum_const_zero, show ¬ j.val - 64 < 8 by omega, dif_neg, not_false_eq_true, Scalar.select, ite_self]

/-- The input of the linear recurrence. -/
theorem u_at (w : FVec Ideal Cert.Kernel5Ideal.S1024x1024 .bf16)
    (hN : ∀ k : Fin 1024, n (ix2 r k) = refNorm X G (ix3 b s k))
    (hw : ∀ k j : Fin 1024, w (ix2 k j) = W (ix2 k ⟨2120 + j.val, by omega⟩)) (j : Fin 1024) :
    Cert.Kernel5Ideal.Gen.k0_pay2 (F := Ideal) n w (ix2 r j) = refU (refZ X G W) (ix3 b s j) := by
  pointwise [Cert.Kernel5Ideal.Gen.k0_pay2, refU, z_at]
  simp only [hN, hw]

/-- The gate of the attention branch. -/
theorem ga_at (w : FVec Ideal Cert.Kernel5Ideal.S1024x1024 .bf16)
    (hN : ∀ k : Fin 1024, n (ix2 r k) = refNorm X G (ix3 b s k))
    (hw : ∀ k j : Fin 1024, w (ix2 k j) = W (ix2 k ⟨3144 + j.val, by omega⟩)) (j : Fin 1024) :
    Cert.Kernel5Ideal.Gen.k0_pay3 (F := Ideal) n w (ix2 r j) = refGa (refZ X G W) (ix3 b s j) := by
  pointwise [Cert.Kernel5Ideal.Gen.k0_pay3, refGa, z_at]
  simp only [hN, hw]

/-- The gate of the recurrence branch. -/
theorem gb_at (w : FVec Ideal Cert.Kernel5Ideal.S1024x1024 .bf16)
    (hN : ∀ k : Fin 1024, n (ix2 r k) = refNorm X G (ix3 b s k))
    (hw : ∀ k j : Fin 1024, w (ix2 k j) = W (ix2 k ⟨4168 + j.val, by omega⟩)) (j : Fin 1024) :
    Cert.Kernel5Ideal.Gen.k0_pay4 (F := Ideal) n w (ix2 r j) = refGb (refZ X G W) (ix3 b s j) := by
  pointwise [Cert.Kernel5Ideal.Gen.k0_pay4, refGb, z_at]
  simp only [hN, hw]

/-- The keys of head 0. -/
theorem k0_at {x : FVec Ideal Cert.Kernel5Ideal.S256x1024 .f32} {g : FVec Ideal Cert.Kernel5Ideal.S1x1024 .f32} {w : FVec Ideal Cert.Kernel5Ideal.S1024x512 .bf16} (Z : FVec Ideal S32x8x5192 .f32) (r : Fin 256) (b : Fin 32) (s : Fin 8)
    (hv : ∀ j : Fin 512, Cert.Kernel5Ideal.Gen.k0_pay7 (F := Ideal) x g w (ix2 r j) = Z (ix3 b s ⟨1024 + j.val, by omega⟩)) (j : Fin 128) :
    Cert.Kernel5Ideal.Gen.k0_pay8 (F := Ideal) x g w (ix2 r j) = refK Z (ix3 b s ⟨j.val, by omega⟩) := by
  unfold Cert.Kernel5Ideal.Gen.k0_pay8
  generalize Cert.Kernel5Ideal.Gen.k0_pay7 (F := Ideal) x g w = v at hv ⊢
  pointwise [refK]
  rw [hv]

/-- The keys of head 1. -/
theorem k1_at {x : FVec Ideal Cert.Kernel5Ideal.S256x1024 .f32} {g : FVec Ideal Cert.Kernel5Ideal.S1x1024 .f32} {w : FVec Ideal Cert.Kernel5Ideal.S1024x512 .bf16} (Z : FVec Ideal S32x8x5192 .f32) (r : Fin 256) (b : Fin 32) (s : Fin 8)
    (hv : ∀ j : Fin 512, Cert.Kernel5Ideal.Gen.k0_pay7 (F := Ideal) x g w (ix2 r j) = Z (ix3 b s ⟨1024 + j.val, by omega⟩)) (j : Fin 128) :
    Cert.Kernel5Ideal.Gen.k0_pay10 (F := Ideal) x g w (ix2 r j) = refK Z (ix3 b s ⟨128 + j.val, by omega⟩) := by
  unfold Cert.Kernel5Ideal.Gen.k0_pay10
  generalize Cert.Kernel5Ideal.Gen.k0_pay7 (F := Ideal) x g w = v at hv ⊢
  pointwise [refK]
  rw [hv]

/-- The values of head 0. -/
theorem v0_at {x : FVec Ideal Cert.Kernel5Ideal.S256x1024 .f32} {g : FVec Ideal Cert.Kernel5Ideal.S1x1024 .f32} {w : FVec Ideal Cert.Kernel5Ideal.S1024x512 .bf16} (Z : FVec Ideal S32x8x5192 .f32) (r : Fin 256) (b : Fin 32) (s : Fin 8)
    (hv : ∀ j : Fin 512, Cert.Kernel5Ideal.Gen.k0_pay7 (F := Ideal) x g w (ix2 r j) = Z (ix3 b s ⟨1024 + j.val, by omega⟩)) (j : Fin 128) :
    Cert.Kernel5Ideal.Gen.k0_pay9 (F := Ideal) x g w (ix2 r j) = refV Z (ix3 b s ⟨j.val, by omega⟩) := by
  unfold Cert.Kernel5Ideal.Gen.k0_pay9
  generalize Cert.Kernel5Ideal.Gen.k0_pay7 (F := Ideal) x g w = v at hv ⊢
  pointwise [refV]
  rw [hv]
  exact congrArg (fun q : Fin 5192 => Z (ix3 b s q)) (Fin.ext (by show 1024 + (256 + j.val) = 1280 + (j.val); omega))

/-- The values of head 1. -/
theorem v1_at (v : FVec Ideal Cert.Kernel5Ideal.S256x512 .f32) (Z : FVec Ideal S32x8x5192 .f32) (r : Fin 256) (b : Fin 32) (s : Fin 8)
    (hv : ∀ j : Fin 512, v (ix2 r j) = Z (ix3 b s ⟨1024 + j.val, by omega⟩)) (j : Fin 128) :
    Cert.Kernel5Ideal.Gen.k0_pay11 (F := Ideal) v (ix2 r j) = refV Z (ix3 b s ⟨128 + j.val, by omega⟩) := by
  pointwise [Cert.Kernel5Ideal.Gen.k0_pay11, refV]
  rw [hv]
  exact congrArg (fun q : Fin 5192 => Z (ix3 b s q)) (Fin.ext (by show 1024 + (384 + j.val) = 1280 + (128 + j.val); omega))

/-- The keys of both heads, rounded. -/
theorem kb_at (v : FVec Ideal Cert.Kernel5Ideal.S256x512 .f32) (Z : FVec Ideal S32x8x5192 .f32) (r : Fin 256) (b : Fin 32) (s : Fin 8)
    (hv : ∀ j : Fin 512, v (ix2 r j) = Z (ix3 b s ⟨1024 + j.val, by omega⟩)) (j : Fin 256) :
    Cert.Kernel5Ideal.Gen.k0_pay12 (F := Ideal) v (ix2 r j) = (truncf .bf16 (refK Z) bitsLt_bf16_f32 : FVec Ideal S32x8x256 .bf16) (ix3 b s j) := by
  pointwise [Cert.Kernel5Ideal.Gen.k0_pay12, refK]
  rw [hv]

/-- The values of both heads, rounded. -/
theorem vb_at (v : FVec Ideal Cert.Kernel5Ideal.S256x512 .f32) (Z : FVec Ideal S32x8x5192 .f32) (r : Fin 256) (b : Fin 32) (s : Fin 8)
    (hv : ∀ j : Fin 512, v (ix2 r j) = Z (ix3 b s ⟨1024 + j.val, by omega⟩)) (j : Fin 256) :
    Cert.Kernel5Ideal.Gen.k0_pay13 (F := Ideal) v (ix2 r j) = (truncf .bf16 (refV Z) bitsLt_bf16_f32 : FVec Ideal S32x8x256 .bf16) (ix3 b s j) := by
  pointwise [Cert.Kernel5Ideal.Gen.k0_pay13, refV]
  rw [hv]
  exact congrArg (fun q : Fin 5192 => Z (ix3 b s q)) (Fin.ext (by show 1024 + (256 + j.val) = 1280 + (j.val); omega))

end Cert.ProjSample

end
-- ==== Proof.ProjSampleRun.lean ====
/- The run of the call that starts the layer (ProjSample): what its body leaves in each output's buffer, its triple, the
   grid's run with every array it leaves named, and the frame. The rows of the two key and value heads are stored
   interleaved, every second row at a time. -/
module

public import proofs.«01_k».proof.Proof.Gen.Kernel5Ideal.Frame
public import proofs.«01_k».proof.Proof.Gen.Kernel5Ideal.Skeleton
public import Idealize.ShloMosaic.Lib.Claim
public import Idealize.ShloMosaic.Lib.Pointwise

@[expose] public section

set_option maxRecDepth 16384

noncomputable section

namespace Cert.ProjSample

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev r0_0 : Rect S256x1024 := Rect.unit (s := S256x1024) ![0, 0] S256x1024.size inb_S256x1024_S256x1024_0_0
abbrev r0_1 : Rect S1x1024 := Rect.unit (s := S1x1024) ![0, 0] S1x1024.size inb_S1x1024_S1x1024_0_0
abbrev r0_2 : Rect S1024x1024 := Rect.unit (s := S1024x1024) ![0, 0] S1024x1024.size inb_S1024x1024_S1024x1024_0_0
abbrev r0_3 : Rect S1024x512 := Rect.unit (s := S1024x512) ![0, 0] S1024x512.size inb_S1024x512_S1024x512_0_0
abbrev r0_4 : Rect S512x128 := ⟨(⟨![0, 0], S256x128.size, ![2, 1], inb_S512x128_S256x128_0_0_s_2_1⟩ : LoadRect S512x128), spos_2_1⟩
abbrev r0_5 : Rect S512x128 := ⟨(⟨![1, 0], S256x128.size, ![2, 1], inb_S512x128_S256x128_1_0_s_2_1⟩ : LoadRect S512x128), spos_2_1⟩
abbrev r0_6 : Rect S256x256 := Rect.unit (s := S256x256) ![0, 0] S256x256.size inb_S256x256_S256x256_0_0
abbrev r0_7 : Rect S256x512 := Rect.unit (s := S256x512) ![0, 0] S256x512.size inb_S256x512_S256x512_0_0
abbrev r0_8 : Rect S1024x128 := Rect.unit (s := S1024x128) ![0, 0] S1024x128.size inb_S1024x128_S1024x128_0_0
abbrev r0_9 : Rect S256x128 := Rect.unit (s := S256x128) ![0, 0] S256x128.size inb_S256x128_S256x128_0_0

/-- The two stores of every second row cover the buffer: a row is in the one of its parity. -/
theorem cover_parity (p0 p1 : Vec F S256x128 .f32) (y : S512x128.Idx) :
    ∃ pc ∈ ([⟨r0_5, p0⟩, ⟨r0_4, p1⟩] : List (View.Piece (Elt F) S512x128 .f32)), y ∈ pc.1.set := by
  have h0 : (y 0).val < 512 := (y 0).isLt
  rcases Nat.mod_two_eq_zero_or_one (y 0).val with h | h
  · refine ⟨⟨r0_4, p1⟩, by simp, r0_4.mem_set.mpr fun a => ?_⟩
    fin_cases a
    · exact ⟨(y 0).val / 2, by show _ < 256; omega, by show (y 0).val = 0 + 2 * ((y 0).val / 2); omega⟩
    · exact ⟨(y 1).val, (y 1).isLt, by show (y 1).val = 0 + 1 * (y 1).val; omega⟩
  · refine ⟨⟨r0_5, p0⟩, by simp, r0_5.mem_set.mpr fun a => ?_⟩
    fin_cases a
    · exact ⟨(y 0).val / 2, by show _ < 256; omega, by show (y 0).val = 1 + 2 * ((y 0).val / 2); omega⟩
    · exact ⟨(y 1).val, (y 1).isLt, by show (y 1).val = 0 + 1 * (y 1).val; omega⟩

/-! ## What the body leaves in each output window's buffer -/

/-! ### Values of the body that the stores' payloads, spelt out, would write more than once

    Each is a vector the body binds (often a part call's result), stated over the input windows' blocks and
    numbered on from the skeleton's payload functions, so that
    `out0_W` and the values after it name it instead of spelling it out. -/

def k0_pay19 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : FVec F S256x1024 .bf16 :=
  k0_pay5 (View.ld x0 r0_0) (View.ld x1 r0_1) -- `v16`
def k0_pay20 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : FVec F S256x512 .f32 :=
  k0_pay7 (View.ld x0 r0_0) (View.ld x1 r0_1) (View.ld x3 r0_3) -- `v26`

/-- Window 11's staging buffer after the body, from the input windows' blocks: its 1 store as pieces, LAST
    FIRST (Lib/Pipeline/FrameBody.lean `View.canon`; the payloads are the skeleton's and the values stated above). -/
def out0_11 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S256x1024 .bf16 :=
  View.canon [⟨r0_0, k0_pay6 (View.ld x0 r0_0) (View.ld x1 r0_1) (View.ld x2 r0_2)⟩]

/-- Its stores tile the buffer (checked by evaluation), so they cover it. -/
theorem cover0_11 (p0 : Vec F S256x1024 .bf16) (y : S256x1024.Idx) :
    ∃ pc ∈ ([⟨r0_0, p0⟩] : List (View.Piece (Elt F) S256x1024 .bf16)), y ∈ pc.1.set :=
  View.cover_of_tiled [⟨r0_0, p0⟩] S256x1024.size (by rfl) y

/-- Window 12's staging buffer after the body, from the input windows' blocks: its 2 stores as pieces, LAST
    FIRST (Lib/Pipeline/FrameBody.lean `View.canon`; the payloads are the skeleton's and the values stated above). -/
def out0_12 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S512x128 .f32 :=
  View.canon [⟨r0_5, k0_pay10 (View.ld x0 r0_0) (View.ld x1 r0_1) (View.ld x3 r0_3)⟩,
    ⟨r0_4, k0_pay8 (View.ld x0 r0_0) (View.ld x1 r0_1) (View.ld x3 r0_3)⟩]

/-- Its stores tile the buffer (checked by evaluation), so they cover it. -/
theorem cover0_12 (p0 : Vec F S256x128 .f32) (p1 : Vec F S256x128 .f32) (y : S512x128.Idx) :
    ∃ pc ∈ ([⟨r0_5, p0⟩, ⟨r0_4, p1⟩] : List (View.Piece (Elt F) S512x128 .f32)), y ∈ pc.1.set :=
  cover_parity p0 p1 y

/-- Window 13's staging buffer after the body, from the input windows' blocks: its 2 stores as pieces, LAST
    FIRST (Lib/Pipeline/FrameBody.lean `View.canon`; the payloads are the skeleton's and the values stated above). -/
def out0_13 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S512x128 .f32 :=
  View.canon [⟨r0_5, k0_pay11 (k0_pay20 x0 x1 x2 x3 x4 x5 x6 x7 x8 x9 x10)⟩,
    ⟨r0_4, k0_pay9 (View.ld x0 r0_0) (View.ld x1 r0_1) (View.ld x3 r0_3)⟩]

/-- Its stores tile the buffer (checked by evaluation), so they cover it. -/
theorem cover0_13 (p0 : Vec F S256x128 .f32) (p1 : Vec F S256x128 .f32) (y : S512x128.Idx) :
    ∃ pc ∈ ([⟨r0_5, p0⟩, ⟨r0_4, p1⟩] : List (View.Piece (Elt F) S512x128 .f32)), y ∈ pc.1.set :=
  cover_parity p0 p1 y

/-- Window 14's staging buffer after the body, from the input windows' blocks: its 1 store as pieces, LAST
    FIRST (Lib/Pipeline/FrameBody.lean `View.canon`; the payloads are the skeleton's and the values stated above). -/
def out0_14 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S256x256 .bf16 :=
  View.canon [⟨r0_6, k0_pay12 (k0_pay20 x0 x1 x2 x3 x4 x5 x6 x7 x8 x9 x10)⟩]

/-- Its stores tile the buffer (checked by evaluation), so they cover it. -/
theorem cover0_14 (p0 : Vec F S256x256 .bf16) (y : S256x256.Idx) :
    ∃ pc ∈ ([⟨r0_6, p0⟩] : List (View.Piece (Elt F) S256x256 .bf16)), y ∈ pc.1.set :=
  View.cover_of_tiled [⟨r0_6, p0⟩] S256x256.size (by rfl) y

/-- Window 15's staging buffer after the body, from the input windows' blocks: its 1 store as pieces, LAST
    FIRST (Lib/Pipeline/FrameBody.lean `View.canon`; the payloads are the skeleton's and the values stated above). -/
def out0_15 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S256x256 .bf16 :=
  View.canon [⟨r0_6, k0_pay13 (k0_pay20 x0 x1 x2 x3 x4 x5 x6 x7 x8 x9 x10)⟩]

/-- Its stores tile the buffer (checked by evaluation), so they cover it. -/
theorem cover0_15 (p0 : Vec F S256x256 .bf16) (y : S256x256.Idx) :
    ∃ pc ∈ ([⟨r0_6, p0⟩] : List (View.Piece (Elt F) S256x256 .bf16)), y ∈ pc.1.set :=
  View.cover_of_tiled [⟨r0_6, p0⟩] S256x256.size (by rfl) y

/-- Window 16's staging buffer after the body, from the input windows' blocks: its 1 store as pieces, LAST
    FIRST (Lib/Pipeline/FrameBody.lean `View.canon`; the payloads are the skeleton's and the values stated above). -/
def out0_16 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S256x512 .bf16 :=
  View.canon [⟨r0_7, k0_pay14 (k0_pay19 x0 x1 x2 x3 x4 x5 x6 x7 x8 x9 x10) (View.ld x4 r0_3)⟩]

/-- Its stores tile the buffer (checked by evaluation), so they cover it. -/
theorem cover0_16 (p0 : Vec F S256x512 .bf16) (y : S256x512.Idx) :
    ∃ pc ∈ ([⟨r0_7, p0⟩] : List (View.Piece (Elt F) S256x512 .bf16)), y ∈ pc.1.set :=
  View.cover_of_tiled [⟨r0_7, p0⟩] S256x512.size (by rfl) y

/-- Window 17's staging buffer after the body, from the input windows' blocks: its 1 store as pieces, LAST
    FIRST (Lib/Pipeline/FrameBody.lean `View.canon`; the payloads are the skeleton's and the values stated above). -/
def out0_17 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S256x128 .bf16 :=
  View.canon [⟨r0_9, k0_pay15 (k0_pay19 x0 x1 x2 x3 x4 x5 x6 x7 x8 x9 x10) (View.ld x5 r0_8)⟩]

/-- Its stores tile the buffer (checked by evaluation), so they cover it. -/
theorem cover0_17 (p0 : Vec F S256x128 .bf16) (y : S256x128.Idx) :
    ∃ pc ∈ ([⟨r0_9, p0⟩] : List (View.Piece (Elt F) S256x128 .bf16)), y ∈ pc.1.set :=
  View.cover_of_tiled [⟨r0_9, p0⟩] S256x128.size (by rfl) y

/-- Window 18's staging buffer after the body, from the input windows' blocks: its 1 store as pieces, LAST
    FIRST (Lib/Pipeline/FrameBody.lean `View.canon`; the payloads are the skeleton's and the values stated above). -/
def out0_18 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S256x128 .bf16 :=
  View.canon [⟨r0_9, k0_pay16 (k0_pay19 x0 x1 x2 x3 x4 x5 x6 x7 x8 x9 x10) (View.ld x6 r0_8)⟩]

/-- Its stores tile the buffer (checked by evaluation), so they cover it. -/
theorem cover0_18 (p0 : Vec F S256x128 .bf16) (y : S256x128.Idx) :
    ∃ pc ∈ ([⟨r0_9, p0⟩] : List (View.Piece (Elt F) S256x128 .bf16)), y ∈ pc.1.set :=
  View.cover_of_tiled [⟨r0_9, p0⟩] S256x128.size (by rfl) y

/-- Window 19's staging buffer after the body, from the input windows' blocks: its 1 store as pieces, LAST
    FIRST (Lib/Pipeline/FrameBody.lean `View.canon`; the payloads are the skeleton's and the values stated above). -/
def out0_19 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S256x128 .f32 :=
  View.canon [⟨r0_9, k0_pay1 (k0_pay17 (k0_pay19 x0 x1 x2 x3 x4 x5 x6 x7 x8 x9 x10) (View.ld x7 r0_8)) k0_pay18⟩]

/-- Its stores tile the buffer (checked by evaluation), so they cover it. -/
theorem cover0_19 (p0 : Vec F S256x128 .f32) (y : S256x128.Idx) :
    ∃ pc ∈ ([⟨r0_9, p0⟩] : List (View.Piece (Elt F) S256x128 .f32)), y ∈ pc.1.set :=
  View.cover_of_tiled [⟨r0_9, p0⟩] S256x128.size (by rfl) y

/-- Window 20's staging buffer after the body, from the input windows' blocks: its 1 store as pieces, LAST
    FIRST (Lib/Pipeline/FrameBody.lean `View.canon`; the payloads are the skeleton's and the values stated above). -/
def out0_20 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S256x1024 .f32 :=
  View.canon [⟨r0_0, k0_pay2 (k0_pay19 x0 x1 x2 x3 x4 x5 x6 x7 x8 x9 x10) (View.ld x8 r0_2)⟩]

/-- Its stores tile the buffer (checked by evaluation), so they cover it. -/
theorem cover0_20 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-- Window 21's staging buffer after the body, from the input windows' blocks: its 1 store as pieces, LAST
    FIRST (Lib/Pipeline/FrameBody.lean `View.canon`; the payloads are the skeleton's and the values stated above). -/
def out0_21 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S256x1024 .f32 :=
  View.canon [⟨r0_0, k0_pay3 (k0_pay19 x0 x1 x2 x3 x4 x5 x6 x7 x8 x9 x10) (View.ld x9 r0_2)⟩]

/-- Its stores tile the buffer (checked by evaluation), so they cover it. -/
theorem cover0_21 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-- Window 22's staging buffer after the body, from the input windows' blocks: its 1 store as pieces, LAST
    FIRST (Lib/Pipeline/FrameBody.lean `View.canon`; the payloads are the skeleton's and the values stated above). -/
def out0_22 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S256x1024 .f32 :=
  View.canon [⟨r0_0, k0_pay4 (k0_pay19 x0 x1 x2 x3 x4 x5 x6 x7 x8 x9 x10) (View.ld x10 r0_2)⟩]

/-- Its stores tile the buffer (checked by evaluation), so they cover it. -/
theorem cover0_22 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`*_eq_skeleton`), which `sl_exec` runs (Lib/Exec.lean), through every part call. -/
theorem sound_kernel (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S256x1024 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S256x256 .bf16) (harg15 : arg15.IsWhole) (arg16 : Memref sig .tc .vmem S256x256 .bf16) (harg16 : arg16.IsWhole) (arg17 : Memref sig .tc .vmem S256x512 .bf16) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .f32) (harg20 : arg20.IsWhole) (arg21 : Memref sig .tc .vmem S256x1024 .f32) (harg21 : arg21.IsWhole) (arg22 : Memref sig .tc .vmem S256x1024 .f32) (harg22 : arg22.IsWhole) (arg23 : Memref sig .tc .vmem S256x1024 .f32) (harg23 : arg23.IsWhole)
    (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10) ∗ owns (c : Thread nD τ) arg14 fullShare (out0_13 x0 x1 x2 x3 x4 x5 x6 x7 x8 x9 x10) ∗ owns (c : Thread nD τ) arg15 fullShare (out0_14 x0 x1 x2 x3 x4 x5 x6 x7 x8 x9 x10) ∗ owns (c : Thread nD τ) arg16 fullShare (out0_15 x0 x1 x2 x3 x4 x5 x6 x7 x8 x9 x10) ∗ owns (c : Thread nD τ) arg17 fullShare (out0_16 x0 x1 x2 x3 x4 x5 x6 x7 x8 x9 x10) ∗ owns (c : Thread nD τ) arg18 fullShare (out0_17 x0 x1 x2 x3 x4 x5 x6 x7 x8 x9 x10) ∗ owns (c : Thread nD τ) arg19 fullShare (out0_18 x0 x1 x2 x3 x4 x5 x6 x7 x8 x9 x10) ∗ owns (c : Thread nD τ) arg20 fullShare (out0_19 x0 x1 x2 x3 x4 x5 x6 x7 x8 x9 x10) ∗ owns (c : Thread nD τ) arg21 fullShare (out0_20 x0 x1 x2 x3 x4 x5 x6 x7 x8 x9 x10) ∗ owns (c : Thread nD τ) arg22 fullShare (out0_21 x0 x1 x2 x3 x4 x5 x6 x7 x8 x9 x10) ∗ owns (c : Thread nD τ) arg23 fullShare (out0_22 x0 x1 x2 x3 x4 x5 x6 x7 x8 x9 x10)) -∗ K ⟨⟩))
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_proj_eq_skeleton]; unfold cc0_proj_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _ _)).trans ?_
    rfl
  isplitl [H13]
  · iexists _; isplitr
    swap; · iexact H13
    ipureintro
    refine (View.read_writes_eq_canon _ _ _ (cover0_13 _ _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  iexists _; isplitr
  swap; · iexact H22
  ipureintro
  refine (View.read_writes_eq_canon _ _ _ (cover0_22 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨_ + 23, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_Kernel5Ideal`'s statement (Defs.lean) at any `F` — Proof.lean cites it at `Bits`:
    `theorem Cert.Proof.claim : Cert.Claim := ⟨Cert.Kernel5Ideal.Gen.facts, fun m ρ _ => Cert.Kernel5Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v26_0) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v26_1) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v26_2) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v26_3) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v26_4) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v26_5) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v26_6) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v26_7) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v26_8) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v26_9) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v26_10) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v26_11) = (dats m 0 c).arrAt 22 cfg0.N :=
  (h c).1 22

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v26_0) = (dats m 0 c).arrAt 11 cfg0.N
      ∧ r.2.mem ((c : Thread nD τ).loc main_v26_1) = (dats m 0 c).arrAt 12 cfg0.N
      ∧ r.2.mem ((c : Thread nD τ).loc main_v26_2) = (dats m 0 c).arrAt 13 cfg0.N
      ∧ r.2.mem ((c : Thread nD τ).loc main_v26_3) = (dats m 0 c).arrAt 14 cfg0.N
      ∧ r.2.mem ((c : Thread nD τ).loc main_v26_4) = (dats m 0 c).arrAt 15 cfg0.N
      ∧ r.2.mem ((c : Thread nD τ).loc main_v26_5) = (dats m 0 c).arrAt 16 cfg0.N
      ∧ r.2.mem ((c : Thread nD τ).loc main_v26_6) = (dats m 0 c).arrAt 17 cfg0.N
      ∧ r.2.mem ((c : Thread nD τ).loc main_v26_7) = (dats m 0 c).arrAt 18 cfg0.N
      ∧ r.2.mem ((c : Thread nD τ).loc main_v26_8) = (dats m 0 c).arrAt 19 cfg0.N
      ∧ r.2.mem ((c : Thread nD τ).loc main_v26_9) = (dats m 0 c).arrAt 20 cfg0.N
      ∧ r.2.mem ((c : Thread nD τ).loc main_v26_10) = (dats m 0 c).arrAt 21 cfg0.N
      ∧ r.2.mem ((c : Thread nD τ).loc main_v26_11) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post11 m r h c,
      post12 m r h c,
      post13 m r h c,
      post14 m r h c,
      post15 m r h c,
      post16 m r h c,
      post17 m r h c,
      post18 m r h c,
      post19 m r h c,
      post20 m r h c,
      post21 m r h c,
      post22 m r h c,
      kept_main_arg0 m r h c,
      kept_main_arg1 m r h c,
      kept_main_arg2 m r h c⟩)
    (run_main m ρ)

end Cert.ProjSample

end
-- ==== Proof.ProjSampleWeight.lean ====
/- The weights that the call's host code puts together from columns of the one input weight (on the sample). -/
module

public import proofs.«01_k».proof.Proof.Gen.Kernel5Ideal.Frame
public import Idealize.ShloMosaic.Lib.Pipeline.ValueKit
public import Idealize.ShloMosaic.Lib.Pointwise

@[expose] public section

set_option maxRecDepth 16384

noncomputable section

namespace Cert.ProjSample

open Idealize.ShloMosaic Idealize.ShloMosaic.TcCoe Idealize.SL.Sem
open Cert.Kernel5Ideal Cert.Kernel5Ideal.Gen

/-- The columns of the keys and of the values. -/
def kvCols (W : FVec Ideal S1024x5192 .f32) : FVec Ideal S1024x512 .bf16 :=
  truncf .bf16 (concatenate S1024x512 1 [⟨S1024x256, extractStridedSlice S1024x256 ![0, 1024] W slices_S1024x5192_S1024x256_0_1024⟩,
    ⟨S1024x256, extractStridedSlice S1024x256 ![0, 1280] W slices_S1024x5192_S1024x256_0_1280⟩]
    concatenates_S1024x256_S1024x256_S1024x512_d1) bitsLt_bf16_f32

/-- The columns of the indexer's key. -/
def kiCols (W : FVec Ideal S1024x5192 .f32) : FVec Ideal S1024x64 .f32 :=
  extractStridedSlice S1024x64 ![0, 2048] W slices_S1024x5192_S1024x64_0_2048

/-- Columns of zeros. -/
def zeroCols : FVec Ideal S1024x64 .f32 := broadcastInDim S1024x64 ![] bcast_S_S1024x64 (constant S_ .f32 0x00000000#32)

/-- The columns of the indexer's key, then zeros. -/
def kieCols (W : FVec Ideal S1024x5192 .f32) : FVec Ideal S1024x128 .bf16 :=
  truncf .bf16 (concatenate S1024x128 1 [⟨S1024x64, kiCols W⟩, ⟨S1024x64, zeroCols⟩] concatenates_S1024x64_S1024x64_S1024x128_d1)
    bitsLt_bf16_f32

/-- Zeros, then the columns of the indexer's key. -/
def kioCols (W : FVec Ideal S1024x5192 .f32) : FVec Ideal S1024x128 .bf16 :=
  truncf .bf16 (concatenate S1024x128 1 [⟨S1024x64, zeroCols⟩, ⟨S1024x64, kiCols W⟩] concatenates_S1024x64_S1024x64_S1024x128_d1)
    bitsLt_bf16_f32

/-- The columns of the indexer's key and of its head weights, then zeros. -/
def kwCols (W : FVec Ideal S1024x5192 .f32) : FVec Ideal S1024x128 .bf16 :=
  truncf .bf16 (concatenate S1024x128 1 [⟨S1024x64, kiCols W⟩,
    ⟨S1024x8, extractStridedSlice S1024x8 ![0, 2112] W slices_S1024x5192_S1024x8_0_2112⟩,
    ⟨S1024x56, broadcastInDim S1024x56 ![] bcast_S_S1024x56 (constant S_ .f32 0x00000000#32)⟩]
    concatenates_S1024x64_S1024x8_S1024x56_S1024x128_d1) bitsLt_bf16_f32

variable (W : FVec Ideal S1024x5192 .f32) (k : Fin 1024)

/-- Column `1024 + j` of the input weight. -/
theorem kvCols_at (j : Fin 512) : kvCols W (ix2 k j) = W (ix2 k ⟨1024 + j.val, by omega⟩) := by
  by_cases h : j.val < 256
  · pointwise [kvCols, h]
  · have e : (⟨1280 + (j.val - 256), by omega⟩ : Fin 5192) = ⟨1024 + j.val, by omega⟩ :=
      Fin.ext (by show 1280 + (j.val - 256) = 1024 + j.val; omega)
    pointwise [kvCols, h]
    rw [e]

/-- Column `2048 + j`. -/
theorem kieCols_at (j : Fin 128) (h : j.val < 64) : kieCols W (ix2 k j) = W (ix2 k ⟨2048 + j.val, by omega⟩) := by
  pointwise [kieCols, kiCols, zeroCols, h]

/-- The zeros. -/
theorem kieCols_zero (j : Fin 128) (h : ¬ j.val < 64) : kieCols W (ix2 k j) = (0 : EReal) := by
  pointwise [kieCols, kiCols, zeroCols, h]

/-- Column `2048 + (j - 64)`. -/
theorem kioCols_at (j : Fin 128) (h : ¬ j.val < 64) : kioCols W (ix2 k j) = W (ix2 k ⟨2048 + (j.val - 64), by omega⟩) := by
  pointwise [kioCols, kiCols, zeroCols, h]

/-- The zeros. -/
theorem kioCols_zero (j : Fin 128) (h : j.val < 64) : kioCols W (ix2 k j) = (0 : EReal) := by
  pointwise [kioCols, kiCols, zeroCols, h]

/-- Column `2048 + j`. -/
theorem kwCols_at (j : Fin 128) (h : j.val < 72) : kwCols W (ix2 k j) = W (ix2 k ⟨2048 + j.val, by omega⟩) := by
  by_cases h' : j.val < 64
  · pointwise [kwCols, kiCols, h']
  · have e : (⟨2112 + (j.val - 64), by omega⟩ : Fin 5192) = ⟨2048 + j.val, by omega⟩ :=
      Fin.ext (by show 2112 + (j.val - 64) = 2048 + j.val; omega)
    pointwise [kwCols, kiCols, h']
    rw [dif_pos (by omega), e]

/-- The zeros. -/
theorem kwCols_zero (j : Fin 128) (h : ¬ j.val < 72) : kwCols W (ix2 k j) = (0 : EReal) := by
  pointwise [kwCols, kiCols, show ¬ j.val < 64 by omega]
  rw [dif_neg (by omega)]

variable (m : (ℓ : Loc nD τ sig) → Buf (Elt Ideal) ℓ)

/-- The array window 3 stages. -/
theorem V_main_v17 (c : Dev nD) : V m c main_v17 = kvCols (m ((c : Thread nD τ).loc main_arg2)) := by
  unfold V kvCols
  after_results_simp <;> rfl

/-- The array window 5 stages. -/
theorem V_main_v19 (c : Dev nD) : V m c main_v19 = kieCols (m ((c : Thread nD τ).loc main_arg2)) := by
  unfold V kieCols kiCols zeroCols
  after_results_simp <;> rfl

/-- The array window 6 stages. -/
theorem V_main_v20 (c : Dev nD) : V m c main_v20 = kioCols (m ((c : Thread nD τ).loc main_arg2)) := by
  unfold V kioCols kiCols zeroCols
  after_results_simp <;> rfl

/-- The array window 7 stages. -/
theorem V_main_v21 (c : Dev nD) : V m c main_v21 = kwCols (m ((c : Thread nD τ).loc main_arg2)) := by
  unfold V kwCols kiCols
  after_results_simp <;> (try dsimp only [Matrix.cons_val]) <;> (try after_results_simp) <;> rfl

/-- Where each window of the weights lies: it is staged whole. -/
theorem idxW : ∀ t : Fin cfg0.N, win0_3.index t = ![0, 0] ∧ win0_5.index t = ![0, 0] ∧ win0_6.index t = ![0, 0]
    ∧ win0_7.index t = ![0, 0] :=
  (by decide +kernel : ∀ t : Fin grid0.N, _)

/-- Window 3 stages the whole of its array. -/
theorem blk3 (c : Dev nD) (t : Fin cfg0.N) (j : Fin 512) :
    (show FVec Ideal S1024x512 .bf16 from iblk m c 3 t) (ix2 k j) = (V m c main_v17 : FVec Ideal S1024x512 .bf16) (ix2 k j) := by
  unfold iblk
  generalize V m c = v
  blk_point [idxW t]

/-- Window 5 stages the whole of its array. -/
theorem blk5 (c : Dev nD) (t : Fin cfg0.N) (j : Fin 128) :
    (show FVec Ideal S1024x128 .bf16 from iblk m c 5 t) (ix2 k j) = (V m c main_v19 : FVec Ideal S1024x128 .bf16) (ix2 k j) := by
  unfold iblk
  generalize V m c = v
  blk_point [idxW t]

/-- Window 6 stages the whole of its array. -/
theorem blk6 (c : Dev nD) (t : Fin cfg0.N) (j : Fin 128) :
    (show FVec Ideal S1024x128 .bf16 from iblk m c 6 t) (ix2 k j) = (V m c main_v20 : FVec Ideal S1024x128 .bf16) (ix2 k j) := by
  unfold iblk
  generalize V m c = v
  blk_point [idxW t]

/-- Window 7 stages the whole of its array. -/
theorem blk7 (c : Dev nD) (t : Fin cfg0.N) (j : Fin 128) :
    (show FVec Ideal S1024x128 .bf16 from iblk m c 7 t) (ix2 k j) = (V m c main_v21 : FVec Ideal S1024x128 .bf16) (ix2 k j) := by
  unfold iblk
  generalize V m c = v
  blk_point [idxW t]

end Cert.ProjSample

end
-- ==== Proof.ProjSampleBlk.lean ====
/- The call that starts the layer (on the sample): what each window's block holds. -/
module

public import proofs.«01_k».proof.Proof.ProjSampleRow
public import proofs.«01_k».proof.Proof.ProjSampleRun
public import proofs.«01_k».proof.Proof.ProjSampleWeight
public import Idealize.ShloMosaic.Lib.Pipeline.ValueKit
public import Idealize.ShloMosaic.Lib.Claim

@[expose] public section

set_option maxRecDepth 16384

noncomputable section

namespace Cert.ProjSample

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

/-- Where each window's block lies at a grid point: a band of rows, or the whole of a weight. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] ∧ win0_21.index t = ![t.val, 0] ∧ win0_22.index t = ![t.val, 0] :=
  (by decide +kernel : ∀ t : Fin grid0.N, _)

/-- The wide product over this program's own argument arrays. -/
abbrev target (c : Dev nD) : FVec Ideal Cert.Reference5Ideal.S32x8x5192 .f32 :=
  refZ (m ((c : Thread nD τ).loc main_arg0)) (m ((c : Thread nD τ).loc main_arg1)) (m ((c : Thread nD τ).loc main_arg2))

/-- The batch of the row `r` of grid point `t`. -/
abbrev bat (t : Fin cfg0.N) (r : Fin 256) : Fin 32 := ⟨(t.val * 256 + r.val) / 8, by have : t.val < 1 := t.isLt; omega⟩

/-- Its place in the sequence. -/
abbrev pos (t : Fin cfg0.N) (r : Fin 256) : Fin 8 := ⟨(t.val * 256 + r.val) % 8, by omega⟩

/-- The block of the x rows. -/
theorem row0 (c : Dev nD) (t : Fin cfg0.N) (r : Fin 256) (k : Fin 1024) :
    (show FVec Ideal S256x1024 .f32 from iblk m c 0 t) (ix2 r k)
      = (m ((c : Thread nD τ).loc main_arg0) : FVec Ideal S32x8x1024 .f32) (ix3 (bat t r) (pos t r) k) := by
  blk_point [iblk, V, idx t]

/-- The gain is staged whole. -/
theorem gain1 (c : Dev nD) (t : Fin cfg0.N) (k : Fin 1024) :
    (show FVec Ideal S1x1024 .f32 from iblk m c 1 t) (ix2 0 k)
      = (m ((c : Thread nD τ).loc main_arg1) : FVec Ideal S1024 .f32) (ix1 k) := by
  blk_point [iblk, V, idx t]

/-- The queries' columns. -/
theorem weight2 (c : Dev nD) (t : Fin cfg0.N) (k : Fin 1024) (j : Fin 1024) :
    (show FVec Ideal S1024x1024 .bf16 from iblk m c 2 t) (ix2 k j) = (m ((c : Thread nD τ).loc main_arg2) : FVec Ideal S1024x5192 .f32) (ix2 k ⟨j.val, by omega⟩) := by
  blk_point [iblk, V, idx t]

/-- The keys' and the values' columns. -/
theorem weight3 (c : Dev nD) (t : Fin cfg0.N) (k : Fin 1024) (j : Fin 512) :
    (show FVec Ideal S1024x512 .bf16 from iblk m c 3 t) (ix2 k j) = (m ((c : Thread nD τ).loc main_arg2) : FVec Ideal S1024x5192 .f32) (ix2 k ⟨1024 + j.val, by omega⟩) :=
  (blk3 k m c t j).trans ((congrFun (V_main_v17 m c) (ix2 k j)).trans (kvCols_at _ k j))

/-- The columns of the indexer's queries. -/
theorem weight4 (c : Dev nD) (t : Fin cfg0.N) (k : Fin 1024) (j : Fin 512) :
    (show FVec Ideal S1024x512 .bf16 from iblk m c 4 t) (ix2 k j) = (m ((c : Thread nD τ).loc main_arg2) : FVec Ideal S1024x5192 .f32) (ix2 k ⟨1536 + j.val, by omega⟩) := by
  blk_point [iblk, V, idx t]

/-- The columns of the indexer's key, in the first half. -/
theorem weight5 (c : Dev nD) (t : Fin cfg0.N) (k : Fin 1024) (j : Fin 128) (h : j.val < 64) :
    (show FVec Ideal S1024x128 .bf16 from iblk m c 5 t) (ix2 k j) = (m ((c : Thread nD τ).loc main_arg2) : FVec Ideal S1024x5192 .f32) (ix2 k ⟨2048 + j.val, by omega⟩) :=
  (blk5 k m c t j).trans ((congrFun (V_main_v19 m c) (ix2 k j)).trans (kieCols_at _ k j h))

/-- Beside them, zeros. -/
theorem zero5 (c : Dev nD) (t : Fin cfg0.N) (k : Fin 1024) (j : Fin 128) (h : ¬ j.val < 64) :
    (show FVec Ideal S1024x128 .bf16 from iblk m c 5 t) (ix2 k j) = (0 : EReal) :=
  (blk5 k m c t j).trans ((congrFun (V_main_v19 m c) (ix2 k j)).trans (kieCols_zero _ k j h))

/-- The columns of the indexer's key, in the second half. -/
theorem weight6 (c : Dev nD) (t : Fin cfg0.N) (k : Fin 1024) (j : Fin 128) (h : ¬ j.val < 64) :
    (show FVec Ideal S1024x128 .bf16 from iblk m c 6 t) (ix2 k j) = (m ((c : Thread nD τ).loc main_arg2) : FVec Ideal S1024x5192 .f32) (ix2 k ⟨2048 + (j.val - 64), by omega⟩) :=
  (blk6 k m c t j).trans ((congrFun (V_main_v20 m c) (ix2 k j)).trans (kioCols_at _ k j h))

/-- Beside them, zeros. -/
theorem zero6 (c : Dev nD) (t : Fin cfg0.N) (k : Fin 1024) (j : Fin 128) (h : j.val < 64) :
    (show FVec Ideal S1024x128 .bf16 from iblk m c 6 t) (ix2 k j) = (0 : EReal) :=
  (blk6 k m c t j).trans ((congrFun (V_main_v20 m c) (ix2 k j)).trans (kioCols_zero _ k j h))

/-- The columns of the indexer's key and of its head weights. -/
theorem weight7 (c : Dev nD) (t : Fin cfg0.N) (k : Fin 1024) (j : Fin 128) (h : j.val < 72) :
    (show FVec Ideal S1024x128 .bf16 from iblk m c 7 t) (ix2 k j) = (m ((c : Thread nD τ).loc main_arg2) : FVec Ideal S1024x5192 .f32) (ix2 k ⟨2048 + j.val, by omega⟩) :=
  (blk7 k m c t j).trans ((congrFun (V_main_v21 m c) (ix2 k j)).trans (kwCols_at _ k j h))

/-- Beside them, zeros. -/
theorem zero7 (c : Dev nD) (t : Fin cfg0.N) (k : Fin 1024) (j : Fin 128) (h : ¬ j.val < 72) :
    (show FVec Ideal S1024x128 .bf16 from iblk m c 7 t) (ix2 k j) = (0 : EReal) :=
  (blk7 k m c t j).trans ((congrFun (V_main_v21 m c) (ix2 k j)).trans (kwCols_zero _ k j h))

/-- The columns of the recurrence's input. -/
theorem weight8 (c : Dev nD) (t : Fin cfg0.N) (k : Fin 1024) (j : Fin 1024) :
    (show FVec Ideal S1024x1024 .bf16 from iblk m c 8 t) (ix2 k j) = (m ((c : Thread nD τ).loc main_arg2) : FVec Ideal S1024x5192 .f32) (ix2 k ⟨2120 + j.val, by omega⟩) := by
  blk_point [iblk, V, idx t]

/-- The columns of the attention branch's gate. -/
theorem weight9 (c : Dev nD) (t : Fin cfg0.N) (k : Fin 1024) (j : Fin 1024) :
    (show FVec Ideal S1024x1024 .bf16 from iblk m c 9 t) (ix2 k j) = (m ((c : Thread nD τ).loc main_arg2) : FVec Ideal S1024x5192 .f32) (ix2 k ⟨3144 + j.val, by omega⟩) := by
  blk_point [iblk, V, idx t]

/-- The columns of the recurrence branch's gate. -/
theorem weight10 (c : Dev nD) (t : Fin cfg0.N) (k : Fin 1024) (j : Fin 1024) :
    (show FVec Ideal S1024x1024 .bf16 from iblk m c 10 t) (ix2 k j) = (m ((c : Thread nD τ).loc main_arg2) : FVec Ideal S1024x5192 .f32) (ix2 k ⟨4168 + j.val, by omega⟩) := by
  blk_point [iblk, V, idx t]

/-- The normalised rows of a grid point. -/
theorem nrow (c : Dev nD) (t : Fin cfg0.N) (r : Fin 256) (k : Fin 1024) :
    k0_pay5 (F := Ideal) (show FVec Ideal S256x1024 .f32 from iblk m c 0 t) (show FVec Ideal S1x1024 .f32 from iblk m c 1 t) (ix2 r k)
      = refNorm (m ((c : Thread nD τ).loc main_arg0)) (m ((c : Thread nD τ).loc main_arg1)) (ix3 (bat t r) (pos t r) k) :=
  norm_at _ _ _ _ r (bat t r) (pos t r) (row0 m c t r) (gain1 m c t) k

/-- The keys and values of a grid point, side by side. -/
theorem kvrow (c : Dev nD) (t : Fin cfg0.N) (r : Fin 256) (j : Fin 512) :
    k0_pay7 (F := Ideal) (show FVec Ideal S256x1024 .f32 from iblk m c 0 t) (show FVec Ideal S1x1024 .f32 from iblk m c 1 t)
        (show FVec Ideal S1024x512 .bf16 from iblk m c 3 t) (ix2 r j)
      = target m c (ix3 (bat t r) (pos t r) ⟨1024 + j.val, by omega⟩) :=
  kv_at _ _ _ r (bat t r) (pos t r) _ _ _ (nrow m c t r) (weight3 m c t) j

end Cert.ProjSample

end
-- ==== Proof.ProjSample.lean ====
/- The call that starts the layer (on the sample): the arrays it leaves beside keys and values are the reference's, for every argument. -/
module

public import proofs.«01_k».proof.Proof.ProjSampleBlk
public import Idealize.ShloMosaic.Lib.Pipeline.ValueKit
public import Idealize.ShloMosaic.Lib.Claim

@[expose] public section

set_option maxRecDepth 16384

noncomputable section

namespace Cert.ProjSample

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

/-- The queries. -/
theorem final11 (c : Dev nD) : (dats m 0 c).arrAt 11 cfg0.N
    = shapeCast Cert.Reference5Ideal.S256x1024 (refQ (target m c)) Cert.Reference5Ideal.Gen.shapeCasts_S32x8x1024_S256x1024 := by
  refine (dats m 0 c).arrAt_eq_of_covers 11 _ (by decide +kernel) fun t _ y => ?_
  blk_simp
  rw [after0_11]; unfold out0_11; frame_out
  obtain ⟨r, j, rfl⟩ : ∃ (r : Fin 256) (j : Fin 1024), y = ix2 r j := ⟨y 0, y 1, eq_ix2 y⟩
  refine (q_at _ _ _ r (bat t r) (pos t r) _ _ _ (nrow m c t r) (weight2 m c t) j).trans ?_
  show refQ (target m c) (ix3 (bat t r) (pos t r) j) = _
  generalize refQ (target m c) = T
  pointwise
  blk_ext [idx t]

/-- The keys, rounded. -/
theorem final14 (c : Dev nD) : (dats m 0 c).arrAt 14 cfg0.N
    = shapeCast Cert.Reference5Ideal.S256x256 (truncf .bf16 (refK (target m c)) Cert.Reference5Ideal.Gen.bitsLt_bf16_f32) Cert.Reference5Ideal.Gen.shapeCasts_S32x8x256_S256x256 := by
  refine (dats m 0 c).arrAt_eq_of_covers 14 _ (by decide +kernel) fun t _ y => ?_
  blk_simp
  rw [after0_14]; unfold out0_14; frame_out
  obtain ⟨r, j, rfl⟩ : ∃ (r : Fin 256) (j : Fin 256), y = ix2 r j := ⟨y 0, y 1, eq_ix2 y⟩
  unfold k0_pay20
  frame_out
  refine (kb_at _ _ r (bat t r) (pos t r) (kvrow m c t r) j).trans ?_
  show (truncf .bf16 (refK (target m c)) Cert.Reference5Ideal.Gen.bitsLt_bf16_f32) (ix3 (bat t r) (pos t r) j) = _
  generalize truncf .bf16 (refK (target m c)) Cert.Reference5Ideal.Gen.bitsLt_bf16_f32 = T
  pointwise
  blk_ext [idx t]

/-- The values, rounded. -/
theorem final15 (c : Dev nD) : (dats m 0 c).arrAt 15 cfg0.N
    = shapeCast Cert.Reference5Ideal.S256x256 (truncf .bf16 (refV (target m c)) Cert.Reference5Ideal.Gen.bitsLt_bf16_f32) Cert.Reference5Ideal.Gen.shapeCasts_S32x8x256_S256x256 := by
  refine (dats m 0 c).arrAt_eq_of_covers 15 _ (by decide +kernel) fun t _ y => ?_
  blk_simp
  rw [after0_15]; unfold out0_15; frame_out
  obtain ⟨r, j, rfl⟩ : ∃ (r : Fin 256) (j : Fin 256), y = ix2 r j := ⟨y 0, y 1, eq_ix2 y⟩
  unfold k0_pay20
  frame_out
  refine (vb_at _ _ r (bat t r) (pos t r) (kvrow m c t r) j).trans ?_
  show (truncf .bf16 (refV (target m c)) Cert.Reference5Ideal.Gen.bitsLt_bf16_f32) (ix3 (bat t r) (pos t r) j) = _
  generalize truncf .bf16 (refV (target m c)) Cert.Reference5Ideal.Gen.bitsLt_bf16_f32 = T
  pointwise
  blk_ext [idx t]

/-- The indexer's queries. -/
theorem final16 (c : Dev nD) : (dats m 0 c).arrAt 16 cfg0.N
    = shapeCast Cert.Reference5Ideal.S256x512 (refQi (target m c)) Cert.Reference5Ideal.Gen.shapeCasts_S32x8x512_S256x512 := by
  refine (dats m 0 c).arrAt_eq_of_covers 16 _ (by decide +kernel) fun t _ y => ?_
  blk_simp
  rw [after0_16]; unfold out0_16; frame_out
  obtain ⟨r, j, rfl⟩ : ∃ (r : Fin 256) (j : Fin 512), y = ix2 r j := ⟨y 0, y 1, eq_ix2 y⟩
  unfold k0_pay19
  frame_out
  refine (qi_at _ _ _ _ r (bat t r) (pos t r) _ (nrow m c t r) (weight4 m c t) j).trans ?_
  show refQi (target m c) (ix3 (bat t r) (pos t r) j) = _
  generalize refQi (target m c) = T
  pointwise
  blk_ext [idx t]

/-- The indexer's key, in the first half. -/
theorem final17 (c : Dev nD) : (dats m 0 c).arrAt 17 cfg0.N
    = shapeCast Cert.Reference5Ideal.S256x128 (refKie (target m c)) Cert.Reference5Ideal.Gen.shapeCasts_S32x8x128_S256x128 := by
  refine (dats m 0 c).arrAt_eq_of_covers 17 _ (by decide +kernel) fun t _ y => ?_
  blk_simp
  rw [after0_17]; unfold out0_17; frame_out
  obtain ⟨r, j, rfl⟩ : ∃ (r : Fin 256) (j : Fin 128), y = ix2 r j := ⟨y 0, y 1, eq_ix2 y⟩
  unfold k0_pay19
  frame_out
  refine (kie_at _ _ _ _ r (bat t r) (pos t r) _ (nrow m c t r) (weight5 m c t) (zero5 m c t) j).trans ?_
  show refKie (target m c) (ix3 (bat t r) (pos t r) j) = _
  generalize refKie (target m c) = T
  pointwise
  blk_ext [idx t]

/-- The indexer's key, in the second half. -/
theorem final18 (c : Dev nD) : (dats m 0 c).arrAt 18 cfg0.N
    = shapeCast Cert.Reference5Ideal.S256x128 (refKio (target m c)) Cert.Reference5Ideal.Gen.shapeCasts_S32x8x128_S256x128 := by
  refine (dats m 0 c).arrAt_eq_of_covers 18 _ (by decide +kernel) fun t _ y => ?_
  blk_simp
  rw [after0_18]; unfold out0_18; frame_out
  obtain ⟨r, j, rfl⟩ : ∃ (r : Fin 256) (j : Fin 128), y = ix2 r j := ⟨y 0, y 1, eq_ix2 y⟩
  unfold k0_pay19
  frame_out
  refine (kio_at _ _ _ _ r (bat t r) (pos t r) _ (nrow m c t r) (weight6 m c t) (zero6 m c t) j).trans ?_
  show refKio (target m c) (ix3 (bat t r) (pos t r) j) = _
  generalize refKio (target m c) = T
  pointwise
  blk_ext [idx t]

/-- The indexer's key with its head weights. -/
theorem final19 (c : Dev nD) : (dats m 0 c).arrAt 19 cfg0.N
    = shapeCast Cert.Reference5Ideal.S256x128 (refKw (target m c)) Cert.Reference5Ideal.Gen.shapeCasts_S32x8x128_S256x128 := by
  refine (dats m 0 c).arrAt_eq_of_covers 19 _ (by decide +kernel) fun t _ y => ?_
  blk_simp
  rw [after0_19]; unfold out0_19; frame_out
  obtain ⟨r, j, rfl⟩ : ∃ (r : Fin 256) (j : Fin 128), y = ix2 r j := ⟨y 0, y 1, eq_ix2 y⟩
  unfold k0_pay19
  frame_out
  refine (kw_at _ _ _ _ r (bat t r) (pos t r) _ (nrow m c t r) (weight7 m c t) (zero7 m c t) j).trans ?_
  show refKw (target m c) (ix3 (bat t r) (pos t r) j) = _
  generalize refKw (target m c) = T
  pointwise
  blk_ext [idx t]

/-- The recurrence's input. -/
theorem final20 (c : Dev nD) : (dats m 0 c).arrAt 20 cfg0.N
    = shapeCast Cert.Reference5Ideal.S256x1024 (refU (target m c)) Cert.Reference5Ideal.Gen.shapeCasts_S32x8x1024_S256x1024 := by
  refine (dats m 0 c).arrAt_eq_of_covers 20 _ (by decide +kernel) fun t _ y => ?_
  blk_simp
  rw [after0_20]; unfold out0_20; frame_out
  obtain ⟨r, j, rfl⟩ : ∃ (r : Fin 256) (j : Fin 1024), y = ix2 r j := ⟨y 0, y 1, eq_ix2 y⟩
  unfold k0_pay19
  frame_out
  refine (u_at _ _ _ _ r (bat t r) (pos t r) _ (nrow m c t r) (weight8 m c t) j).trans ?_
  show refU (target m c) (ix3 (bat t r) (pos t r) j) = _
  generalize refU (target m c) = T
  pointwise
  blk_ext [idx t]

/-- The attention branch's gate. -/
theorem final21 (c : Dev nD) : (dats m 0 c).arrAt 21 cfg0.N
    = shapeCast Cert.Reference5Ideal.S256x1024 (refGa (target m c)) Cert.Reference5Ideal.Gen.shapeCasts_S32x8x1024_S256x1024 := by
  refine (dats m 0 c).arrAt_eq_of_covers 21 _ (by decide +kernel) fun t _ y => ?_
  blk_simp
  rw [after0_21]; unfold out0_21; frame_out
  obtain ⟨r, j, rfl⟩ : ∃ (r : Fin 256) (j : Fin 1024), y = ix2 r j := ⟨y 0, y 1, eq_ix2 y⟩
  unfold k0_pay19
  frame_out
  refine (ga_at _ _ _ _ r (bat t r) (pos t r) _ (nrow m c t r) (weight9 m c t) j).trans ?_
  show refGa (target m c) (ix3 (bat t r) (pos t r) j) = _
  generalize refGa (target m c) = T
  pointwise
  blk_ext [idx t]

/-- The recurrence branch's gate. -/
theorem final22 (c : Dev nD) : (dats m 0 c).arrAt 22 cfg0.N
    = shapeCast Cert.Reference5Ideal.S256x1024 (refGb (target m c)) Cert.Reference5Ideal.Gen.shapeCasts_S32x8x1024_S256x1024 := by
  refine (dats m 0 c).arrAt_eq_of_covers 22 _ (by decide +kernel) fun t _ y => ?_
  blk_simp
  rw [after0_22]; unfold out0_22; frame_out
  obtain ⟨r, j, rfl⟩ : ∃ (r : Fin 256) (j : Fin 1024), y = ix2 r j := ⟨y 0, y 1, eq_ix2 y⟩
  unfold k0_pay19
  frame_out
  refine (gb_at _ _ _ _ r (bat t r) (pos t r) _ (nrow m c t r) (weight10 m c t) j).trans ?_
  show refGb (target m c) (ix3 (bat t r) (pos t r) j) = _
  generalize refGb (target m c) = T
  pointwise
  blk_ext [idx t]

end Cert.ProjSample

end
-- ==== Proof.ProjSampleHeads.lean ====
/- The keys and the values, stored head by head (on the sample), are the reference's. -/
module

public import proofs.«01_k».proof.Proof.ProjSampleBlk
public import Idealize.ShloMosaic.Lib.Pipeline.ValueKit
public import Idealize.ShloMosaic.Lib.Claim

@[expose] public section

set_option maxRecDepth 16384

noncomputable section

namespace Cert.ProjSample

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

/-- The body reads the whole block of rows. -/
theorem ld_rows (x : Vec Ideal S256x1024 .f32) : View.ld x r0_0 = x := View.ld_unit_lit inb_S256x1024_S256x1024_0_0 x (by decide)

/-- And the whole gain. -/
theorem ld_gain (x : Vec Ideal S1x1024 .f32) : View.ld x r0_1 = x := View.ld_unit_lit inb_S1x1024_S1x1024_0_0 x (by decide)

/-- And the whole of the keys' and the values' columns. -/
theorem ld_kv (x : Vec Ideal S1024x512 .bf16) : View.ld x r0_3 = x := View.ld_unit_lit inb_S1024x512_S1024x512_0_0 x (by decide)

/-- The keys, the rows of the two heads interleaved. -/
theorem final12 (c : Dev nD) : (dats m 0 c).arrAt 12 cfg0.N
    = shapeCast Cert.Reference5Ideal.S512x128 (refK (target m c)) Cert.Reference5Ideal.Gen.shapeCasts_S32x8x256_S512x128 := by
  refine (dats m 0 c).arrAt_eq_of_covers 12 _ (by decide +kernel) fun t _ y => ?_
  blk_simp
  rw [after0_12]; unfold out0_12
  refine View.canon_apply_of_pieces (Val := Elt Ideal) (fun y => shapeCast Cert.Reference5Ideal.S512x128 (refK (target m c)) Cert.Reference5Ideal.Gen.shapeCasts_S32x8x256_S512x128
    ((win0_12.blk t).view.emb y)) _ ?_ y (cover0_12 _ _ y)
  rintro p hp x
  simp only [List.mem_cons, List.not_mem_nil, or_false] at hp
  rcases hp with rfl | rfl
  · obtain ⟨r, j, rfl⟩ : ∃ (r : Fin 256) (j : Fin 128), x = ix2 r j := ⟨x 0, x 1, eq_ix2 x⟩
    have e0 : (r0_5.emb (ix2 r j) 0).val = 1 + 2 * r.val := rfl
    have e1 : (r0_5.emb (ix2 r j) 1).val = j.val := (show _ = 0 + 1 * j.val from rfl).trans (by omega)
    rw [ld_rows, ld_gain, ld_kv]
    refine (k1_at _ r (bat t r) (pos t r) (kvrow m c t r) j).trans ?_
    beta_reduce
    generalize refK (target m c) = T
    generalize r0_5.emb (ix2 r j) = q at e0 e1 ⊢
    pointwise
    blk_ext [idx t, e0, e1] <;> omega
  · obtain ⟨r, j, rfl⟩ : ∃ (r : Fin 256) (j : Fin 128), x = ix2 r j := ⟨x 0, x 1, eq_ix2 x⟩
    have e0 : (r0_4.emb (ix2 r j) 0).val = 2 * r.val := (show _ = 0 + 2 * r.val from rfl).trans (Nat.zero_add _)
    have e1 : (r0_4.emb (ix2 r j) 1).val = j.val := (show _ = 0 + 1 * j.val from rfl).trans (by omega)
    rw [ld_rows, ld_gain, ld_kv]
    refine (k0_at _ r (bat t r) (pos t r) (kvrow m c t r) j).trans ?_
    beta_reduce
    generalize refK (target m c) = T
    generalize r0_4.emb (ix2 r j) = q at e0 e1 ⊢
    have hi : win0_12.index t = ![t.val, 0] := (by decide +kernel : ∀ t : Fin grid0.N, win0_12.index t = ![t.val, 0]) t
    have E0 : (((win0_12.blk t).view.emb q) 0).val = t.val * 512 + (q 0).val := by
      show win0_12.index t 0 * 512 + 1 * (q 0).val = _
      rw [hi, Nat.one_mul]; rfl
    have E1 : (((win0_12.blk t).view.emb q) 1).val = (q 1).val := by
      show win0_12.index t 1 * 128 + 1 * (q 1).val = _
      rw [hi, Nat.one_mul]; exact Nat.zero_add _
    generalize (win0_12.blk t).view.emb q = z at E0 E1 ⊢
    obtain ⟨l, hl⟩ : ∃ l : Fin 256, l = ⟨j.val, by omega⟩ := ⟨_, rfl⟩
    have e2 : l.val = j.val := by rw [hl]
    rw [← hl]
    pointwise
    have hj : j.val < 128 := j.isLt
    refine congrArg T ?_
    congr 1 <;> refine Fin.ext ?_ <;> dsimp only <;> omega

/-- The values, the rows of the two heads interleaved. -/
theorem final13 (c : Dev nD) : (dats m 0 c).arrAt 13 cfg0.N
    = shapeCast Cert.Reference5Ideal.S512x128 (refV (target m c)) Cert.Reference5Ideal.Gen.shapeCasts_S32x8x256_S512x128 := by
  refine (dats m 0 c).arrAt_eq_of_covers 13 _ (by decide +kernel) fun t _ y => ?_
  blk_simp
  rw [after0_13]; unfold out0_13
  refine View.canon_apply_of_pieces (Val := Elt Ideal) (fun y => shapeCast Cert.Reference5Ideal.S512x128 (refV (target m c)) Cert.Reference5Ideal.Gen.shapeCasts_S32x8x256_S512x128
    ((win0_13.blk t).view.emb y)) _ ?_ y (cover0_13 _ _ y)
  rintro p hp x
  simp only [List.mem_cons, List.not_mem_nil, or_false] at hp
  rcases hp with rfl | rfl
  · obtain ⟨r, j, rfl⟩ : ∃ (r : Fin 256) (j : Fin 128), x = ix2 r j := ⟨x 0, x 1, eq_ix2 x⟩
    have e0 : (r0_5.emb (ix2 r j) 0).val = 1 + 2 * r.val := rfl
    have e1 : (r0_5.emb (ix2 r j) 1).val = j.val := (show _ = 0 + 1 * j.val from rfl).trans (by omega)
    unfold k0_pay20
    rw [ld_rows, ld_gain, ld_kv]
    refine (v1_at _ _ r (bat t r) (pos t r) (kvrow m c t r) j).trans ?_
    beta_reduce
    generalize refV (target m c) = T
    generalize r0_5.emb (ix2 r j) = q at e0 e1 ⊢
    pointwise
    blk_ext [idx t, e0, e1] <;> omega
  · obtain ⟨r, j, rfl⟩ : ∃ (r : Fin 256) (j : Fin 128), x = ix2 r j := ⟨x 0, x 1, eq_ix2 x⟩
    have e0 : (r0_4.emb (ix2 r j) 0).val = 2 * r.val := (show _ = 0 + 2 * r.val from rfl).trans (Nat.zero_add _)
    have e1 : (r0_4.emb (ix2 r j) 1).val = j.val := (show _ = 0 + 1 * j.val from rfl).trans (by omega)
    rw [ld_rows, ld_gain, ld_kv]
    refine (v0_at _ r (bat t r) (pos t r) (kvrow m c t r) j).trans ?_
    beta_reduce
    generalize refV (target m c) = T
    generalize r0_4.emb (ix2 r j) = q at e0 e1 ⊢
    have hi : win0_13.index t = ![t.val, 0] := (by decide +kernel : ∀ t : Fin grid0.N, win0_13.index t = ![t.val, 0]) t
    have E0 : (((win0_13.blk t).view.emb q) 0).val = t.val * 512 + (q 0).val := by
      show win0_13.index t 0 * 512 + 1 * (q 0).val = _
      rw [hi, Nat.one_mul]; rfl
    have E1 : (((win0_13.blk t).view.emb q) 1).val = (q 1).val := by
      show win0_13.index t 1 * 128 + 1 * (q 1).val = _
      rw [hi, Nat.one_mul]; exact Nat.zero_add _
    generalize (win0_13.blk t).view.emb q = z at E0 E1 ⊢
    obtain ⟨l, hl⟩ : ∃ l : Fin 256, l = ⟨j.val, by omega⟩ := ⟨_, rfl⟩
    have e2 : l.val = j.val := by rw [hl]
    rw [← hl]
    pointwise
    have hj : j.val < 128 := j.isLt
    refine congrArg T ?_
    congr 1 <;> refine Fin.ext ?_ <;> dsimp only <;> omega

end Cert.ProjSample

end
-- ==== Proof.ProjSampleBits.lean ====
/- The run of the floating-point program of the call that starts the layer (on the sample): its body's triple and the frame. -/
module

public import proofs.«01_k».proof.Proof.Gen.Kernel5.Frame
public import proofs.«01_k».proof.Proof.Gen.Kernel5.Skeleton
public import Idealize.ShloMosaic.Lib.Claim
public import Idealize.ShloMosaic.Lib.Pointwise

@[expose] public section

set_option maxRecDepth 16384

noncomputable section

namespace Cert.ProjSample.Bits

open Cert.Kernel5 Cert.Kernel5.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev r0_0 : Rect S256x1024 := Rect.unit (s := S256x1024) ![0, 0] S256x1024.size inb_S256x1024_S256x1024_0_0
abbrev r0_1 : Rect S1x1024 := Rect.unit (s := S1x1024) ![0, 0] S1x1024.size inb_S1x1024_S1x1024_0_0
abbrev r0_2 : Rect S1024x1024 := Rect.unit (s := S1024x1024) ![0, 0] S1024x1024.size inb_S1024x1024_S1024x1024_0_0
abbrev r0_3 : Rect S1024x512 := Rect.unit (s := S1024x512) ![0, 0] S1024x512.size inb_S1024x512_S1024x512_0_0
abbrev r0_4 : Rect S512x128 := ⟨(⟨![0, 0], S256x128.size, ![2, 1], inb_S512x128_S256x128_0_0_s_2_1⟩ : LoadRect S512x128), spos_2_1⟩
abbrev r0_5 : Rect S512x128 := ⟨(⟨![1, 0], S256x128.size, ![2, 1], inb_S512x128_S256x128_1_0_s_2_1⟩ : LoadRect S512x128), spos_2_1⟩
abbrev r0_6 : Rect S256x256 := Rect.unit (s := S256x256) ![0, 0] S256x256.size inb_S256x256_S256x256_0_0
abbrev r0_7 : Rect S256x512 := Rect.unit (s := S256x512) ![0, 0] S256x512.size inb_S256x512_S256x512_0_0
abbrev r0_8 : Rect S1024x128 := Rect.unit (s := S1024x128) ![0, 0] S1024x128.size inb_S1024x128_S1024x128_0_0
abbrev r0_9 : Rect S256x128 := Rect.unit (s := S256x128) ![0, 0] S256x128.size inb_S256x128_S256x128_0_0

/-- The two stores of every second row cover the buffer: a row is in the one of its parity. -/
theorem cover_parity (p0 p1 : Vec F S256x128 .f32) (y : S512x128.Idx) :
    ∃ pc ∈ ([⟨r0_5, p0⟩, ⟨r0_4, p1⟩] : List (View.Piece (Elt F) S512x128 .f32)), y ∈ pc.1.set := by
  have h0 : (y 0).val < 512 := (y 0).isLt
  rcases Nat.mod_two_eq_zero_or_one (y 0).val with h | h
  · refine ⟨⟨r0_4, p1⟩, by simp, r0_4.mem_set.mpr fun a => ?_⟩
    fin_cases a
    · exact ⟨(y 0).val / 2, by show _ < 256; omega, by show (y 0).val = 0 + 2 * ((y 0).val / 2); omega⟩
    · exact ⟨(y 1).val, (y 1).isLt, by show (y 1).val = 0 + 1 * (y 1).val; omega⟩
  · refine ⟨⟨r0_5, p0⟩, by simp, r0_5.mem_set.mpr fun a => ?_⟩
    fin_cases a
    · exact ⟨(y 0).val / 2, by show _ < 256; omega, by show (y 0).val = 1 + 2 * ((y 0).val / 2); omega⟩
    · exact ⟨(y 1).val, (y 1).isLt, by show (y 1).val = 0 + 1 * (y 1).val; omega⟩

/-! ## What the body leaves in each output window's buffer -/

/-! ### Values of the body that the stores' payloads, spelt out, would write more than once

    Each is a vector the body binds (often a part call's result), stated over the input windows' blocks and
    numbered on from the skeleton's payload functions, so that
    `out0_W` and the values after it name it instead of spelling it out. -/

def k0_pay19 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : FVec F S256x1024 .bf16 :=
  k0_pay5 (View.ld x0 r0_0) (View.ld x1 r0_1) -- `v16`
def k0_pay20 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : FVec F S256x512 .f32 :=
  k0_pay7 (View.ld x0 r0_0) (View.ld x1 r0_1) (View.ld x3 r0_3) -- `v26`

/-- Window 11's staging buffer after the body, from the input windows' blocks: its 1 store as pieces, LAST
    FIRST (Lib/Pipeline/FrameBody.lean `View.canon`; the payloads are the skeleton's and the values stated above). -/
def out0_11 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S256x1024 .bf16 :=
  View.canon [⟨r0_0, k0_pay6 (View.ld x0 r0_0) (View.ld x1 r0_1) (View.ld x2 r0_2)⟩]

/-- Its stores tile the buffer (checked by evaluation), so they cover it. -/
theorem cover0_11 (p0 : Vec F S256x1024 .bf16) (y : S256x1024.Idx) :
    ∃ pc ∈ ([⟨r0_0, p0⟩] : List (View.Piece (Elt F) S256x1024 .bf16)), y ∈ pc.1.set :=
  View.cover_of_tiled [⟨r0_0, p0⟩] S256x1024.size (by rfl) y

/-- Window 12's staging buffer after the body, from the input windows' blocks: its 2 stores as pieces, LAST
    FIRST (Lib/Pipeline/FrameBody.lean `View.canon`; the payloads are the skeleton's and the values stated above). -/
def out0_12 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S512x128 .f32 :=
  View.canon [⟨r0_5, k0_pay10 (View.ld x0 r0_0) (View.ld x1 r0_1) (View.ld x3 r0_3)⟩,
    ⟨r0_4, k0_pay8 (View.ld x0 r0_0) (View.ld x1 r0_1) (View.ld x3 r0_3)⟩]

/-- Its stores tile the buffer (checked by evaluation), so they cover it. -/
theorem cover0_12 (p0 : Vec F S256x128 .f32) (p1 : Vec F S256x128 .f32) (y : S512x128.Idx) :
    ∃ pc ∈ ([⟨r0_5, p0⟩, ⟨r0_4, p1⟩] : List (View.Piece (Elt F) S512x128 .f32)), y ∈ pc.1.set :=
  cover_parity p0 p1 y

/-- Window 13's staging buffer after the body, from the input windows' blocks: its 2 stores as pieces, LAST
    FIRST (Lib/Pipeline/FrameBody.lean `View.canon`; the payloads are the skeleton's and the values stated above). -/
def out0_13 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S512x128 .f32 :=
  View.canon [⟨r0_5, k0_pay11 (k0_pay20 x0 x1 x2 x3 x4 x5 x6 x7 x8 x9 x10)⟩,
    ⟨r0_4, k0_pay9 (View.ld x0 r0_0) (View.ld x1 r0_1) (View.ld x3 r0_3)⟩]

/-- Its stores tile the buffer (checked by evaluation), so they cover it. -/
theorem cover0_13 (p0 : Vec F S256x128 .f32) (p1 : Vec F S256x128 .f32) (y : S512x128.Idx) :
    ∃ pc ∈ ([⟨r0_5, p0⟩, ⟨r0_4, p1⟩] : List (View.Piece (Elt F) S512x128 .f32)), y ∈ pc.1.set :=
  cover_parity p0 p1 y

/-- Window 14's staging buffer after the body, from the input windows' blocks: its 1 store as pieces, LAST
    FIRST (Lib/Pipeline/FrameBody.lean `View.canon`; the payloads are the skeleton's and the values stated above). -/
def out0_14 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S256x256 .bf16 :=
  View.canon [⟨r0_6, k0_pay12 (k0_pay20 x0 x1 x2 x3 x4 x5 x6 x7 x8 x9 x10)⟩]

/-- Its stores tile the buffer (checked by evaluation), so they cover it. -/
theorem cover0_14 (p0 : Vec F S256x256 .bf16) (y : S256x256.Idx) :
    ∃ pc ∈ ([⟨r0_6, p0⟩] : List (View.Piece (Elt F) S256x256 .bf16)), y ∈ pc.1.set :=
  View.cover_of_tiled [⟨r0_6, p0⟩] S256x256.size (by rfl) y

/-- Window 15's staging buffer after the body, from the input windows' blocks: its 1 store as pieces, LAST
    FIRST (Lib/Pipeline/FrameBody.lean `View.canon`; the payloads are the skeleton's and the values stated above). -/
def out0_15 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S256x256 .bf16 :=
  View.canon [⟨r0_6, k0_pay13 (k0_pay20 x0 x1 x2 x3 x4 x5 x6 x7 x8 x9 x10)⟩]

/-- Its stores tile the buffer (checked by evaluation), so they cover it. -/
theorem cover0_15 (p0 : Vec F S256x256 .bf16) (y : S256x256.Idx) :
    ∃ pc ∈ ([⟨r0_6, p0⟩] : List (View.Piece (Elt F) S256x256 .bf16)), y ∈ pc.1.set :=
  View.cover_of_tiled [⟨r0_6, p0⟩] S256x256.size (by rfl) y

/-- Window 16's staging buffer after the body, from the input windows' blocks: its 1 store as pieces, LAST
    FIRST (Lib/Pipeline/FrameBody.lean `View.canon`; the payloads are the skeleton's and the values stated above). -/
def out0_16 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S256x512 .bf16 :=
  View.canon [⟨r0_7, k0_pay14 (k0_pay19 x0 x1 x2 x3 x4 x5 x6 x7 x8 x9 x10) (View.ld x4 r0_3)⟩]

/-- Its stores tile the buffer (checked by evaluation), so they cover it. -/
theorem cover0_16 (p0 : Vec F S256x512 .bf16) (y : S256x512.Idx) :
    ∃ pc ∈ ([⟨r0_7, p0⟩] : List (View.Piece (Elt F) S256x512 .bf16)), y ∈ pc.1.set :=
  View.cover_of_tiled [⟨r0_7, p0⟩] S256x512.size (by rfl) y

/-- Window 17's staging buffer after the body, from the input windows' blocks: its 1 store as pieces, LAST
    FIRST (Lib/Pipeline/FrameBody.lean `View.canon`; the payloads are the skeleton's and the values stated above). -/
def out0_17 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S256x128 .bf16 :=
  View.canon [⟨r0_9, k0_pay15 (k0_pay19 x0 x1 x2 x3 x4 x5 x6 x7 x8 x9 x10) (View.ld x5 r0_8)⟩]

/-- Its stores tile the buffer (checked by evaluation), so they cover it. -/
theorem cover0_17 (p0 : Vec F S256x128 .bf16) (y : S256x128.Idx) :
    ∃ pc ∈ ([⟨r0_9, p0⟩] : List (View.Piece (Elt F) S256x128 .bf16)), y ∈ pc.1.set :=
  View.cover_of_tiled [⟨r0_9, p0⟩] S256x128.size (by rfl) y

/-- Window 18's staging buffer after the body, from the input windows' blocks: its 1 store as pieces, LAST
    FIRST (Lib/Pipeline/FrameBody.lean `View.canon`; the payloads are the skeleton's and the values stated above). -/
def out0_18 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S256x128 .bf16 :=
  View.canon [⟨r0_9, k0_pay16 (k0_pay19 x0 x1 x2 x3 x4 x5 x6 x7 x8 x9 x10) (View.ld x6 r0_8)⟩]

/-- Its stores tile the buffer (checked by evaluation), so they cover it. -/
theorem cover0_18 (p0 : Vec F S256x128 .bf16) (y : S256x128.Idx) :
    ∃ pc ∈ ([⟨r0_9, p0⟩] : List (View.Piece (Elt F) S256x128 .bf16)), y ∈ pc.1.set :=
  View.cover_of_tiled [⟨r0_9, p0⟩] S256x128.size (by rfl) y

/-- Window 19's staging buffer after the body, from the input windows' blocks: its 1 store as pieces, LAST
    FIRST (Lib/Pipeline/FrameBody.lean `View.canon`; the payloads are the skeleton's and the values stated above). -/
def out0_19 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S256x128 .f32 :=
  View.canon [⟨r0_9, k0_pay1 (k0_pay17 (k0_pay19 x0 x1 x2 x3 x4 x5 x6 x7 x8 x9 x10) (View.ld x7 r0_8)) k0_pay18⟩]

/-- Its stores tile the buffer (checked by evaluation), so they cover it. -/
theorem cover0_19 (p0 : Vec F S256x128 .f32) (y : S256x128.Idx) :
    ∃ pc ∈ ([⟨r0_9, p0⟩] : List (View.Piece (Elt F) S256x128 .f32)), y ∈ pc.1.set :=
  View.cover_of_tiled [⟨r0_9, p0⟩] S256x128.size (by rfl) y

/-- Window 20's staging buffer after the body, from the input windows' blocks: its 1 store as pieces, LAST
    FIRST (Lib/Pipeline/FrameBody.lean `View.canon`; the payloads are the skeleton's and the values stated above). -/
def out0_20 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S256x1024 .f32 :=
  View.canon [⟨r0_0, k0_pay2 (k0_pay19 x0 x1 x2 x3 x4 x5 x6 x7 x8 x9 x10) (View.ld x8 r0_2)⟩]

/-- Its stores tile the buffer (checked by evaluation), so they cover it. -/
theorem cover0_20 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-- Window 21's staging buffer after the body, from the input windows' blocks: its 1 store as pieces, LAST
    FIRST (Lib/Pipeline/FrameBody.lean `View.canon`; the payloads are the skeleton's and the values stated above). -/
def out0_21 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S256x1024 .f32 :=
  View.canon [⟨r0_0, k0_pay3 (k0_pay19 x0 x1 x2 x3 x4 x5 x6 x7 x8 x9 x10) (View.ld x9 r0_2)⟩]

/-- Its stores tile the buffer (checked by evaluation), so they cover it. -/
theorem cover0_21 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-- Window 22's staging buffer after the body, from the input windows' blocks: its 1 store as pieces, LAST
    FIRST (Lib/Pipeline/FrameBody.lean `View.canon`; the payloads are the skeleton's and the values stated above). -/
def out0_22 (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) : Vec F S256x1024 .f32 :=
  View.canon [⟨r0_0, k0_pay4 (k0_pay19 x0 x1 x2 x3 x4 x5 x6 x7 x8 x9 x10) (View.ld x10 r0_2)⟩]

/-- Its stores tile the buffer (checked by evaluation), so they cover it. -/
theorem cover0_22 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`*_eq_skeleton`), which `sl_exec` runs (Lib/Exec.lean), through every part call. -/
theorem sound_kernel (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S256x1024 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S256x256 .bf16) (harg15 : arg15.IsWhole) (arg16 : Memref sig .tc .vmem S256x256 .bf16) (harg16 : arg16.IsWhole) (arg17 : Memref sig .tc .vmem S256x512 .bf16) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .f32) (harg20 : arg20.IsWhole) (arg21 : Memref sig .tc .vmem S256x1024 .f32) (harg21 : arg21.IsWhole) (arg22 : Memref sig .tc .vmem S256x1024 .f32) (harg22 : arg22.IsWhole) (arg23 : Memref sig .tc .vmem S256x1024 .f32) (harg23 : arg23.IsWhole)
    (x0 : Vec F S256x1024 .f32) (x1 : Vec F S1x1024 .f32) (x2 : Vec F S1024x1024 .bf16) (x3 : Vec F S1024x512 .bf16) (x4 : Vec F S1024x512 .bf16) (x5 : Vec F S1024x128 .bf16) (x6 : Vec F S1024x128 .bf16) (x7 : Vec F S1024x128 .bf16) (x8 : Vec F S1024x1024 .bf16) (x9 : Vec F S1024x1024 .bf16) (x10 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10) ∗ owns (c : Thread nD τ) arg14 fullShare (out0_13 x0 x1 x2 x3 x4 x5 x6 x7 x8 x9 x10) ∗ owns (c : Thread nD τ) arg15 fullShare (out0_14 x0 x1 x2 x3 x4 x5 x6 x7 x8 x9 x10) ∗ owns (c : Thread nD τ) arg16 fullShare (out0_15 x0 x1 x2 x3 x4 x5 x6 x7 x8 x9 x10) ∗ owns (c : Thread nD τ) arg17 fullShare (out0_16 x0 x1 x2 x3 x4 x5 x6 x7 x8 x9 x10) ∗ owns (c : Thread nD τ) arg18 fullShare (out0_17 x0 x1 x2 x3 x4 x5 x6 x7 x8 x9 x10) ∗ owns (c : Thread nD τ) arg19 fullShare (out0_18 x0 x1 x2 x3 x4 x5 x6 x7 x8 x9 x10) ∗ owns (c : Thread nD τ) arg20 fullShare (out0_19 x0 x1 x2 x3 x4 x5 x6 x7 x8 x9 x10) ∗ owns (c : Thread nD τ) arg21 fullShare (out0_20 x0 x1 x2 x3 x4 x5 x6 x7 x8 x9 x10) ∗ owns (c : Thread nD τ) arg22 fullShare (out0_21 x0 x1 x2 x3 x4 x5 x6 x7 x8 x9 x10) ∗ owns (c : Thread nD τ) arg23 fullShare (out0_22 x0 x1 x2 x3 x4 x5 x6 x7 x8 x9 x10)) -∗ K ⟨⟩))
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_proj_eq_skeleton]; unfold cc0_proj_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _ _)).trans ?_
    rfl
  isplitl [H13]
  · iexists _; isplitr
    swap; · iexact H13
    ipureintro
    refine (View.read_writes_eq_canon _ _ _ (cover0_13 _ _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  iexists _; isplitr
  swap; · iexact H22
  ipureintro
  refine (View.read_writes_eq_canon _ _ _ (cover0_22 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨_ + 23, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_Kernel5`'s statement (Defs.lean) at any `F` — Proof.lean cites it at `Bits`:
    `theorem Cert.Proof.claim : Cert.Claim := ⟨Cert.Kernel5.Gen.facts, fun m ρ _ => Cert.Kernel5.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.ProjSample.Bits

end
-- ==== Proof.ProjSampleClaim.lean ====
/- The claims of the call that starts the layer (on the sample). -/
module

public import proofs.«01_k».proof.Defs
public import proofs.«01_k».proof.Proof.ProjSample
public import proofs.«01_k».proof.Proof.ProjSampleHeads
public import proofs.«01_k».proof.Proof.ProjSampleBits

@[expose] public section

noncomputable section

namespace Cert.ProjSample

open Idealize.ShloMosaic Idealize.ShloMosaic.TcCoe Idealize.SL.Sem

/-- The floating-point program runs to the end and leaves its arguments as they were. -/
theorem quiescent_kernel : Cert.quiescent_Kernel5 := fun m ρ _ =>
  Cert.ProjSample.Bits.frame m ρ

/-- So does its idealization. -/
theorem quiescent_ideal : Cert.quiescent_Kernel5Ideal := fun m ρ _ => frame m ρ

/-- And the reference. -/
theorem quiescent_reference : Cert.quiescent_Reference5Ideal := fun m ρ _ =>
  (θ_run Cert.Reference5Ideal.defs _ _).mono
    (fun r h => ⟨fun c => (h c).2.2.2.2.2.2.2.2.2.2.2.2, sem_eq_zero_of_no_sems (by decide) r.2⟩)
    (run_stages m ρ)

/-- Kernel and reference leave the same twelve arrays, for every argument. -/
theorem same_result : Cert.algebraic_Kernel5Ideal_Reference5Ideal := by
  pair_intro
  · run_from run_blocks m g
  · refine (θ_run Cert.Reference5Ideal.defs _ _).mono (fun r h c => ?_) (run_stages m' g')
    obtain ⟨h0, h1, h2⟩ := hagree c
    have hZ : refZm m' c = target m c := by
      show refZ _ _ _ = refZ _ _ _
      rw [h0, h1, h2]
    obtain ⟨r11, r12, r13, r14, r15, r16, r17, r18, r19, r20, r21, r22, kept⟩ := h c
    rw [hZ] at r11 r12 r13 r14 r15 r16 r17 r18 r19 r20 r21 r22
    exact ⟨r11.trans (final11 m c).symm, r12.trans (final12 m c).symm, r13.trans (final13 m c).symm,
      r14.trans (final14 m c).symm, r15.trans (final15 m c).symm, r16.trans (final16 m c).symm,
      r17.trans (final17 m c).symm, r18.trans (final18 m c).symm, r19.trans (final19 m c).symm,
      r20.trans (final20 m c).symm, r21.trans (final21 m c).symm, r22.trans (final22 m c).symm, kept⟩

end Cert.ProjSample

end
-- ==== Proof.LruGate.lean ====
/- The two gates and what they make of one chunk's rows: the decays and the additions, block of columns by block of columns. -/
module

public import proofs.«01_k».proof.Proof.Gen.KernelIdeal.Skeleton
public import Idealize.ShloMosaic.Lib.Pipeline.ValueKit
public import Idealize.ShloMosaic.Lib.Pointwise

@[expose] public section

set_option maxRecDepth 16384

noncomputable section

namespace Cert.Lru

open Idealize.ShloMosaic Idealize.ShloMosaic.TcCoe Idealize.SL.Sem
open Cert.KernelIdeal Cert.KernelIdeal.Gen

variable (X : FVec Ideal S8x1024 .f32) (sp : FVec Ideal S1x1024 .f32) (w : S8x128x256.Idx → Elt Ideal .bf16)
    (g : S8x1x256.Idx → Elt Ideal .f32)

/-- Entry `e` of block `n` of the two gates' arguments at step `r`: the block's row of the convolution times the block's weights, plus the bias. -/
def argAt (r n : Fin 8) (e : Fin 256) : EReal :=
  (∑ k : Fin 128, X (ix2 r ⟨128 * n.val + k.val, by omega⟩) * w (ix3 n k e)) + g (ix3 n 0 e)

/-- The logarithm of the decay at column `j` of block `n`. -/
def logAt (r n : Fin 8) (j : Fin 128) : EReal :=
  Ideal.ofBits FTy.f32 3238002688#32 * Ideal.logistic (argAt X w g r n ⟨j.val, by omega⟩) * sp (ix2 0 ⟨128 * n.val + j.val, by omega⟩)

/-- The decay. -/
def decayAt (r n : Fin 8) (j : Fin 128) : EReal := Ideal.exp (logAt X sp w g r n j)

/-- What the step adds to the decayed state. -/
def addAt (r n : Fin 8) (j : Fin 128) : EReal :=
  Ideal.sqrt ((0 - Ideal.tanh (logAt X sp w g r n j)) * (1 + Ideal.exp (logAt X sp w g r n j) * Ideal.exp (logAt X sp w g r n j)))
    * (Ideal.logistic (argAt X w g r n ⟨128 + j.val, by omega⟩) * X (ix2 r ⟨128 * n.val + j.val, by omega⟩))

/-- All the decays: column `d` is column `d mod 128` of block `d / 128`. -/
def decays : FVec Ideal S8x1024 .f32 := fun y =>
  decayAt X sp w g (y 0) ⟨(y 1).val / 128, by have : (y 1).val < 1024 := (y 1).isLt; omega⟩ ⟨(y 1).val % 128, by omega⟩

/-- All that the steps add. -/
def adds : FVec Ideal S8x1024 .f32 := fun y =>
  addAt X sp w g (y 0) ⟨(y 1).val / 128, by have : (y 1).val < 1024 := (y 1).isLt; omega⟩ ⟨(y 1).val % 128, by omega⟩

/-- An index whose column is `128 n + j` reads block `n`'s column `j`. -/
theorem decays_at (y : S8x1024.Idx) (r n : Fin 8) (j : Fin 128) (h0 : (y 0).val = r.val) (h1 : (y 1).val = 128 * n.val + j.val) :
    decays X sp w g y = decayAt X sp w g r n j := by
  unfold decays
  congr 1
  · exact Fin.ext h0
  · exact Fin.ext (show (y 1).val / 128 = n.val by omega)
  · exact Fin.ext (show (y 1).val % 128 = j.val by omega)

/-- The same for what is added. -/
theorem adds_at (y : S8x1024.Idx) (r n : Fin 8) (j : Fin 128) (h0 : (y 0).val = r.val) (h1 : (y 1).val = 128 * n.val + j.val) :
    adds X sp w g y = addAt X sp w g r n j := by
  unfold adds
  congr 1
  · exact Fin.ext h0
  · exact Fin.ext (show (y 1).val / 128 = n.val by omega)
  · exact Fin.ext (show (y 1).val % 128 = j.val by omega)

/-- The decays stored for block 0. -/
theorem decay0 (x7 : S1x1024.Idx → Elt Ideal .f32) (x : S8x128.Idx) :
    (k0_pay20 (F := Ideal) (k0_pay19 (F := Ideal) X x7 (View.ld (Val := Elt Ideal) (e' := .bf16) w (Rect.unit ![0, 0, 0] ![1, 128, 256] inb_S8x128x256_S1x128x256_0_0_0)) (View.ld (Val := Elt Ideal) (e' := .f32) g (Rect.unit ![0, 0, 0] ![1, 1, 256] inb_S8x1x256_S1x1x256_0_0_0))) : FVec Ideal S8x128 .f32) x
      = decays X (k0_pay14 (F := Ideal) x7) w g ((Rect.unit (s := S8x1024) ![0, 0] ![8, 128] inb_S8x1024_S8x128_0_0).emb x) := by
  obtain ⟨r, j, rfl⟩ : ∃ (r : Fin 8) (j : Fin 128), x = ix2 r j := ⟨x 0, x 1, eq_ix2 x⟩
  rw [decays_at X _ w g _ r 0 j ((show _ = 0 + 1 * r.val from rfl).trans (by omega)) ((show _ = 0 + 1 * j.val from rfl).trans (show _ = 128 * 0 + j.val by omega))]
  pointwise [k0_pay20, k0_pay19, k0_pay18, k0_pay16, k0_pay15, decayAt, logAt, argAt]

/-- The additions stored for block 0. -/
theorem add0 (x7 : S1x1024.Idx → Elt Ideal .f32) (x : S8x128.Idx) :
    (k0_pay21 (F := Ideal) (k0_pay15 (F := Ideal) X) (k0_pay17 (F := Ideal) X (View.ld (Val := Elt Ideal) (e' := .bf16) w (Rect.unit ![0, 0, 0] ![1, 128, 256] inb_S8x128x256_S1x128x256_0_0_0)) (View.ld (Val := Elt Ideal) (e' := .f32) g (Rect.unit ![0, 0, 0] ![1, 1, 256] inb_S8x1x256_S1x1x256_0_0_0))) (k0_pay18 (F := Ideal) X x7 (View.ld (Val := Elt Ideal) (e' := .bf16) w (Rect.unit ![0, 0, 0] ![1, 128, 256] inb_S8x128x256_S1x128x256_0_0_0)) (View.ld (Val := Elt Ideal) (e' := .f32) g (Rect.unit ![0, 0, 0] ![1, 1, 256] inb_S8x1x256_S1x1x256_0_0_0))) (k0_pay19 (F := Ideal) X x7 (View.ld (Val := Elt Ideal) (e' := .bf16) w (Rect.unit ![0, 0, 0] ![1, 128, 256] inb_S8x128x256_S1x128x256_0_0_0)) (View.ld (Val := Elt Ideal) (e' := .f32) g (Rect.unit ![0, 0, 0] ![1, 1, 256] inb_S8x1x256_S1x1x256_0_0_0))) : FVec Ideal S8x128 .f32) x
      = adds X (k0_pay14 (F := Ideal) x7) w g ((Rect.unit (s := S8x1024) ![0, 0] ![8, 128] inb_S8x1024_S8x128_0_0).emb x) := by
  obtain ⟨r, j, rfl⟩ : ∃ (r : Fin 8) (j : Fin 128), x = ix2 r j := ⟨x 0, x 1, eq_ix2 x⟩
  rw [adds_at X _ w g _ r 0 j ((show _ = 0 + 1 * r.val from rfl).trans (by omega)) ((show _ = 0 + 1 * j.val from rfl).trans (show _ = 128 * 0 + j.val by omega))]
  pointwise [k0_pay21, k0_pay19, k0_pay18, k0_pay17, k0_pay16, k0_pay15, addAt, logAt, argAt]

/-- The decays stored for block 1. -/
theorem decay1 (x : S8x128.Idx) :
    (k0_pay27 (F := Ideal) X sp (View.ld (Val := Elt Ideal) (e' := .bf16) w (Rect.unit ![1, 0, 0] ![1, 128, 256] inb_S8x128x256_S1x128x256_1_0_0)) (View.ld (Val := Elt Ideal) (e' := .f32) g (Rect.unit ![1, 0, 0] ![1, 1, 256] inb_S8x1x256_S1x1x256_1_0_0)) : FVec Ideal S8x128 .f32) x
      = decays X sp w g ((Rect.unit (s := S8x1024) ![0, 128] ![8, 128] inb_S8x1024_S8x128_0_128).emb x) := by
  obtain ⟨r, j, rfl⟩ : ∃ (r : Fin 8) (j : Fin 128), x = ix2 r j := ⟨x 0, x 1, eq_ix2 x⟩
  rw [decays_at X _ w g _ r 1 j ((show _ = 0 + 1 * r.val from rfl).trans (by omega)) ((show _ = 128 + 1 * j.val from rfl).trans (show _ = 128 * 1 + j.val by omega))]
  pointwise [k0_pay27, k0_pay26, k0_pay25, k0_pay23, k0_pay22, decayAt, logAt, argAt]

/-- The additions stored for block 1. -/
theorem add1 (x : S8x128.Idx) :
    (k0_pay30 (F := Ideal) (k0_pay22 (F := Ideal) X) (k0_pay24 (F := Ideal) X (View.ld (Val := Elt Ideal) (e' := .bf16) w (Rect.unit ![1, 0, 0] ![1, 128, 256] inb_S8x128x256_S1x128x256_1_0_0)) (View.ld (Val := Elt Ideal) (e' := .f32) g (Rect.unit ![1, 0, 0] ![1, 1, 256] inb_S8x1x256_S1x1x256_1_0_0))) (k0_pay26 (F := Ideal) X sp (View.ld (Val := Elt Ideal) (e' := .bf16) w (Rect.unit ![1, 0, 0] ![1, 128, 256] inb_S8x128x256_S1x128x256_1_0_0)) (View.ld (Val := Elt Ideal) (e' := .f32) g (Rect.unit ![1, 0, 0] ![1, 1, 256] inb_S8x1x256_S1x1x256_1_0_0))) (k0_pay28 (F := Ideal) X sp (View.ld (Val := Elt Ideal) (e' := .bf16) w (Rect.unit ![1, 0, 0] ![1, 128, 256] inb_S8x128x256_S1x128x256_1_0_0)) (View.ld (Val := Elt Ideal) (e' := .f32) g (Rect.unit ![1, 0, 0] ![1, 1, 256] inb_S8x1x256_S1x1x256_1_0_0))) (k0_pay29 (F := Ideal)) : FVec Ideal S8x128 .f32) x
      = adds X sp w g ((Rect.unit (s := S8x1024) ![0, 128] ![8, 128] inb_S8x1024_S8x128_0_128).emb x) := by
  obtain ⟨r, j, rfl⟩ : ∃ (r : Fin 8) (j : Fin 128), x = ix2 r j := ⟨x 0, x 1, eq_ix2 x⟩
  rw [adds_at X _ w g _ r 1 j ((show _ = 0 + 1 * r.val from rfl).trans (by omega)) ((show _ = 128 + 1 * j.val from rfl).trans (show _ = 128 * 1 + j.val by omega))]
  pointwise [k0_pay30, k0_pay29, k0_pay28, k0_pay26, k0_pay25, k0_pay24, k0_pay23, k0_pay22, addAt, logAt, argAt]

/-- The decays stored for block 2. -/
theorem decay2 (x : S8x128.Idx) :
    (k0_pay35 (F := Ideal) X sp (View.ld (Val := Elt Ideal) (e' := .bf16) w (Rect.unit ![2, 0, 0] ![1, 128, 256] inb_S8x128x256_S1x128x256_2_0_0)) (View.ld (Val := Elt Ideal) (e' := .f32) g (Rect.unit ![2, 0, 0] ![1, 1, 256] inb_S8x1x256_S1x1x256_2_0_0)) : FVec Ideal S8x128 .f32) x
      = decays X sp w g ((Rect.unit (s := S8x1024) ![0, 256] ![8, 128] inb_S8x1024_S8x128_0_256).emb x) := by
  obtain ⟨r, j, rfl⟩ : ∃ (r : Fin 8) (j : Fin 128), x = ix2 r j := ⟨x 0, x 1, eq_ix2 x⟩
  rw [decays_at X _ w g _ r 2 j ((show _ = 0 + 1 * r.val from rfl).trans (by omega)) ((show _ = 256 + 1 * j.val from rfl).trans (show _ = 128 * 2 + j.val by omega))]
  pointwise [k0_pay35, k0_pay34, k0_pay33, k0_pay32, k0_pay31, decayAt, logAt, argAt]

/-- The additions stored for block 2. -/
theorem add2 (x : S8x128.Idx) :
    (k0_pay37 (F := Ideal) (k0_pay36 (F := Ideal) X sp (View.ld (Val := Elt Ideal) (e' := .bf16) w (Rect.unit ![2, 0, 0] ![1, 128, 256] inb_S8x128x256_S1x128x256_2_0_0)) (View.ld (Val := Elt Ideal) (e' := .f32) g (Rect.unit ![2, 0, 0] ![1, 1, 256] inb_S8x1x256_S1x1x256_2_0_0))) : FVec Ideal S8x128 .f32) x
      = adds X sp w g ((Rect.unit (s := S8x1024) ![0, 256] ![8, 128] inb_S8x1024_S8x128_0_256).emb x) := by
  obtain ⟨r, j, rfl⟩ : ∃ (r : Fin 8) (j : Fin 128), x = ix2 r j := ⟨x 0, x 1, eq_ix2 x⟩
  rw [adds_at X _ w g _ r 2 j ((show _ = 0 + 1 * r.val from rfl).trans (by omega)) ((show _ = 256 + 1 * j.val from rfl).trans (show _ = 128 * 2 + j.val by omega))]
  pointwise [k0_pay37, k0_pay36, k0_pay34, k0_pay33, k0_pay32, k0_pay31, addAt, logAt, argAt]

/-- The decays stored for block 3. -/
theorem decay3 (x : S8x128.Idx) :
    (k0_pay42 (F := Ideal) X sp (View.ld (Val := Elt Ideal) (e' := .bf16) w (Rect.unit ![3, 0, 0] ![1, 128, 256] inb_S8x128x256_S1x128x256_3_0_0)) (View.ld (Val := Elt Ideal) (e' := .f32) g (Rect.unit ![3, 0, 0] ![1, 1, 256] inb_S8x1x256_S1x1x256_3_0_0)) : FVec Ideal S8x128 .f32) x
      = decays X sp w g ((Rect.unit (s := S8x1024) ![0, 384] ![8, 128] inb_S8x1024_S8x128_0_384).emb x) := by
  obtain ⟨r, j, rfl⟩ : ∃ (r : Fin 8) (j : Fin 128), x = ix2 r j := ⟨x 0, x 1, eq_ix2 x⟩
  rw [decays_at X _ w g _ r 3 j ((show _ = 0 + 1 * r.val from rfl).trans (by omega)) ((show _ = 384 + 1 * j.val from rfl).trans (show _ = 128 * 3 + j.val by omega))]
  pointwise [k0_pay42, k0_pay41, k0_pay40, k0_pay39, k0_pay38, decayAt, logAt, argAt]

/-- The additions stored for block 3. -/
theorem add3 (x : S8x128.Idx) :
    (k0_pay43 (F := Ideal) X sp (View.ld (Val := Elt Ideal) (e' := .bf16) w (Rect.unit ![3, 0, 0] ![1, 128, 256] inb_S8x128x256_S1x128x256_3_0_0)) (View.ld (Val := Elt Ideal) (e' := .f32) g (Rect.unit ![3, 0, 0] ![1, 1, 256] inb_S8x1x256_S1x1x256_3_0_0)) : FVec Ideal S8x128 .f32) x
      = adds X sp w g ((Rect.unit (s := S8x1024) ![0, 384] ![8, 128] inb_S8x1024_S8x128_0_384).emb x) := by
  obtain ⟨r, j, rfl⟩ : ∃ (r : Fin 8) (j : Fin 128), x = ix2 r j := ⟨x 0, x 1, eq_ix2 x⟩
  rw [adds_at X _ w g _ r 3 j ((show _ = 0 + 1 * r.val from rfl).trans (by omega)) ((show _ = 384 + 1 * j.val from rfl).trans (show _ = 128 * 3 + j.val by omega))]
  pointwise [k0_pay43, k0_pay41, k0_pay40, k0_pay39, k0_pay38, addAt, logAt, argAt]

/-- The decays stored for block 4. -/
theorem decay4 (x : S8x128.Idx) :
    (k0_pay49 (F := Ideal) sp (k0_pay45 (F := Ideal) X) (View.ld (Val := Elt Ideal) (e' := .bf16) w (Rect.unit ![4, 0, 0] ![1, 128, 256] inb_S8x128x256_S1x128x256_4_0_0)) (View.ld (Val := Elt Ideal) (e' := .f32) g (Rect.unit ![4, 0, 0] ![1, 1, 256] inb_S8x1x256_S1x1x256_4_0_0)) : FVec Ideal S8x128 .f32) x
      = decays X sp w g ((Rect.unit (s := S8x1024) ![0, 512] ![8, 128] inb_S8x1024_S8x128_0_512).emb x) := by
  obtain ⟨r, j, rfl⟩ : ∃ (r : Fin 8) (j : Fin 128), x = ix2 r j := ⟨x 0, x 1, eq_ix2 x⟩
  rw [decays_at X _ w g _ r 4 j ((show _ = 0 + 1 * r.val from rfl).trans (by omega)) ((show _ = 512 + 1 * j.val from rfl).trans (show _ = 128 * 4 + j.val by omega))]
  pointwise [k0_pay49, k0_pay48, k0_pay47, k0_pay46, k0_pay45, k0_pay44, decayAt, logAt, argAt]

/-- The additions stored for block 4. -/
theorem add4 (x : S8x128.Idx) :
    (k0_pay50 (F := Ideal) sp (k0_pay44 (F := Ideal) X) (k0_pay45 (F := Ideal) X) (View.ld (Val := Elt Ideal) (e' := .bf16) w (Rect.unit ![4, 0, 0] ![1, 128, 256] inb_S8x128x256_S1x128x256_4_0_0)) (View.ld (Val := Elt Ideal) (e' := .f32) g (Rect.unit ![4, 0, 0] ![1, 1, 256] inb_S8x1x256_S1x1x256_4_0_0)) : FVec Ideal S8x128 .f32) x
      = adds X sp w g ((Rect.unit (s := S8x1024) ![0, 512] ![8, 128] inb_S8x1024_S8x128_0_512).emb x) := by
  obtain ⟨r, j, rfl⟩ : ∃ (r : Fin 8) (j : Fin 128), x = ix2 r j := ⟨x 0, x 1, eq_ix2 x⟩
  rw [adds_at X _ w g _ r 4 j ((show _ = 0 + 1 * r.val from rfl).trans (by omega)) ((show _ = 512 + 1 * j.val from rfl).trans (show _ = 128 * 4 + j.val by omega))]
  pointwise [k0_pay50, k0_pay48, k0_pay47, k0_pay46, k0_pay45, k0_pay44, addAt, logAt, argAt]

/-- The decays stored for block 5. -/
theorem decay5 (x : S8x128.Idx) :
    (k0_pay56 (F := Ideal) sp (k0_pay52 (F := Ideal) X (View.ld (Val := Elt Ideal) (e' := .bf16) w (Rect.unit ![5, 0, 0] ![1, 128, 256] inb_S8x128x256_S1x128x256_5_0_0))) (View.ld (Val := Elt Ideal) (e' := .f32) g (Rect.unit ![5, 0, 0] ![1, 1, 256] inb_S8x1x256_S1x1x256_5_0_0)) : FVec Ideal S8x128 .f32) x
      = decays X sp w g ((Rect.unit (s := S8x1024) ![0, 640] ![8, 128] inb_S8x1024_S8x128_0_640).emb x) := by
  obtain ⟨r, j, rfl⟩ : ∃ (r : Fin 8) (j : Fin 128), x = ix2 r j := ⟨x 0, x 1, eq_ix2 x⟩
  rw [decays_at X _ w g _ r 5 j ((show _ = 0 + 1 * r.val from rfl).trans (by omega)) ((show _ = 640 + 1 * j.val from rfl).trans (show _ = 128 * 5 + j.val by omega))]
  pointwise [k0_pay56, k0_pay55, k0_pay54, k0_pay53, k0_pay52, k0_pay51, decayAt, logAt, argAt]

/-- The additions stored for block 5. -/
theorem add5 (x : S8x128.Idx) :
    (k0_pay57 (F := Ideal) sp (k0_pay51 (F := Ideal) X) (k0_pay52 (F := Ideal) X (View.ld (Val := Elt Ideal) (e' := .bf16) w (Rect.unit ![5, 0, 0] ![1, 128, 256] inb_S8x128x256_S1x128x256_5_0_0))) (View.ld (Val := Elt Ideal) (e' := .f32) g (Rect.unit ![5, 0, 0] ![1, 1, 256] inb_S8x1x256_S1x1x256_5_0_0)) : FVec Ideal S8x128 .f32) x
      = adds X sp w g ((Rect.unit (s := S8x1024) ![0, 640] ![8, 128] inb_S8x1024_S8x128_0_640).emb x) := by
  obtain ⟨r, j, rfl⟩ : ∃ (r : Fin 8) (j : Fin 128), x = ix2 r j := ⟨x 0, x 1, eq_ix2 x⟩
  rw [adds_at X _ w g _ r 5 j ((show _ = 0 + 1 * r.val from rfl).trans (by omega)) ((show _ = 640 + 1 * j.val from rfl).trans (show _ = 128 * 5 + j.val by omega))]
  pointwise [k0_pay57, k0_pay55, k0_pay54, k0_pay53, k0_pay52, k0_pay51, addAt, logAt, argAt]

/-- The decays stored for block 6. -/
theorem decay6 (x : S8x128.Idx) :
    (k0_pay64 (F := Ideal) sp (k0_pay60 (F := Ideal) X (View.ld (Val := Elt Ideal) (e' := .bf16) w (Rect.unit ![6, 0, 0] ![1, 128, 256] inb_S8x128x256_S1x128x256_6_0_0)) (View.ld (Val := Elt Ideal) (e' := .f32) g (Rect.unit ![6, 0, 0] ![1, 1, 256] inb_S8x1x256_S1x1x256_6_0_0))) (FloatOps.ofBits FTy.f32 3238002688#32) : FVec Ideal S8x128 .f32) x
      = decays X sp w g ((Rect.unit (s := S8x1024) ![0, 768] ![8, 128] inb_S8x1024_S8x128_0_768).emb x) := by
  obtain ⟨r, j, rfl⟩ : ∃ (r : Fin 8) (j : Fin 128), x = ix2 r j := ⟨x 0, x 1, eq_ix2 x⟩
  rw [decays_at X _ w g _ r 6 j ((show _ = 0 + 1 * r.val from rfl).trans (by omega)) ((show _ = 768 + 1 * j.val from rfl).trans (show _ = 128 * 6 + j.val by omega))]
  pointwise [k0_pay64, k0_pay63, k0_pay62, k0_pay60, k0_pay59, k0_pay58, decayAt, logAt, argAt]

/-- The additions stored for block 6. -/
theorem add6 (x : S8x128.Idx) :
    (k0_pay65 (F := Ideal) sp (k0_pay58 (F := Ideal) X) (k0_pay60 (F := Ideal) X (View.ld (Val := Elt Ideal) (e' := .bf16) w (Rect.unit ![6, 0, 0] ![1, 128, 256] inb_S8x128x256_S1x128x256_6_0_0)) (View.ld (Val := Elt Ideal) (e' := .f32) g (Rect.unit ![6, 0, 0] ![1, 1, 256] inb_S8x1x256_S1x1x256_6_0_0))) (k0_pay61 (F := Ideal) X (View.ld (Val := Elt Ideal) (e' := .bf16) w (Rect.unit ![6, 0, 0] ![1, 128, 256] inb_S8x128x256_S1x128x256_6_0_0)) (View.ld (Val := Elt Ideal) (e' := .f32) g (Rect.unit ![6, 0, 0] ![1, 1, 256] inb_S8x1x256_S1x1x256_6_0_0))) (FloatOps.ofBits FTy.f32 3238002688#32) : FVec Ideal S8x128 .f32) x
      = adds X sp w g ((Rect.unit (s := S8x1024) ![0, 768] ![8, 128] inb_S8x1024_S8x128_0_768).emb x) := by
  obtain ⟨r, j, rfl⟩ : ∃ (r : Fin 8) (j : Fin 128), x = ix2 r j := ⟨x 0, x 1, eq_ix2 x⟩
  rw [adds_at X _ w g _ r 6 j ((show _ = 0 + 1 * r.val from rfl).trans (by omega)) ((show _ = 768 + 1 * j.val from rfl).trans (show _ = 128 * 6 + j.val by omega))]
  pointwise [k0_pay65, k0_pay63, k0_pay62, k0_pay61, k0_pay60, k0_pay59, k0_pay58, addAt, logAt, argAt]

/-- The decays stored for block 7. -/
theorem decay7 (x : S8x128.Idx) :
    (k0_pay71 (F := Ideal) (k0_pay70 (F := Ideal) X sp (View.ld (Val := Elt Ideal) (e' := .bf16) w (Rect.unit ![7, 0, 0] ![1, 128, 256] inb_S8x128x256_S1x128x256_7_0_0)) (View.ld (Val := Elt Ideal) (e' := .f32) g (Rect.unit ![7, 0, 0] ![1, 1, 256] inb_S8x1x256_S1x1x256_7_0_0))) : FVec Ideal S8x128 .f32) x
      = decays X sp w g ((Rect.unit (s := S8x1024) ![0, 896] ![8, 128] inb_S8x1024_S8x128_0_896).emb x) := by
  obtain ⟨r, j, rfl⟩ : ∃ (r : Fin 8) (j : Fin 128), x = ix2 r j := ⟨x 0, x 1, eq_ix2 x⟩
  rw [decays_at X _ w g _ r 7 j ((show _ = 0 + 1 * r.val from rfl).trans (by omega)) ((show _ = 896 + 1 * j.val from rfl).trans (show _ = 128 * 7 + j.val by omega))]
  pointwise [k0_pay71, k0_pay70, k0_pay69, k0_pay67, k0_pay66, decayAt, logAt, argAt]

/-- The additions stored for block 7. -/
theorem add7 (x : S8x128.Idx) :
    (k0_pay72 (F := Ideal) (k0_pay66 (F := Ideal) X) (k0_pay68 (F := Ideal) X (View.ld (Val := Elt Ideal) (e' := .bf16) w (Rect.unit ![7, 0, 0] ![1, 128, 256] inb_S8x128x256_S1x128x256_7_0_0)) (View.ld (Val := Elt Ideal) (e' := .f32) g (Rect.unit ![7, 0, 0] ![1, 1, 256] inb_S8x1x256_S1x1x256_7_0_0))) (k0_pay69 (F := Ideal) X sp (View.ld (Val := Elt Ideal) (e' := .bf16) w (Rect.unit ![7, 0, 0] ![1, 128, 256] inb_S8x128x256_S1x128x256_7_0_0)) (View.ld (Val := Elt Ideal) (e' := .f32) g (Rect.unit ![7, 0, 0] ![1, 1, 256] inb_S8x1x256_S1x1x256_7_0_0))) (k0_pay70 (F := Ideal) X sp (View.ld (Val := Elt Ideal) (e' := .bf16) w (Rect.unit ![7, 0, 0] ![1, 128, 256] inb_S8x128x256_S1x128x256_7_0_0)) (View.ld (Val := Elt Ideal) (e' := .f32) g (Rect.unit ![7, 0, 0] ![1, 1, 256] inb_S8x1x256_S1x1x256_7_0_0))) : FVec Ideal S8x128 .f32) x
      = adds X sp w g ((Rect.unit (s := S8x1024) ![0, 896] ![8, 128] inb_S8x1024_S8x128_0_896).emb x) := by
  obtain ⟨r, j, rfl⟩ : ∃ (r : Fin 8) (j : Fin 128), x = ix2 r j := ⟨x 0, x 1, eq_ix2 x⟩
  rw [adds_at X _ w g _ r 7 j ((show _ = 0 + 1 * r.val from rfl).trans (by omega)) ((show _ = 896 + 1 * j.val from rfl).trans (show _ = 128 * 7 + j.val by omega))]
  pointwise [k0_pay72, k0_pay70, k0_pay69, k0_pay68, k0_pay67, k0_pay66, addAt, logAt, argAt]

end Cert.Lru
-- ==== Proof.LruBlock.lean ====
/- What the kernel's body reads back from its scratch buffers: the chunk with the rows before it, its convolution, the decays and the additions. -/
module

public import proofs.«01_k».proof.Proof.LruGate
public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Lru

open Idealize.ShloMosaic Idealize.ShloMosaic.TcCoe Idealize.SL.Sem
open Cert.KernelIdeal Cert.KernelIdeal.Gen

variable (x0 : S1x8x1024.Idx → Elt Ideal .f32) (x1 : S1x3x1024.Idx → Elt Ideal .f32) (x3 : S4x1024.Idx → Elt Ideal .f32)
    (x4 : S1x1024.Idx → Elt Ideal .f32)

/-- The chunk with the three rows before it: rows 5 to 7 the carried rows, rows 8 to 15 the chunk. -/
def ext : S16x1024.Idx → Elt Ideal .f32 := fun y =>
  if h : (y 0).val < 8 then x1 (ix3 0 ⟨(y 0).val - 5, by omega⟩ (y 1))
  else x0 (ix3 0 ⟨(y 0).val - 8, by have : (y 0).val < 16 := (y 0).isLt; omega⟩ (y 1))

/-- A load of rows from the fifth on reads it. -/
theorem ext_load (B : LoadRect S16x1024) (hB : ∀ j, 5 ≤ (B.idx j 0).val) :
    View.readCov (Val := Elt Ideal) (View.whole cc0_scratch0)
      [⟨Rect.unit ![8, 0] ![8, 1024] inb_S16x1024_S8x1024_8_0, k0_pay10 (F := Ideal) x0⟩,
        ⟨Rect.unit ![5, 0] ![3, 1024] inb_S16x1024_S3x1024_5_0, k0_pay8 (F := Ideal) x1⟩] B
    = fun j => ext x0 x1 (B.idx j) := by
  rw [View.readCov_eq_canon']
  funext j
  refine View.canon_apply_of_pieces (Val := Elt Ideal) (ext x0 x1) _ ?_ _ ?_
  · rintro p hp x
    simp only [List.mem_cons, List.not_mem_nil, or_false] at hp
    rcases hp with rfl | rfl
    · obtain ⟨r, d, rfl⟩ : ∃ (r : Fin 8) (d : Fin 1024), x = ix2 r d := ⟨x 0, x 1, eq_ix2 x⟩
      have e0 : ((Rect.unit (s := S16x1024) ![8, 0] ![8, 1024] inb_S16x1024_S8x1024_8_0).emb (ix2 r d) 0).val = 8 + 1 * r.val := rfl
      have e1 : ((Rect.unit (s := S16x1024) ![8, 0] ![8, 1024] inb_S16x1024_S8x1024_8_0).emb (ix2 r d) 1).val = 0 + 1 * d.val := rfl
      unfold ext
      refine Eq.trans ?_ (dif_neg (by rw [e0]; omega)).symm
      pointwise [k0_pay10]
      exact congrArg x0 (congrArg₂ (fun a b => ix3 0 a b) (Fin.ext (by simp only [e0]; omega)) (Fin.ext (by simp only [e1]; omega)))
    · obtain ⟨r, d, rfl⟩ : ∃ (r : Fin 3) (d : Fin 1024), x = ix2 r d := ⟨x 0, x 1, eq_ix2 x⟩
      have e0 : ((Rect.unit (s := S16x1024) ![5, 0] ![3, 1024] inb_S16x1024_S3x1024_5_0).emb (ix2 r d) 0).val = 5 + 1 * r.val := rfl
      have e1 : ((Rect.unit (s := S16x1024) ![5, 0] ![3, 1024] inb_S16x1024_S3x1024_5_0).emb (ix2 r d) 1).val = 0 + 1 * d.val := rfl
      unfold ext
      refine Eq.trans ?_ (dif_pos (by rw [e0]; omega)).symm
      pointwise [k0_pay8]
      exact congrArg x1 (congrArg₂ (fun a b => ix3 0 a b) (Fin.ext (by simp only [e0]; omega)) (Fin.ext (by simp only [e1]; omega)))
  · have := hB j
    generalize B.idx j = y at this ⊢
    have h16 : (y 0).val < 16 := (y 0).isLt
    have h1 : (y 1).val < 1024 := (y 1).isLt
    by_cases h : (y 0).val < 8
    · refine ⟨⟨Rect.unit ![5, 0] ![3, 1024] inb_S16x1024_S3x1024_5_0, k0_pay8 (F := Ideal) x1⟩, by simp, ?_⟩
      change y ∈ (Rect.unit (s := S16x1024) ![5, 0] ![3, 1024] inb_S16x1024_S3x1024_5_0).set
      rw [Rect.mem_set_unit]
      intro a
      fin_cases a
      · exact ⟨this, show (y 0).val < 5 + 3 by omega⟩
      · exact ⟨Nat.zero_le _, show (y 1).val < 0 + 1024 by omega⟩
    · refine ⟨⟨Rect.unit ![8, 0] ![8, 1024] inb_S16x1024_S8x1024_8_0, k0_pay10 (F := Ideal) x0⟩, by simp, ?_⟩
      change y ∈ (Rect.unit (s := S16x1024) ![8, 0] ![8, 1024] inb_S16x1024_S8x1024_8_0).set
      rw [Rect.mem_set_unit]
      intro a
      fin_cases a
      · exact ⟨show 8 ≤ (y 0).val by omega, show (y 0).val < 8 + 8 by omega⟩
      · exact ⟨Nat.zero_le _, show (y 1).val < 0 + 1024 by omega⟩

/-- The convolution's rows. -/
def conv : FVec Ideal S8x1024 .f32 := fun y =>
  x4 (ix2 0 (y 1)) + ext x0 x1 (ix2 ⟨5 + (y 0).val, by have : (y 0).val < 8 := (y 0).isLt; omega⟩ (y 1)) * x3 (ix2 0 (y 1))
    + ext x0 x1 (ix2 ⟨6 + (y 0).val, by have : (y 0).val < 8 := (y 0).isLt; omega⟩ (y 1)) * x3 (ix2 1 (y 1))
    + ext x0 x1 (ix2 ⟨7 + (y 0).val, by have : (y 0).val < 8 := (y 0).isLt; omega⟩ (y 1)) * x3 (ix2 2 (y 1))
    + ext x0 x1 (ix2 ⟨8 + (y 0).val, by have : (y 0).val < 8 := (y 0).isLt; omega⟩ (y 1)) * x3 (ix2 3 (y 1))

theorem conv_load : k0_pay11 (F := Ideal) x4
      (fun j => ext x0 x1 ((Rect.unit (s := S16x1024) ![5, 0] ![8, 1024] inb_S16x1024_S8x1024_5_0).toLoadRect.idx j))
      (View.ld (Val := Elt Ideal) (e' := .f32) x3 (Rect.unit ![0, 0] ![1, 1024] inb_S4x1024_S1x1024_0_0))
      (fun j => ext x0 x1 ((Rect.unit (s := S16x1024) ![6, 0] ![8, 1024] inb_S16x1024_S8x1024_6_0).toLoadRect.idx j))
      (View.ld (Val := Elt Ideal) (e' := .f32) x3 (Rect.unit ![1, 0] ![1, 1024] inb_S4x1024_S1x1024_1_0))
      (fun j => ext x0 x1 ((Rect.unit (s := S16x1024) ![7, 0] ![8, 1024] inb_S16x1024_S8x1024_7_0).toLoadRect.idx j))
      (View.ld (Val := Elt Ideal) (e' := .f32) x3 (Rect.unit ![2, 0] ![1, 1024] inb_S4x1024_S1x1024_2_0))
      (fun j => ext x0 x1 ((Rect.unit (s := S16x1024) ![8, 0] ![8, 1024] inb_S16x1024_S8x1024_8_0).toLoadRect.idx j))
      (View.ld (Val := Elt Ideal) (e' := .f32) x3 (Rect.unit ![3, 0] ![1, 1024] inb_S4x1024_S1x1024_3_0))
    = conv x0 x1 x3 x4 := by
  funext y
  obtain ⟨r, d, rfl⟩ : ∃ (r : Fin 8) (d : Fin 1024), y = ix2 r d := ⟨y 0, y 1, eq_ix2 y⟩
  unfold conv
  generalize ext x0 x1 = E
  pointwise [k0_pay11]

/-- A load that starts at row `o` reads no row before it. -/
theorem le_load (o : ℕ) (h : ∀ a, (![o, 0] : Fin 2 → ℕ) a + (![8, 1024] : Fin 2 → ℕ) a ≤ S16x1024.size a)
    (j : (Rect.unit (s := S16x1024) ![o, 0] ![8, 1024] h).toLoadRect.shape.Idx) (ho : 5 ≤ o) :
    5 ≤ ((Rect.unit (s := S16x1024) ![o, 0] ![8, 1024] h).toLoadRect.idx j 0).val :=
  le_trans ho (show o ≤ o + 1 * (j 0).val from Nat.le_add_right _ _)

/-- The convolution of what was stored. -/
theorem conv_stored : k0_pay11 (F := Ideal) x4
      (View.readCov (Val := Elt Ideal) (View.whole cc0_scratch0)
        [⟨Rect.unit ![8, 0] ![8, 1024] inb_S16x1024_S8x1024_8_0, k0_pay10 (F := Ideal) x0⟩,
          ⟨Rect.unit ![5, 0] ![3, 1024] inb_S16x1024_S3x1024_5_0, k0_pay8 (F := Ideal) x1⟩]
        (Rect.unit (s := S16x1024) ![5, 0] ![8, 1024] inb_S16x1024_S8x1024_5_0).toLoadRect)
      (View.ld (Val := Elt Ideal) (e' := .f32) x3 (Rect.unit ![0, 0] ![1, 1024] inb_S4x1024_S1x1024_0_0))
      (View.readCov (Val := Elt Ideal) (View.whole cc0_scratch0)
        [⟨Rect.unit ![8, 0] ![8, 1024] inb_S16x1024_S8x1024_8_0, k0_pay10 (F := Ideal) x0⟩,
          ⟨Rect.unit ![5, 0] ![3, 1024] inb_S16x1024_S3x1024_5_0, k0_pay8 (F := Ideal) x1⟩]
        (Rect.unit (s := S16x1024) ![6, 0] ![8, 1024] inb_S16x1024_S8x1024_6_0).toLoadRect)
      (View.ld (Val := Elt Ideal) (e' := .f32) x3 (Rect.unit ![1, 0] ![1, 1024] inb_S4x1024_S1x1024_1_0))
      (View.readCov (Val := Elt Ideal) (View.whole cc0_scratch0)
        [⟨Rect.unit ![8, 0] ![8, 1024] inb_S16x1024_S8x1024_8_0, k0_pay10 (F := Ideal) x0⟩,
          ⟨Rect.unit ![5, 0] ![3, 1024] inb_S16x1024_S3x1024_5_0, k0_pay8 (F := Ideal) x1⟩]
        (Rect.unit (s := S16x1024) ![7, 0] ![8, 1024] inb_S16x1024_S8x1024_7_0).toLoadRect)
      (View.ld (Val := Elt Ideal) (e' := .f32) x3 (Rect.unit ![2, 0] ![1, 1024] inb_S4x1024_S1x1024_2_0))
      (View.readCov (Val := Elt Ideal) (View.whole cc0_scratch0)
        [⟨Rect.unit ![8, 0] ![8, 1024] inb_S16x1024_S8x1024_8_0, k0_pay10 (F := Ideal) x0⟩,
          ⟨Rect.unit ![5, 0] ![3, 1024] inb_S16x1024_S3x1024_5_0, k0_pay8 (F := Ideal) x1⟩]
        (Rect.unit (s := S16x1024) ![8, 0] ![8, 1024] inb_S16x1024_S8x1024_8_0).toLoadRect)
      (View.ld (Val := Elt Ideal) (e' := .f32) x3 (Rect.unit ![3, 0] ![1, 1024] inb_S4x1024_S1x1024_3_0))
    = conv x0 x1 x3 x4 := by
  rw [ext_load x0 x1 _ (fun j => le_load 5 _ j (by omega)), ext_load x0 x1 _ (fun j => le_load 6 _ j (by omega)),
    ext_load x0 x1 _ (fun j => le_load 7 _ j (by omega)), ext_load x0 x1 _ (fun j => le_load 8 _ j (by omega))]
  exact conv_load x0 x1 x3 x4

section gates

/-- What pieces of one array hold, at a load that they cover. -/
theorem canon_load (G : S8x1024.Idx → Elt Ideal .f32) (L : List (View.Piece (Elt Ideal) S8x1024 .f32)) (B : LoadRect S8x1024)
    (h : View.PiecesOf G L) (hc : ∀ y, ∃ p ∈ L, y ∈ p.1.set) :
    (fun j => View.canon (Val := Elt Ideal) L (B.idx j)) = fun j => G (B.idx j) :=
  funext fun j => View.canon_apply_of_pieces (Val := Elt Ideal) G L h.mem _ (hc _)

variable (X : FVec Ideal S8x1024 .f32) (x7 : S1x1024.Idx → Elt Ideal .f32) (w : S8x128x256.Idx → Elt Ideal .bf16)
    (g : S8x1x256.Idx → Elt Ideal .f32)

/-- A load of the decays reads what the eight blocks stored. -/
theorem decays_load (B : LoadRect S8x1024) :
    View.readCov (Val := Elt Ideal) (View.whole cc0_scratch1)
      [⟨Rect.unit ![0, 896] ![8, 128] inb_S8x1024_S8x128_0_896, k0_pay71 (F := Ideal) (k0_pay70 (F := Ideal) X (k0_pay14 (F := Ideal) x7) (View.ld (Val := Elt Ideal) (e' := .bf16) w (Rect.unit ![7, 0, 0] ![1, 128, 256] inb_S8x128x256_S1x128x256_7_0_0)) (View.ld (Val := Elt Ideal) (e' := .f32) g (Rect.unit ![7, 0, 0] ![1, 1, 256] inb_S8x1x256_S1x1x256_7_0_0)))⟩,
        ⟨Rect.unit ![0, 768] ![8, 128] inb_S8x1024_S8x128_0_768, k0_pay64 (F := Ideal) (k0_pay14 (F := Ideal) x7) (k0_pay60 (F := Ideal) X (View.ld (Val := Elt Ideal) (e' := .bf16) w (Rect.unit ![6, 0, 0] ![1, 128, 256] inb_S8x128x256_S1x128x256_6_0_0)) (View.ld (Val := Elt Ideal) (e' := .f32) g (Rect.unit ![6, 0, 0] ![1, 1, 256] inb_S8x1x256_S1x1x256_6_0_0))) (FloatOps.ofBits FTy.f32 3238002688#32)⟩,
        ⟨Rect.unit ![0, 640] ![8, 128] inb_S8x1024_S8x128_0_640, k0_pay56 (F := Ideal) (k0_pay14 (F := Ideal) x7) (k0_pay52 (F := Ideal) X (View.ld (Val := Elt Ideal) (e' := .bf16) w (Rect.unit ![5, 0, 0] ![1, 128, 256] inb_S8x128x256_S1x128x256_5_0_0))) (View.ld (Val := Elt Ideal) (e' := .f32) g (Rect.unit ![5, 0, 0] ![1, 1, 256] inb_S8x1x256_S1x1x256_5_0_0))⟩,
        ⟨Rect.unit ![0, 512] ![8, 128] inb_S8x1024_S8x128_0_512, k0_pay49 (F := Ideal) (k0_pay14 (F := Ideal) x7) (k0_pay45 (F := Ideal) X) (View.ld (Val := Elt Ideal) (e' := .bf16) w (Rect.unit ![4, 0, 0] ![1, 128, 256] inb_S8x128x256_S1x128x256_4_0_0)) (View.ld (Val := Elt Ideal) (e' := .f32) g (Rect.unit ![4, 0, 0] ![1, 1, 256] inb_S8x1x256_S1x1x256_4_0_0))⟩,
        ⟨Rect.unit ![0, 384] ![8, 128] inb_S8x1024_S8x128_0_384, k0_pay42 (F := Ideal) X (k0_pay14 (F := Ideal) x7) (View.ld (Val := Elt Ideal) (e' := .bf16) w (Rect.unit ![3, 0, 0] ![1, 128, 256] inb_S8x128x256_S1x128x256_3_0_0)) (View.ld (Val := Elt Ideal) (e' := .f32) g (Rect.unit ![3, 0, 0] ![1, 1, 256] inb_S8x1x256_S1x1x256_3_0_0))⟩,
        ⟨Rect.unit ![0, 256] ![8, 128] inb_S8x1024_S8x128_0_256, k0_pay35 (F := Ideal) X (k0_pay14 (F := Ideal) x7) (View.ld (Val := Elt Ideal) (e' := .bf16) w (Rect.unit ![2, 0, 0] ![1, 128, 256] inb_S8x128x256_S1x128x256_2_0_0)) (View.ld (Val := Elt Ideal) (e' := .f32) g (Rect.unit ![2, 0, 0] ![1, 1, 256] inb_S8x1x256_S1x1x256_2_0_0))⟩,
        ⟨Rect.unit ![0, 128] ![8, 128] inb_S8x1024_S8x128_0_128, k0_pay27 (F := Ideal) X (k0_pay14 (F := Ideal) x7) (View.ld (Val := Elt Ideal) (e' := .bf16) w (Rect.unit ![1, 0, 0] ![1, 128, 256] inb_S8x128x256_S1x128x256_1_0_0)) (View.ld (Val := Elt Ideal) (e' := .f32) g (Rect.unit ![1, 0, 0] ![1, 1, 256] inb_S8x1x256_S1x1x256_1_0_0))⟩,
        ⟨Rect.unit ![0, 0] ![8, 128] inb_S8x1024_S8x128_0_0, k0_pay20 (F := Ideal) (k0_pay19 (F := Ideal) X x7 (View.ld (Val := Elt Ideal) (e' := .bf16) w (Rect.unit ![0, 0, 0] ![1, 128, 256] inb_S8x128x256_S1x128x256_0_0_0)) (View.ld (Val := Elt Ideal) (e' := .f32) g (Rect.unit ![0, 0, 0] ![1, 1, 256] inb_S8x1x256_S1x1x256_0_0_0)))⟩] B
    = fun j => decays X (k0_pay14 (F := Ideal) x7) w g (B.idx j) := by
  rw [View.readCov_eq_canon']
  refine canon_load (decays X (k0_pay14 (F := Ideal) x7) w g) _ B ?_ ?_
  · exact ⟨decay7 X (k0_pay14 (F := Ideal) x7) w g, decay6 X (k0_pay14 (F := Ideal) x7) w g, decay5 X (k0_pay14 (F := Ideal) x7) w g, decay4 X (k0_pay14 (F := Ideal) x7) w g, decay3 X (k0_pay14 (F := Ideal) x7) w g, decay2 X (k0_pay14 (F := Ideal) x7) w g, decay1 X (k0_pay14 (F := Ideal) x7) w g, decay0 X w g x7, trivial⟩
  · exact View.cover_of_tiledL _ S8x128.size (by sl_kernel_rfl)

/-- A load of the additions reads what the eight blocks stored. -/
theorem adds_load (B : LoadRect S8x1024) :
    View.readCov (Val := Elt Ideal) (View.whole cc0_scratch2)
      [⟨Rect.unit ![0, 896] ![8, 128] inb_S8x1024_S8x128_0_896, k0_pay72 (F := Ideal) (k0_pay66 (F := Ideal) X) (k0_pay68 (F := Ideal) X (View.ld (Val := Elt Ideal) (e' := .bf16) w (Rect.unit ![7, 0, 0] ![1, 128, 256] inb_S8x128x256_S1x128x256_7_0_0)) (View.ld (Val := Elt Ideal) (e' := .f32) g (Rect.unit ![7, 0, 0] ![1, 1, 256] inb_S8x1x256_S1x1x256_7_0_0))) (k0_pay69 (F := Ideal) X (k0_pay14 (F := Ideal) x7) (View.ld (Val := Elt Ideal) (e' := .bf16) w (Rect.unit ![7, 0, 0] ![1, 128, 256] inb_S8x128x256_S1x128x256_7_0_0)) (View.ld (Val := Elt Ideal) (e' := .f32) g (Rect.unit ![7, 0, 0] ![1, 1, 256] inb_S8x1x256_S1x1x256_7_0_0))) (k0_pay70 (F := Ideal) X (k0_pay14 (F := Ideal) x7) (View.ld (Val := Elt Ideal) (e' := .bf16) w (Rect.unit ![7, 0, 0] ![1, 128, 256] inb_S8x128x256_S1x128x256_7_0_0)) (View.ld (Val := Elt Ideal) (e' := .f32) g (Rect.unit ![7, 0, 0] ![1, 1, 256] inb_S8x1x256_S1x1x256_7_0_0)))⟩,
        ⟨Rect.unit ![0, 768] ![8, 128] inb_S8x1024_S8x128_0_768, k0_pay65 (F := Ideal) (k0_pay14 (F := Ideal) x7) (k0_pay58 (F := Ideal) X) (k0_pay60 (F := Ideal) X (View.ld (Val := Elt Ideal) (e' := .bf16) w (Rect.unit ![6, 0, 0] ![1, 128, 256] inb_S8x128x256_S1x128x256_6_0_0)) (View.ld (Val := Elt Ideal) (e' := .f32) g (Rect.unit ![6, 0, 0] ![1, 1, 256] inb_S8x1x256_S1x1x256_6_0_0))) (k0_pay61 (F := Ideal) X (View.ld (Val := Elt Ideal) (e' := .bf16) w (Rect.unit ![6, 0, 0] ![1, 128, 256] inb_S8x128x256_S1x128x256_6_0_0)) (View.ld (Val := Elt Ideal) (e' := .f32) g (Rect.unit ![6, 0, 0] ![1, 1, 256] inb_S8x1x256_S1x1x256_6_0_0))) (FloatOps.ofBits FTy.f32 3238002688#32)⟩,
        ⟨Rect.unit ![0, 640] ![8, 128] inb_S8x1024_S8x128_0_640, k0_pay57 (F := Ideal) (k0_pay14 (F := Ideal) x7) (k0_pay51 (F := Ideal) X) (k0_pay52 (F := Ideal) X (View.ld (Val := Elt Ideal) (e' := .bf16) w (Rect.unit ![5, 0, 0] ![1, 128, 256] inb_S8x128x256_S1x128x256_5_0_0))) (View.ld (Val := Elt Ideal) (e' := .f32) g (Rect.unit ![5, 0, 0] ![1, 1, 256] inb_S8x1x256_S1x1x256_5_0_0))⟩,
        ⟨Rect.unit ![0, 512] ![8, 128] inb_S8x1024_S8x128_0_512, k0_pay50 (F := Ideal) (k0_pay14 (F := Ideal) x7) (k0_pay44 (F := Ideal) X) (k0_pay45 (F := Ideal) X) (View.ld (Val := Elt Ideal) (e' := .bf16) w (Rect.unit ![4, 0, 0] ![1, 128, 256] inb_S8x128x256_S1x128x256_4_0_0)) (View.ld (Val := Elt Ideal) (e' := .f32) g (Rect.unit ![4, 0, 0] ![1, 1, 256] inb_S8x1x256_S1x1x256_4_0_0))⟩,
        ⟨Rect.unit ![0, 384] ![8, 128] inb_S8x1024_S8x128_0_384, k0_pay43 (F := Ideal) X (k0_pay14 (F := Ideal) x7) (View.ld (Val := Elt Ideal) (e' := .bf16) w (Rect.unit ![3, 0, 0] ![1, 128, 256] inb_S8x128x256_S1x128x256_3_0_0)) (View.ld (Val := Elt Ideal) (e' := .f32) g (Rect.unit ![3, 0, 0] ![1, 1, 256] inb_S8x1x256_S1x1x256_3_0_0))⟩,
        ⟨Rect.unit ![0, 256] ![8, 128] inb_S8x1024_S8x128_0_256, k0_pay37 (F := Ideal) (k0_pay36 (F := Ideal) X (k0_pay14 (F := Ideal) x7) (View.ld (Val := Elt Ideal) (e' := .bf16) w (Rect.unit ![2, 0, 0] ![1, 128, 256] inb_S8x128x256_S1x128x256_2_0_0)) (View.ld (Val := Elt Ideal) (e' := .f32) g (Rect.unit ![2, 0, 0] ![1, 1, 256] inb_S8x1x256_S1x1x256_2_0_0)))⟩,
        ⟨Rect.unit ![0, 128] ![8, 128] inb_S8x1024_S8x128_0_128, k0_pay30 (F := Ideal) (k0_pay22 (F := Ideal) X) (k0_pay24 (F := Ideal) X (View.ld (Val := Elt Ideal) (e' := .bf16) w (Rect.unit ![1, 0, 0] ![1, 128, 256] inb_S8x128x256_S1x128x256_1_0_0)) (View.ld (Val := Elt Ideal) (e' := .f32) g (Rect.unit ![1, 0, 0] ![1, 1, 256] inb_S8x1x256_S1x1x256_1_0_0))) (k0_pay26 (F := Ideal) X (k0_pay14 (F := Ideal) x7) (View.ld (Val := Elt Ideal) (e' := .bf16) w (Rect.unit ![1, 0, 0] ![1, 128, 256] inb_S8x128x256_S1x128x256_1_0_0)) (View.ld (Val := Elt Ideal) (e' := .f32) g (Rect.unit ![1, 0, 0] ![1, 1, 256] inb_S8x1x256_S1x1x256_1_0_0))) (k0_pay28 (F := Ideal) X (k0_pay14 (F := Ideal) x7) (View.ld (Val := Elt Ideal) (e' := .bf16) w (Rect.unit ![1, 0, 0] ![1, 128, 256] inb_S8x128x256_S1x128x256_1_0_0)) (View.ld (Val := Elt Ideal) (e' := .f32) g (Rect.unit ![1, 0, 0] ![1, 1, 256] inb_S8x1x256_S1x1x256_1_0_0))) (k0_pay29 (F := Ideal))⟩,
        ⟨Rect.unit ![0, 0] ![8, 128] inb_S8x1024_S8x128_0_0, k0_pay21 (F := Ideal) (k0_pay15 (F := Ideal) X) (k0_pay17 (F := Ideal) X (View.ld (Val := Elt Ideal) (e' := .bf16) w (Rect.unit ![0, 0, 0] ![1, 128, 256] inb_S8x128x256_S1x128x256_0_0_0)) (View.ld (Val := Elt Ideal) (e' := .f32) g (Rect.unit ![0, 0, 0] ![1, 1, 256] inb_S8x1x256_S1x1x256_0_0_0))) (k0_pay18 (F := Ideal) X x7 (View.ld (Val := Elt Ideal) (e' := .bf16) w (Rect.unit ![0, 0, 0] ![1, 128, 256] inb_S8x128x256_S1x128x256_0_0_0)) (View.ld (Val := Elt Ideal) (e' := .f32) g (Rect.unit ![0, 0, 0] ![1, 1, 256] inb_S8x1x256_S1x1x256_0_0_0))) (k0_pay19 (F := Ideal) X x7 (View.ld (Val := Elt Ideal) (e' := .bf16) w (Rect.unit ![0, 0, 0] ![1, 128, 256] inb_S8x128x256_S1x128x256_0_0_0)) (View.ld (Val := Elt Ideal) (e' := .f32) g (Rect.unit ![0, 0, 0] ![1, 1, 256] inb_S8x1x256_S1x1x256_0_0_0)))⟩] B
    = fun j => adds X (k0_pay14 (F := Ideal) x7) w g (B.idx j) := by
  rw [View.readCov_eq_canon']
  refine canon_load (adds X (k0_pay14 (F := Ideal) x7) w g) _ B ?_ ?_
  · exact ⟨add7 X (k0_pay14 (F := Ideal) x7) w g, add6 X (k0_pay14 (F := Ideal) x7) w g, add5 X (k0_pay14 (F := Ideal) x7) w g, add4 X (k0_pay14 (F := Ideal) x7) w g, add3 X (k0_pay14 (F := Ideal) x7) w g, add2 X (k0_pay14 (F := Ideal) x7) w g, add1 X (k0_pay14 (F := Ideal) x7) w g, add0 X w g x7, trivial⟩
  · exact View.cover_of_tiledL _ S8x128.size (by sl_kernel_rfl)

end gates

end Cert.Lru
-- ==== Proof.LruStep.lean ====
/- What one grid point of the kernel leaves: the states, the last state and the last three rows. -/
module

public import proofs.«01_k».proof.Proof.LruBlock
public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Lru

open Idealize.ShloMosaic Idealize.ShloMosaic.TcCoe Idealize.SL.Sem
open Cert.KernelIdeal Cert.KernelIdeal.Gen

/-- The recurrence: a step decays the state and adds. -/
def state (A B : FVec Ideal S8x1024 .f32) (h : FVec Ideal S1x1024 .f32) (d : Fin 1024) : ℕ → EReal
  | 0 => h (ix2 0 d)
  | k + 1 => A (ix2 ⟨k % 8, Nat.mod_lt _ (by decide)⟩ d) * state A B h d k + B (ix2 ⟨k % 8, Nat.mod_lt _ (by decide)⟩ d)

/-- The states after each of the eight steps. -/
def states (A B : FVec Ideal S8x1024 .f32) (h : FVec Ideal S1x1024 .f32) : S8x1024.Idx → Elt Ideal .f32 :=
  fun y => state A B h (y 1) ((y 0).val + 1)

theorem states_at (A B : FVec Ideal S8x1024 .f32) (h : FVec Ideal S1x1024 .f32) (y : S8x1024.Idx) (k : ℕ) (d : Fin 1024)
    (h0 : (y 0).val = k) (h1 : (y 1).val = d.val) : states A B h y = state A B h d (k + 1) := by
  unfold states
  rw [h0, show y 1 = d from Fin.ext h1]

/-- A load of row `k`. -/
theorem idx_row (k : ℕ) (h : ∀ a, (![k, 0] : Fin 2 → ℕ) a + (![1, 1024] : Fin 2 → ℕ) a ≤ S8x1024.size a)
    (d : Fin 1024) (hk : k < 8) :
    (Rect.unit (s := S8x1024) ![k, 0] ![1, 1024] h).toLoadRect.idx (ix2 (0 : Fin 1) d) = ix2 (⟨k, hk⟩ : Fin 8) d := by
  refine (eq_ix2 _).trans (congrArg₂ (fun a b => ix2 a b) (Fin.ext ?_) (Fin.ext ?_))
  · exact show k + 1 * 0 = k by omega
  · exact show 0 + 1 * d.val = d.val by omega

/-- Rows stored one by one, loaded together. -/
theorem rows_load (G : S8x1024.Idx → Elt Ideal .f32) (L : List (View.Piece (Elt Ideal) S8x1024 .f32)) (B : LoadRect S8x1024)
    (h : View.PiecesOf G L) (hc : ∀ y, ∃ p ∈ L, y ∈ p.1.set) :
    View.readCov (Val := Elt Ideal) (View.whole cc0_scratch3) L B = fun j => G (B.idx j) := by
  rw [View.readCov_eq_canon']
  exact canon_load G L B h hc

variable (m : (ℓ : Loc nD τ sig) → Buf (Elt Ideal) ℓ) (c : Dev nD) (t : Fin cfg0.N)

/-- The convolution at a grid point. -/
def convB : FVec Ideal S8x1024 .f32 := conv (iblk m c 0 t) (iblk m c 1 t) (iblk m c 3 t) (iblk m c 4 t)

/-- The decays at a grid point. -/
def decB : FVec Ideal S8x1024 .f32 := decays (convB m c t) (k0_pay14 (F := Ideal) (iblk m c 7 t)) (iblk m c 5 t) (iblk m c 6 t)

/-- The additions at a grid point. -/
def addB : FVec Ideal S8x1024 .f32 := adds (convB m c t) (k0_pay14 (F := Ideal) (iblk m c 7 t)) (iblk m c 5 t) (iblk m c 6 t)

/-- The state before the grid point's first step. -/
def hB : FVec Ideal S1x1024 .f32 := k0_pay9 (F := Ideal) (iblk m c 2 t)

set_option maxHeartbeats 2000000 in
/-- The states, a row of the first output's block each. -/
theorem out8_at (r : Fin 8) (d : Fin 1024) :
    (outsAt0 m c t).1 (ix3 0 r d) = state (decB m c t) (addB m c t) (hB m c t) d (r.val + 1) := by
  unfold outsAt0 decB addB convB hB
  dsimp only
  unfold out0_A_8
  obtain ⟨x0, h0⟩ : ∃ x : Vec Ideal S1x8x1024 .f32, iblk m c 0 t = x := ⟨_, rfl⟩
  obtain ⟨x1, h1⟩ : ∃ x : Vec Ideal S1x3x1024 .f32, iblk m c 1 t = x := ⟨_, rfl⟩
  obtain ⟨x2, h2⟩ : ∃ x : Vec Ideal S1x1x1024 .f32, iblk m c 2 t = x := ⟨_, rfl⟩
  obtain ⟨x3, h3⟩ : ∃ x : Vec Ideal S4x1024 .f32, iblk m c 3 t = x := ⟨_, rfl⟩
  obtain ⟨x4, h4⟩ : ∃ x : Vec Ideal S1x1024 .f32, iblk m c 4 t = x := ⟨_, rfl⟩
  obtain ⟨x5, h5⟩ : ∃ x : Vec Ideal S8x128x256 .bf16, iblk m c 5 t = x := ⟨_, rfl⟩
  obtain ⟨x6, h6⟩ : ∃ x : Vec Ideal S8x1x256 .f32, iblk m c 6 t = x := ⟨_, rfl⟩
  obtain ⟨x7, h7⟩ : ∃ x : Vec Ideal S1x1024 .f32, iblk m c 7 t = x := ⟨_, rfl⟩
  rw [h0, h1, h2, h3, h4, h5, h6, h7]
  frame_open
  frame_out
  simp only [conv_stored x0 x1 x3 x4]
  simp only [decays_load (conv x0 x1 x3 x4) x7 x5 x6, adds_load (conv x0 x1 x3 x4) x7 x5 x6]
  generalize decays (conv x0 x1 x3 x4) (k0_pay14 x7) x5 x6 = A
  generalize adds (conv x0 x1 x3 x4) (k0_pay14 x7) x5 x6 = B
  generalize k0_pay9 (F := Ideal) x2 = h
  rw [rows_load (states A B h) _ _ ?_ ?_]
  · pointwise [k0_pay7]
    exact states_at A B h _ r.val d rfl rfl
  · refine ⟨fun x => ?_, fun x => ?_, fun x => ?_, fun x => ?_, fun x => ?_, fun x => ?_, fun x => ?_, fun x => ?_, trivial⟩
    · obtain ⟨d, rfl⟩ : ∃ d : Fin 1024, x = ix2 (0 : Fin 1) d := ⟨x 1, (eq_ix2 x).trans (congrArg (fun a => ix2 a (x 1)) (Subsingleton.elim (α := Fin 1) _ _))⟩
      refine Eq.trans ?_ (states_at A B h _ 7 d rfl (show 0 + 1 * d.val = d.val by omega)).symm
      pointwise [k0_pay1, k0_pay2, k0_pay3, k0_pay4, k0_pay5, k0_pay6, k0_pay73, k0_pay74, k0_pay75, k0_pay76, k0_pay77, k0_pay78, k0_pay79, k0_pay80, k0_pay81, k0_pay82, k0_pay83, k0_pay84, k0_pay85, k0_pay86]
      rfl
    · obtain ⟨d, rfl⟩ : ∃ d : Fin 1024, x = ix2 (0 : Fin 1) d := ⟨x 1, (eq_ix2 x).trans (congrArg (fun a => ix2 a (x 1)) (Subsingleton.elim (α := Fin 1) _ _))⟩
      refine Eq.trans ?_ (states_at A B h _ 6 d rfl (show 0 + 1 * d.val = d.val by omega)).symm
      pointwise [k0_pay1, k0_pay2, k0_pay3, k0_pay4, k0_pay5, k0_pay6, k0_pay73, k0_pay74, k0_pay75, k0_pay76, k0_pay77, k0_pay78, k0_pay79, k0_pay80, k0_pay81, k0_pay82, k0_pay83, k0_pay84, k0_pay85, k0_pay86]
      rfl
    · obtain ⟨d, rfl⟩ : ∃ d : Fin 1024, x = ix2 (0 : Fin 1) d := ⟨x 1, (eq_ix2 x).trans (congrArg (fun a => ix2 a (x 1)) (Subsingleton.elim (α := Fin 1) _ _))⟩
      refine Eq.trans ?_ (states_at A B h _ 5 d rfl (show 0 + 1 * d.val = d.val by omega)).symm
      pointwise [k0_pay1, k0_pay2, k0_pay3, k0_pay4, k0_pay5, k0_pay6, k0_pay73, k0_pay74, k0_pay75, k0_pay76, k0_pay77, k0_pay78, k0_pay79, k0_pay80, k0_pay81, k0_pay82, k0_pay83, k0_pay84, k0_pay85, k0_pay86]
      rfl
    · obtain ⟨d, rfl⟩ : ∃ d : Fin 1024, x = ix2 (0 : Fin 1) d := ⟨x 1, (eq_ix2 x).trans (congrArg (fun a => ix2 a (x 1)) (Subsingleton.elim (α := Fin 1) _ _))⟩
      refine Eq.trans ?_ (states_at A B h _ 4 d rfl (show 0 + 1 * d.val = d.val by omega)).symm
      pointwise [k0_pay1, k0_pay2, k0_pay3, k0_pay4, k0_pay5, k0_pay6, k0_pay73, k0_pay74, k0_pay75, k0_pay76, k0_pay77, k0_pay78, k0_pay79, k0_pay80, k0_pay81, k0_pay82, k0_pay83, k0_pay84, k0_pay85, k0_pay86]
      rfl
    · obtain ⟨d, rfl⟩ : ∃ d : Fin 1024, x = ix2 (0 : Fin 1) d := ⟨x 1, (eq_ix2 x).trans (congrArg (fun a => ix2 a (x 1)) (Subsingleton.elim (α := Fin 1) _ _))⟩
      refine Eq.trans ?_ (states_at A B h _ 3 d rfl (show 0 + 1 * d.val = d.val by omega)).symm
      pointwise [k0_pay1, k0_pay2, k0_pay3, k0_pay4, k0_pay5, k0_pay6, k0_pay73, k0_pay74, k0_pay75, k0_pay76, k0_pay77, k0_pay78, k0_pay79, k0_pay80, k0_pay81, k0_pay82, k0_pay83, k0_pay84, k0_pay85, k0_pay86]
      rfl
    · obtain ⟨d, rfl⟩ : ∃ d : Fin 1024, x = ix2 (0 : Fin 1) d := ⟨x 1, (eq_ix2 x).trans (congrArg (fun a => ix2 a (x 1)) (Subsingleton.elim (α := Fin 1) _ _))⟩
      refine Eq.trans ?_ (states_at A B h _ 2 d rfl (show 0 + 1 * d.val = d.val by omega)).symm
      pointwise [k0_pay1, k0_pay2, k0_pay3, k0_pay4, k0_pay5, k0_pay6, k0_pay73, k0_pay74, k0_pay75, k0_pay76, k0_pay77, k0_pay78, k0_pay79, k0_pay80, k0_pay81, k0_pay82, k0_pay83, k0_pay84, k0_pay85, k0_pay86]
      rfl
    · obtain ⟨d, rfl⟩ : ∃ d : Fin 1024, x = ix2 (0 : Fin 1) d := ⟨x 1, (eq_ix2 x).trans (congrArg (fun a => ix2 a (x 1)) (Subsingleton.elim (α := Fin 1) _ _))⟩
      refine Eq.trans ?_ (states_at A B h _ 1 d rfl (show 0 + 1 * d.val = d.val by omega)).symm
      pointwise [k0_pay1, k0_pay2, k0_pay3, k0_pay4, k0_pay5, k0_pay6, k0_pay73, k0_pay74, k0_pay75, k0_pay76, k0_pay77, k0_pay78, k0_pay79, k0_pay80, k0_pay81, k0_pay82, k0_pay83, k0_pay84, k0_pay85, k0_pay86]
      rfl
    · obtain ⟨d, rfl⟩ : ∃ d : Fin 1024, x = ix2 (0 : Fin 1) d := ⟨x 1, (eq_ix2 x).trans (congrArg (fun a => ix2 a (x 1)) (Subsingleton.elim (α := Fin 1) _ _))⟩
      refine Eq.trans ?_ (states_at A B h _ 0 d rfl (show 0 + 1 * d.val = d.val by omega)).symm
      pointwise [k0_pay1, k0_pay2, k0_pay3, k0_pay4, k0_pay5, k0_pay6, k0_pay73, k0_pay74, k0_pay75, k0_pay76, k0_pay77, k0_pay78, k0_pay79, k0_pay80, k0_pay81, k0_pay82, k0_pay83, k0_pay84, k0_pay85, k0_pay86]
      rfl
  · exact View.cover_of_tiledL _ S1x1024.size (by sl_kernel_rfl)

set_option maxHeartbeats 2000000 in
/-- The last state. -/
theorem out10_at (d : Fin 1024) :
    (outsAt0 m c t).2.2 (ix3 0 0 d) = state (decB m c t) (addB m c t) (hB m c t) d 8 := by
  unfold outsAt0 decB addB convB hB
  dsimp only
  unfold out0_A_10
  obtain ⟨x0, h0⟩ : ∃ x : Vec Ideal S1x8x1024 .f32, iblk m c 0 t = x := ⟨_, rfl⟩
  obtain ⟨x1, h1⟩ : ∃ x : Vec Ideal S1x3x1024 .f32, iblk m c 1 t = x := ⟨_, rfl⟩
  obtain ⟨x2, h2⟩ : ∃ x : Vec Ideal S1x1x1024 .f32, iblk m c 2 t = x := ⟨_, rfl⟩
  obtain ⟨x3, h3⟩ : ∃ x : Vec Ideal S4x1024 .f32, iblk m c 3 t = x := ⟨_, rfl⟩
  obtain ⟨x4, h4⟩ : ∃ x : Vec Ideal S1x1024 .f32, iblk m c 4 t = x := ⟨_, rfl⟩
  obtain ⟨x5, h5⟩ : ∃ x : Vec Ideal S8x128x256 .bf16, iblk m c 5 t = x := ⟨_, rfl⟩
  obtain ⟨x6, h6⟩ : ∃ x : Vec Ideal S8x1x256 .f32, iblk m c 6 t = x := ⟨_, rfl⟩
  obtain ⟨x7, h7⟩ : ∃ x : Vec Ideal S1x1024 .f32, iblk m c 7 t = x := ⟨_, rfl⟩
  rw [h0, h1, h2, h3, h4, h5, h6, h7]
  frame_open
  frame_out
  simp only [conv_stored x0 x1 x3 x4]
  simp only [decays_load (conv x0 x1 x3 x4) x7 x5 x6, adds_load (conv x0 x1 x3 x4) x7 x5 x6]
  generalize decays (conv x0 x1 x3 x4) (k0_pay14 x7) x5 x6 = A
  generalize adds (conv x0 x1 x3 x4) (k0_pay14 x7) x5 x6 = B
  generalize k0_pay9 (F := Ideal) x2 = h
  pointwise [k0_pay1, k0_pay2, k0_pay3, k0_pay4, k0_pay5, k0_pay6, k0_pay73, k0_pay74, k0_pay75, k0_pay76, k0_pay77, k0_pay78, k0_pay79, k0_pay80, k0_pay81, k0_pay82, k0_pay83, k0_pay84, k0_pay85, k0_pay86]
  rfl

set_option maxHeartbeats 2000000 in
/-- The last three rows of the chunk with the rows before it. -/
theorem out9_at (r : Fin 3) (d : Fin 1024) :
    (outsAt0 m c t).2.1 (ix3 0 r d) = ext (iblk m c 0 t) (iblk m c 1 t) (ix2 ⟨13 + r.val, by omega⟩ d) := by
  unfold outsAt0
  dsimp only
  unfold out0_A_9
  obtain ⟨x0, h0⟩ : ∃ x : Vec Ideal S1x8x1024 .f32, iblk m c 0 t = x := ⟨_, rfl⟩
  obtain ⟨x1, h1⟩ : ∃ x : Vec Ideal S1x3x1024 .f32, iblk m c 1 t = x := ⟨_, rfl⟩
  obtain ⟨x2, h2⟩ : ∃ x : Vec Ideal S1x1x1024 .f32, iblk m c 2 t = x := ⟨_, rfl⟩
  obtain ⟨x3, h3⟩ : ∃ x : Vec Ideal S4x1024 .f32, iblk m c 3 t = x := ⟨_, rfl⟩
  obtain ⟨x4, h4⟩ : ∃ x : Vec Ideal S1x1024 .f32, iblk m c 4 t = x := ⟨_, rfl⟩
  obtain ⟨x5, h5⟩ : ∃ x : Vec Ideal S8x128x256 .bf16, iblk m c 5 t = x := ⟨_, rfl⟩
  obtain ⟨x6, h6⟩ : ∃ x : Vec Ideal S8x1x256 .f32, iblk m c 6 t = x := ⟨_, rfl⟩
  obtain ⟨x7, h7⟩ : ∃ x : Vec Ideal S1x1024 .f32, iblk m c 7 t = x := ⟨_, rfl⟩
  simp only [h0, h1]
  frame_open
  frame_out
  simp only [h0, h1]
  rw [ext_load x0 x1 (Rect.unit (s := S16x1024) ![13, 0] ![3, 1024] inb_S16x1024_S3x1024_13_0).toLoadRect (fun j => le_trans (show 5 ≤ 13 by decide) (show 13 ≤ 13 + 1 * (j 0).val from Nat.le_add_right _ _))]
  generalize ext x0 x1 = E
  pointwise [k0_pay12]

end Cert.Lru
-- ==== Proof.LruBlk.lean ====
/- The recurrence's call: what each window's block holds. -/
module

public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.Lru

open Idealize.ShloMosaic Idealize.ShloMosaic.TcCoe Idealize.SL.Sem
open Idealize.ShloMosaic.Pipeline (Dat)
open Cert.KernelIdeal Cert.KernelIdeal.Gen

/-- The two gates' weights, side by side. -/
def gateCols (W₁ W₂ : FVec Ideal S8x128x128 .f32) : FVec Ideal S8x128x256 .bf16 :=
  truncf .bf16 (concatenate S8x128x256 2 [⟨S8x128x128, W₁⟩, ⟨S8x128x128, W₂⟩] concatenates_S8x128x128_S8x128x128_S8x128x256_d2) bitsLt_bf16_f32

/-- The two gates' biases, side by side. -/
def biasCols (b₁ b₂ : FVec Ideal S8x128 .f32) : FVec Ideal S8x1x256 .f32 :=
  shapeCast S8x1x256 (concatenate S8x256 1 [⟨S8x128, b₁⟩, ⟨S8x128, b₂⟩] concatenates_S8x128_S8x128_S8x256_d1) shapeCasts_S8x256_S8x1x256

variable (m : (ℓ : Loc nD τ sig) → Buf (Elt Ideal) ℓ) (c : Dev nD) (t : Fin cfg0.N)

/-- The array window 5 stages. -/
theorem V_main_v1 : V m c main_v1 = gateCols (m ((c : Thread nD τ).loc main_arg5)) (m ((c : Thread nD τ).loc main_arg7)) := by
  unfold V gateCols
  after_results_simp <;> rfl

/-- The array window 6 stages. -/
theorem V_main_v3 : V m c main_v3 = biasCols (m ((c : Thread nD τ).loc main_arg6)) (m ((c : Thread nD τ).loc main_arg8)) := by
  unfold V biasCols
  after_results_simp <;> rfl

/-- Where each window's block lies: a batch entry, or the whole of a weight. -/
theorem idx : ∀ t : Fin cfg0.N, win0_0.index t = ![t.val, 0, 0] ∧ win0_1.index t = ![t.val, 0, 0] ∧ win0_2.index t = ![t.val, 0, 0]
    ∧ win0_3.index t = ![0, 0] ∧ win0_4.index t = ![0, 0] ∧ win0_5.index t = ![0, 0, 0] ∧ win0_6.index t = ![0, 0, 0]
    ∧ win0_7.index t = ![0, 0] ∧ win0_8.index t = ![t.val, 0, 0] ∧ win0_9.index t = ![t.val, 0, 0] ∧ win0_10.index t = ![t.val, 0, 0] :=
  (by decide +kernel : ∀ t : Fin grid0.N, _)

/-- The batch entry of a grid point. -/
abbrev bat : Fin 32 := ⟨t.val, t.isLt⟩

/-- The chunk. -/
theorem blk0 (r : Fin 8) (d : Fin 1024) : (show FVec Ideal S1x8x1024 .f32 from iblk m c 0 t) (ix3 0 r d)
    = (m ((c : Thread nD τ).loc main_arg0) : FVec Ideal S32x8x1024 .f32) (ix3 (bat t) r d) := by
  blk_point [iblk, V, idx t]

/-- The three rows before it. -/
theorem blk1 (r : Fin 3) (d : Fin 1024) : (show FVec Ideal S1x3x1024 .f32 from iblk m c 1 t) (ix3 0 r d)
    = (m ((c : Thread nD τ).loc main_arg1) : FVec Ideal S32x3x1024 .f32) (ix3 (bat t) r d) := by
  blk_point [iblk, V, idx t]

/-- The state before it. -/
theorem blk2 (d : Fin 1024) : (show FVec Ideal S1x1x1024 .f32 from iblk m c 2 t) (ix3 0 0 d)
    = (m ((c : Thread nD τ).loc main_arg2) : FVec Ideal S32x1024 .f32) (ix2 (bat t) d) := by
  blk_point [iblk, V, idx t]

/-- The convolution's weights. -/
theorem blk3 (k : Fin 4) (d : Fin 1024) : (show FVec Ideal S4x1024 .f32 from iblk m c 3 t) (ix2 k d)
    = (m ((c : Thread nD τ).loc main_arg3) : FVec Ideal S4x1024 .f32) (ix2 k d) := by
  blk_point [iblk, V, idx t]

/-- Its bias. -/
theorem blk4 (d : Fin 1024) : (show FVec Ideal S1x1024 .f32 from iblk m c 4 t) (ix2 0 d)
    = (m ((c : Thread nD τ).loc main_arg4) : FVec Ideal S1024 .f32) (ix1 d) := by
  blk_point [iblk, V, idx t]

/-- The rates. -/
theorem blk7 (d : Fin 1024) : (show FVec Ideal S1x1024 .f32 from iblk m c 7 t) (ix2 0 d)
    = (m ((c : Thread nD τ).loc main_arg9) : FVec Ideal S1024 .f32) (ix1 d) := by
  blk_point [iblk, V, idx t]

/-- The gates' weights are staged whole. -/
theorem blk5 (n : Fin 8) (k : Fin 128) (e : Fin 256) : (show FVec Ideal S8x128x256 .bf16 from iblk m c 5 t) (ix3 n k e)
    = gateCols (m ((c : Thread nD τ).loc main_arg5)) (m ((c : Thread nD τ).loc main_arg7)) (ix3 n k e) := by
  refine Eq.trans ?_ (congrFun (V_main_v1 m c) (ix3 n k e))
  unfold iblk
  generalize V m c = v
  blk_point [idx t]

/-- The gates' biases are staged whole. -/
theorem blk6 (n : Fin 8) (e : Fin 256) : (show FVec Ideal S8x1x256 .f32 from iblk m c 6 t) (ix3 n 0 e)
    = biasCols (m ((c : Thread nD τ).loc main_arg6)) (m ((c : Thread nD τ).loc main_arg8)) (ix3 n 0 e) := by
  refine Eq.trans ?_ (congrFun (V_main_v3 m c) (ix3 n 0 e))
  unfold iblk
  generalize V m c = v
  blk_point [idx t]

variable (W₁ W₂ : FVec Ideal S8x128x128 .f32) (b₁ b₂ : FVec Ideal S8x128 .f32) (n : Fin 8) (k j : Fin 128)

theorem gateCols_fst : gateCols W₁ W₂ (ix3 n k ⟨j.val, by omega⟩) = W₁ (ix3 n k j) := by
  have h : j.val < 128 := j.isLt
  pointwise [gateCols, h]

theorem gateCols_snd : gateCols W₁ W₂ (ix3 n k ⟨128 + j.val, by omega⟩) = W₂ (ix3 n k j) := by
  have h : ¬ 128 + j.val < 128 := by omega
  pointwise [gateCols, h]

theorem biasCols_fst : biasCols b₁ b₂ (ix3 n 0 ⟨j.val, by omega⟩) = b₁ (ix2 n j) := by
  have h : j.val < 128 := j.isLt
  pointwise [biasCols, h]

theorem biasCols_snd : biasCols b₁ b₂ (ix3 n 0 ⟨128 + j.val, by omega⟩) = b₂ (ix2 n j) := by
  have h : ¬ 128 + j.val < 128 := by omega
  pointwise [biasCols, h]

end Cert.Lru
-- ==== Proof.LruRef.lean ====
/- The reference of the sampled token's recurrence: its stages, its loop and what it leaves. -/
module

public import proofs.«01_k».proof.Proof.Gen.ReferenceIdeal.Run
public import Idealize.ShloMosaic.Lib.WordCmp
public import Idealize.ShloMosaic.PureOps.Ideal

@[expose] public section

set_option maxRecDepth 16384

noncomputable section

namespace Cert.LruRef

open Idealize.ShloMosaic Idealize.ShloMosaic.TcCoe Idealize.SL.Sem Idealize.ShloMosaic.StableHlo
open Cert.ReferenceIdeal Cert.ReferenceIdeal.Gen Cert.ReferenceIdeal.Value

/-- The chunk with the three rows before it. -/
def cat (u : FVec Ideal S32x8x1024 .f32) (C : FVec Ideal S32x3x1024 .f32) : FVec Ideal S32x11x1024 .f32 :=
  concatenate S32x11x1024 1 [⟨S32x3x1024, C⟩, ⟨S32x8x1024, u⟩] concatenates_S32x3x1024_S32x8x1024_S32x11x1024_d1

/-- A row of the convolution's weights, for every row of the chunk. -/
def weightRow (x : FVec Ideal S1x1024 .f32) : FVec Ideal S32x8x1024 .f32 :=
  broadcastInDim S32x8x1024 ![0, 1, 2] bcast_S1x1x1024_S32x8x1024_0_1_2
    (broadcastInDim S1x1x1024 ![2] bcast_S1024_S1x1x1024_2 (shapeCast S1024 x shapeCasts_S1x1024_S1024))

/-- The convolution. -/
def xc (E : FVec Ideal S32x11x1024 .f32) (cw : FVec Ideal S4x1024 .f32) (cb : FVec Ideal S1024 .f32) : FVec Ideal S32x8x1024 .f32 :=
  addf (broadcastInDim S32x8x1024 ![0, 1, 2] bcast_S1x1x1024_S32x8x1024_0_1_2 (broadcastInDim S1x1x1024 ![2] bcast_S1024_S1x1x1024_2 cb))
    (addf (addf (addf (addf (broadcastInDim S32x8x1024 ![] bcast_S_S32x8x1024 (constant S_ .f32 0x00000000#32))
      (mulf (extractStridedSlice S32x8x1024 ![0, 0, 0] E slices_S32x11x1024_S32x8x1024_0_0_0) (weightRow (extractStridedSlice S1x1024 ![0, 0] cw slices_S4x1024_S1x1024_0_0))))
      (mulf (extractStridedSlice S32x8x1024 ![0, 1, 0] E slices_S32x11x1024_S32x8x1024_0_1_0) (weightRow (extractStridedSlice S1x1024 ![1, 0] cw slices_S4x1024_S1x1024_1_0))))
      (mulf (extractStridedSlice S32x8x1024 ![0, 2, 0] E slices_S32x11x1024_S32x8x1024_0_2_0) (weightRow (extractStridedSlice S1x1024 ![2, 0] cw slices_S4x1024_S1x1024_2_0))))
      (mulf (extractStridedSlice S32x8x1024 ![0, 3, 0] E slices_S32x11x1024_S32x8x1024_0_3_0) (weightRow (extractStridedSlice S1x1024 ![3, 0] cw slices_S4x1024_S1x1024_3_0))))

/-- A gate: the logistic function of a product by blocks. -/
def gate (X : FVec Ideal S32x8x1024 .f32) (w : FVec Ideal S8x128x128 .f32) (b : FVec Ideal S8x128 .f32) : FVec Ideal S32x8x1024 .f32 :=
  shapeCast S32x8x1024 (Host.divf (broadcastInDim S32x8x8x128 ![] bcast_S_S32x8x8x128 (constant S_ .f32 0x3F800000#32))
    (addf (broadcastInDim S32x8x8x128 ![] bcast_S_S32x8x8x128 (constant S_ .f32 0x3F800000#32))
      (Host.exp (Host.negf (addf
        (transpose S32x8x8x128 [2, 3, 0, 1] (Host.dotGeneral dot_S8x128x128_S32x8x8x128_S8x128x32x8_1_3_2_01_0_2 none w
          (shapeCast S32x8x8x128 X shapeCasts_S32x8x1024_S32x8x8x128)) transposes_S8x128x32x8_S32x8x8x128_2_3_0_1)
        (broadcastInDim S32x8x8x128 ![0, 1, 2, 3] bcast_S1x1x8x128_S32x8x8x128_0_1_2_3 (broadcastInDim S1x1x8x128 ![2, 3] bcast_S8x128_S1x1x8x128_2_3 b))))))) shapeCasts_S32x8x8x128_S32x8x1024

/-- `softplus` of what is negated. -/
def sp (lam : FVec Ideal S1024 .f32) : FVec Ideal S1024 .f32 :=
  select (cmpf .une (subf (Host.negf lam) (broadcastInDim S1024 ![] bcast_S_S1024 (constant S_ .f32 0x00000000#32)))
      (subf (Host.negf lam) (broadcastInDim S1024 ![] bcast_S_S1024 (constant S_ .f32 0x00000000#32))))
    (addf (Host.negf lam) (broadcastInDim S1024 ![] bcast_S_S1024 (constant S_ .f32 0x00000000#32)))
    (addf (maximumf (Host.negf lam) (broadcastInDim S1024 ![] bcast_S_S1024 (constant S_ .f32 0x00000000#32)))
      (Host.log1p (Host.exp (Host.negf (Host.absf (subf (Host.negf lam) (broadcastInDim S1024 ![] bcast_S_S1024 (constant S_ .f32 0x00000000#32))))))))

/-- The logarithm of the decay. -/
def logDecay (R : FVec Ideal S32x8x1024 .f32) (s : FVec Ideal S1024 .f32) : FVec Ideal S32x8x1024 .f32 :=
  mulf (mulf (broadcastInDim S32x8x1024 ![] bcast_S_S32x8x1024 (constant S_ .f32 0xC1000000#32)) R)
    (broadcastInDim S32x8x1024 ![0, 1, 2] bcast_S1x1x1024_S32x8x1024_0_1_2 (broadcastInDim S1x1x1024 ![2] bcast_S1024_S1x1x1024_2 s))

/-- The decays, steps first. -/
def decays (l : FVec Ideal S32x8x1024 .f32) : FVec Ideal S8x32x1024 .f32 :=
  transpose S8x32x1024 [1, 0, 2] (Host.exp l) transposes_S32x8x1024_S8x32x1024_1_0_2

/-- The additions, steps first. -/
def adds (l I X : FVec Ideal S32x8x1024 .f32) : FVec Ideal S8x32x1024 .f32 :=
  transpose S8x32x1024 [1, 0, 2] (mulf (Host.sqrt (Host.negf (Host.expm1
    (mulf (broadcastInDim S32x8x1024 ![] bcast_S_S32x8x1024 (constant S_ .f32 0x40000000#32)) l)))) (mulf I X))
    transposes_S32x8x1024_S8x32x1024_1_0_2

variable (m : (ℓ : Loc nD τ sig) → Buf (Elt Ideal) ℓ) (c : Dev nD)

/-- An argument. -/
abbrev arg (r : Ref sig .tc) := m ((c.tc : Thread nD τ).loc r)

/-- The convolution of the arguments. -/
def xcM : FVec Ideal S32x8x1024 .f32 := xc (cat (arg m c main_arg0) (arg m c main_arg1)) (arg m c main_arg3) (arg m c main_arg4)

/-- The logarithm of the decay, of the arguments. -/
def logM : FVec Ideal S32x8x1024 .f32 := logDecay (gate (xcM m c) (arg m c main_arg5) (arg m c main_arg6)) (sp (arg m c main_arg9))

/-- The decays of the arguments. -/
def decM : FVec Ideal S8x32x1024 .f32 := decays (logM m c)

/-- The additions of the arguments. -/
def addM : FVec Ideal S8x32x1024 .f32 := adds (logM m c) (gate (xcM m c) (arg m c main_arg7) (arg m c main_arg8)) (xcM m c)

set_option maxHeartbeats 8000000 in
theorem entry_v33 : entryContents preI m c (Proc.devRef .tc main_v33)
    = extractStridedSlice S32x3x1024 ![0, 8, 0] (cat (arg m c main_arg0) (arg m c main_arg1)) slices_S32x11x1024_S32x3x1024_0_8_0 := by
  simp only [entryContents, afterL_cons, afterL_nil]
  after_reads_simp
  rfl

set_option maxHeartbeats 8000000 in
theorem entry_0 : entryContents preI m c (Proc.devRef .tc main_v77_0) = decM m c := by
  simp only [entryContents, afterL_cons, afterL_nil]
  after_reads_simp
  rfl

set_option maxHeartbeats 8000000 in
theorem entry_1 : entryContents preI m c (Proc.devRef .tc main_v77_1) = addM m c := by
  simp only [entryContents, afterL_cons, afterL_nil]
  after_reads_simp
  rfl

theorem entry_3 : entryContents preI m c (Proc.devRef .tc main_v77_3) = arg m c main_arg2 := by
  simp only [entryContents, afterL_cons, afterL_nil]
  after_reads_simp
  rfl

end Cert.LruRef
-- ==== Proof.LruLoop.lean ====
/- The loop of the recurrence's reference, and what it leaves. -/
module

public import proofs.«01_k».proof.Proof.LruRef
public import Idealize.ShloMosaic.Lib.WordCmp
public import Idealize.ShloMosaic.PureOps.Ideal
public import Idealize.ShloMosaic.Lib.Pointwise

@[expose] public section

set_option maxRecDepth 16384

noncomputable section

namespace Cert.LruRef

open Idealize.ShloMosaic Idealize.ShloMosaic.TcCoe Idealize.SL.Sem Idealize.ShloMosaic.StableHlo
open Idealize.ShloMosaic.WordCmp
open Cert.ReferenceIdeal Cert.ReferenceIdeal.Gen Cert.ReferenceIdeal.Value

/-- Where step `k`'s slice starts. -/
theorem starts (k : ℕ) (hk : k < 8) (a : Fin 3) :
    (((![fun _ => Scf.iv 0#32 1#32 k, constantI S_ 32 0#32, constantI S_ 32 0#32] : Fin 3 → (⟨S_, .i32⟩ : BufTy).Contents (Elt Ideal))) a (Shape.Idx.first h_S_)).toInt
      = (((![k, 0, 0] : Fin 3 → ℕ) a : ℕ) : ℤ) := by
  have : (Scf.iv 0#32 1#32 k).toInt = (k : ℤ) := by interval_cases k <;> rfl
  fin_cases a
  · exact this
  · rfl
  · rfl

/-- A step's slice. -/
theorem slice_at (x : FVec Ideal S8x32x1024 .f32) (i : S_.Idx → BitVec 32) (k : ℕ) (hk : k < 8)
    (hi : i = fun _ => Scf.iv 0#32 1#32 k) (b : Fin 32) (d : Fin 1024) :
    shapeCast S32x1024 (Host.dynamicSlice S1x32x1024 x (fun a => (((![i, constantI S_ 32 0#32, constantI S_ 32 0#32] : Fin 3 → (⟨S_, .i32⟩ : BufTy).Contents (Elt Ideal))) a (Shape.Idx.first h_S_)).toInt) sliceFits_S8x32x1024_S1x32x1024) shapeCasts_S1x32x1024_S32x1024 (ix2 b d)
      = x (ix3 (⟨k, hk⟩ : Fin 8) b d) := by
  subst hi
  rw [dynamicSlice_eq_extract S1x32x1024 x _ _ (![k, 0, 0] : Fin 3 → ℕ)
    ⟨rfl, fun a => by fin_cases a <;> simp <;> omega⟩ (starts k hk)]
  pointwise []

/-- The state of the recurrence after `k` steps. -/
def state (A B : FVec Ideal S8x32x1024 .f32) (h : FVec Ideal S32x1024 .f32) (b : Fin 32) (d : Fin 1024) : ℕ → EReal
  | 0 => h (ix2 b d)
  | k + 1 => A (ix3 ⟨k % 8, Nat.mod_lt _ (by decide)⟩ b d) * state A B h b d k + B (ix3 ⟨k % 8, Nat.mod_lt _ (by decide)⟩ b d)

variable (m : (ℓ : Loc nD τ sig) → Buf (Elt Ideal) ℓ) (c : Dev nD)

/-- The carried buffers before a step. -/
def at_ (k : ℕ) : Valuation τ sig (Elt Ideal) := STEP^[k] (entryContents preI m c)

theorem at_succ (k : ℕ) : at_ m c (k + 1) = STEP (at_ m c k) := Function.iterate_succ_apply' ..

theorem at_0 : ∀ k, at_ m c k (Proc.devRef .tc main_v77_0) = decM m c
  | 0 => entry_0 m c
  | k + 1 => by rw [at_succ, STEP_main_v77_0, at_0 k]

theorem at_1 : ∀ k, at_ m c k (Proc.devRef .tc main_v77_1) = addM m c
  | 0 => entry_1 m c
  | k + 1 => by rw [at_succ, STEP_main_v77_1, at_1 k]

theorem at_2 (k : ℕ) : at_ m c k (Proc.devRef .tc main_v77_2) = fun _ => Scf.iv 0#32 1#32 k :=
  (atK_agree m c k main_v77_2 (by decide)).symm.trans (atK_ctr m c k)

/-- The decays that a step reads. -/
abbrev vA (V : Valuation τ sig (Elt Ideal)) : FVec Ideal S8x32x1024 .f32 := V (Proc.devRef .tc main_v77_0)

/-- The additions that it reads. -/
abbrev vB (V : Valuation τ sig (Elt Ideal)) : FVec Ideal S8x32x1024 .f32 := V (Proc.devRef .tc main_v77_1)

/-- The state that it reads. -/
abbrev vH (V : Valuation τ sig (Elt Ideal)) : FVec Ideal S32x1024 .f32 := V (Proc.devRef .tc main_v77_3)

/-- The states that it reads. -/
abbrev vS (V : Valuation τ sig (Elt Ideal)) : FVec Ideal S8x32x1024 .f32 := V (Proc.devRef .tc main_v77_4)

/-- The new state. -/
abbrev vR (V : Valuation τ sig (Elt Ideal)) : FVec Ideal S32x1024 .f32 := res_main_while0b_v84 V

/-- A step's new state. -/
theorem res_at (V : Valuation τ sig (Elt Ideal)) (k : ℕ) (hk : k < 8) (h2 : V (Proc.devRef .tc main_v77_2) = fun _ => Scf.iv 0#32 1#32 k)
    (b : Fin 32) (d : Fin 1024) :
    vR V (ix2 b d) = vA V (ix3 (⟨k, hk⟩ : Fin 8) b d) * vH V (ix2 b d) + vB V (ix3 (⟨k, hk⟩ : Fin 8) b d) :=
  congrArg₂ (fun x y : EReal => x * vH V (ix2 b d) + y) (slice_at (vA V) _ k hk h2 b d) (slice_at (vB V) _ k hk h2 b d)

/-- Before step `k` the state is the recurrence's. -/
theorem at_3 (b : Fin 32) (d : Fin 1024) : ∀ k, k ≤ 8 → vH (at_ m c k) (ix2 b d)
      = state (decM m c) (addM m c) (arg m c main_arg2) b d k
  | 0, _ => congrFun (entry_3 m c) (ix2 b d)
  | k + 1, hk => by
      have hs : vH (at_ m c (k + 1)) = vR (at_ m c k) := by
        unfold vH
        rw [at_succ, STEP_main_v77_3]
        rfl
      rw [hs]
      refine (res_at (at_ m c k) k (by omega) (at_2 m c k) b d).trans ?_
      have hA : vA (at_ m c k) = decM m c := at_0 m c k
      have hB : vB (at_ m c k) = addM m c := at_1 m c k
      rw [hA, hB, at_3 b d k (by omega)]
      have e : (⟨k % 8, Nat.mod_lt _ (by decide)⟩ : Fin 8) = ⟨k, by omega⟩ := Fin.ext (Nat.mod_eq_of_lt (by omega))
      simp only [state, e]

/-- A step's update of the states. -/
theorem update_at (x : FVec Ideal S8x32x1024 .f32) (v : FVec Ideal S32x1024 .f32) (i : S_.Idx → BitVec 32) (k : ℕ) (hk : k < 8)
    (hi : i = fun _ => Scf.iv 0#32 1#32 k) (r : Fin 8) (b : Fin 32) (d : Fin 1024) :
    Host.dynamicUpdateSlice x (broadcastInDim S1x32x1024 ![1, 2] bcast_S32x1024_S1x32x1024_1_2 v) (fun a => (((![i, constantI S_ 32 0#32, constantI S_ 32 0#32] : Fin 3 → (⟨S_, .i32⟩ : BufTy).Contents (Elt Ideal))) a (Shape.Idx.first h_S_)).toInt) updateFits_S8x32x1024_S1x32x1024 (ix3 r b d)
      = if r.val = k then v (ix2 b d) else x (ix3 r b d) := by
  subst hi
  refine (congrFun (dynamicUpdateSlice_eq_update x (broadcastInDim S1x32x1024 ![1, 2] bcast_S32x1024_S1x32x1024_1_2 v) _
    updateFits_S8x32x1024_S1x32x1024 (![k, 0, 0] : Fin 3 → ℕ)
    ⟨rfl, fun a => by fin_cases a <;> simp <;> omega⟩ (starts k hk)) (ix3 r b d)).trans ?_
  unfold updateSlice
  by_cases h : r.val = k
  · rw [if_pos h, dif_pos (fun a => by
      fin_cases a
      · exact ⟨show k ≤ r.val by omega, show r.val < k + 1 by omega⟩
      · exact ⟨Nat.zero_le _, show b.val < 0 + 32 by omega⟩
      · exact ⟨Nat.zero_le _, show d.val < 0 + 1024 by omega⟩)]
    pointwise []
  · rw [if_neg h, dif_neg (fun hh => h (by
      have h0 : k ≤ r.val ∧ r.val < k + 1 := hh 0
      omega))]

/-- Before step `k` the first `k` states are there. -/
theorem at_4 (r : Fin 8) (b : Fin 32) (d : Fin 1024) : ∀ k, k ≤ 8 → r.val < k →
    vS (at_ m c k) (ix3 r b d)
      = state (decM m c) (addM m c) (arg m c main_arg2) b d (r.val + 1)
  | 0, _, h => absurd h (Nat.not_lt_zero _)
  | k + 1, hk, h => by
      have hs : vS (at_ m c (k + 1)) = step_main_v77_4 (at_ m c k) := by
        unfold vS
        rw [at_succ, STEP_main_v77_4]
      rw [hs]
      refine (update_at (vS (at_ m c k)) (vR (at_ m c k)) _ k (by omega) (at_2 m c k) r b d).trans ?_
      by_cases e : r.val = k
      · rw [if_pos e, e]
        refine Eq.trans ?_ (at_3 m c b d (k + 1) hk)
        unfold vH
        rw [at_succ, STEP_main_v77_3]
        rfl
      · rw [if_neg e]
        exact at_4 r b d k (by omega) (by omega)

/-- What the loop does not write it keeps. -/
theorem keep (r : Ref sig .tc) (h : r ∉ condOps_W ++ (while0Ops0_W ++ (while0Ops0_1_W ++ (while0Ops0_2_W ++ (while0Ops0_3_W ++ while0Ops0_4_W))))) :
    ∀ k, atK m k c (Proc.devRef .tc r) = entryContents preI m c (Proc.devRef .tc r)
  | 0 => rfl
  | k + 1 => by
      simp only [List.mem_append, not_or] at h
      rw [show atK m (k + 1) c = afterL bodyI (after condOps (atK m k c)) from rfl]
      simp only [afterL_cons, afterL_nil]
      rw [after_of_writes_sub while0Ops0_4 _ while0Ops0_4_writes h.2.2.2.2.2, after_of_writes_sub while0Ops0_3 _ while0Ops0_3_writes h.2.2.2.2.1,
        after_of_writes_sub while0Ops0_2 _ while0Ops0_2_writes h.2.2.2.1, after_of_writes_sub while0Ops0_1 _ while0Ops0_1_writes h.2.2.1,
        after_of_writes_sub while0Ops0 _ while0Ops0_writes h.2.1, after_of_writes_sub condOps _ condOps_writes h.1, keep r (by simpa only [List.mem_append, not_or] using h) k]
      rfl

/-- What neither the loop nor what comes after it writes is as it was at the loop's entry. -/
theorem final_keep (r : Ref sig .tc) (h : r ∉ condOps_W ++ (while0Ops0_W ++ (while0Ops0_1_W ++ (while0Ops0_2_W ++ (while0Ops0_3_W ++ while0Ops0_4_W)))))
    (h' : r ∉ hostOps0_3_W) :
    finalContents condOps preI bodyI postI 8 m c (Proc.devRef .tc r) = entryContents preI m c (Proc.devRef .tc r) := by
  rw [show finalContents condOps preI bodyI postI 8 m c = afterL postI (after condOps (atK m 8 c)) from rfl]
  simp only [afterL_cons, afterL_nil]
  rw [after_of_writes_sub hostOps0_3 _ hostOps0_3_writes h', after_of_writes_sub condOps _ condOps_writes (fun hh => h (List.mem_append_left _ hh)), keep m c r h 8]
  rfl

/-- An argument is kept. -/
theorem final_arg (r : Ref sig .tc) (h : r ∉ condOps_W ++ (while0Ops0_W ++ (while0Ops0_1_W ++ (while0Ops0_2_W ++ (while0Ops0_3_W ++ while0Ops0_4_W)))))
    (h' : r ∉ hostOps0_3_W) (h0 : r ∉ hostOps0_W) (h1 : r ∉ hostOps0_1_W) (h2 : r ∉ hostOps0_2_W) :
    finalContents condOps preI bodyI postI 8 m c (Proc.devRef .tc r) = arg m c r := by
  rw [final_keep m c r h h']
  rw [show entryContents preI m c = after hostOps0_2 (after hostOps0_1 (after hostOps0 (launchContents m c))) from rfl]
  rw [after_of_writes_sub hostOps0_2 _ hostOps0_2_writes h2, after_of_writes_sub hostOps0_1 _ hostOps0_1_writes h1,
    after_of_writes_sub hostOps0 _ hostOps0_writes h0]

/-- The last three rows. -/
theorem final_v33 : finalContents condOps preI bodyI postI 8 m c (Proc.devRef .tc main_v33)
    = extractStridedSlice S32x3x1024 ![0, 8, 0] (cat (arg m c main_arg0) (arg m c main_arg1)) slices_S32x11x1024_S32x3x1024_0_8_0 :=
  (final_keep m c main_v33 (by decide +kernel) (by decide +kernel)).trans (entry_v33 m c)

/-- A carried buffer after the loop's last condition. -/
theorem carried (r : Ref sig .tc) (hr : r ∈ carriedRefs) : after condOps (atK m 8 c) (Proc.devRef .tc r) = at_ m c 8 (Proc.devRef .tc r) :=
  (cond_keeps (atK m 8 c) r hr).trans (atK_agree m c 8 r hr)

/-- The states. -/
theorem final_v79 (b : Fin 32) (r : Fin 8) (d : Fin 1024) :
    (finalContents condOps preI bodyI postI 8 m c (Proc.devRef .tc main_v79) : FVec Ideal S32x8x1024 .bf16) (ix3 b r d)
      = state (decM m c) (addM m c) (arg m c main_arg2) b d (r.val + 1) := by
  refine Eq.trans ?_ (at_4 m c r b d 8 (by omega) r.isLt)
  unfold vS
  rw [← carried m c main_v77_4 (by decide)]
  rw [show finalContents condOps preI bodyI postI 8 m c = afterL postI (after condOps (atK m 8 c)) from rfl]
  generalize after condOps (atK m 8 c) = X
  simp only [afterL_cons, afterL_nil]
  after_reads_simp
  generalize X (Proc.devRef .tc main_v77_4) = v
  pointwise []

/-- The last state. -/
theorem final_v80 (b : Fin 32) (z : Fin 1) (d : Fin 1024) :
    (finalContents condOps preI bodyI postI 8 m c (Proc.devRef .tc main_v80) : FVec Ideal S32x1x1024 .f32) (ix3 b z d)
      = state (decM m c) (addM m c) (arg m c main_arg2) b d 8 := by
  refine Eq.trans ?_ (at_3 m c b d 8 (by omega))
  unfold vH
  rw [← carried m c main_v77_3 (by decide)]
  rw [show finalContents condOps preI bodyI postI 8 m c = afterL postI (after condOps (atK m 8 c)) from rfl]
  generalize after condOps (atK m 8 c) = X
  simp only [afterL_cons, afterL_nil]
  after_reads_simp
  generalize X (Proc.devRef .tc main_v77_3) = v
  pointwise []

end Cert.LruRef
-- ==== Proof.LruMath.lean ====
/- The identity the recurrence's input weight rests on: the square root's argument is written with `tanh` in the kernel and with `expm1` in the reference. -/
module

public import Idealize.ShloMosaic.PureOps.Ideal
public import Mathlib.Analysis.SpecialFunctions.Trigonometric.DerivHyp

@[expose] public section

namespace Cert.Lru

open Idealize.ShloMosaic

/-- `-tanh x · (1 + exp x · exp x)` is `1 - exp (2 x)`, over the reals. -/
theorem real_weight (x : ℝ) : (0 - Real.tanh x) * (1 + Real.exp x * Real.exp x) = -(Real.exp (2 * x) - 1) := by
  have h : Real.exp x ≠ 0 := (Real.exp_pos x).ne'
  have e2 : Real.exp (2 * x) = Real.exp x * Real.exp x := by rw [← Real.exp_add]; ring_nf
  have hn : Real.exp (-x) = (Real.exp x)⁻¹ := Real.exp_neg x
  rw [e2, Real.tanh_eq_sinh_div_cosh, Real.sinh_eq, Real.cosh_eq, hn]
  have p : Real.exp x * Real.exp x + 1 ≠ 0 := by positivity
  field_simp
  ring

/-- The same over the extended reals, where both sides are `1` at `-∞` and `-∞` at `∞`. -/
theorem weight (x : EReal) : (0 - Ideal.tanh x) * (1 + Ideal.exp x * Ideal.exp x) = -(Ideal.exp (2 * x) - 1) := by
  induction x using EReal.rec with
  | bot =>
    have : (2 : EReal) * ⊥ = ⊥ := EReal.coe_mul_bot_of_pos (x := 2) (by norm_num)
    rw [this]
    simp
  | top =>
    have : (2 : EReal) * ⊤ = ⊤ := EReal.coe_mul_top_of_pos (x := 2) (by norm_num)
    rw [this]
    simp
    rw [show (1 : EReal) = ((1 : ℝ) : EReal) from rfl, EReal.coe_add_top, EReal.top_sub_coe]
  | coe r =>
    have : (2 : EReal) * (r : EReal) = ((2 * r : ℝ) : EReal) := by norm_cast
    rw [this]
    simp only [Ideal.tanh_coe, Ideal.exp_coe]
    have := congrArg (fun y : ℝ => (y : EReal)) (real_weight r)
    push_cast at this ⊢
    simpa using this

end Cert.Lru
-- ==== Proof.LruRefAt.lean ====
/- The stages of the recurrence's reference, entry by entry. -/
module

public import proofs.«01_k».proof.Proof.LruRef
public import proofs.«01_k».proof.Proof.LruMath
public import Idealize.ShloMosaic.Lib.Pointwise

@[expose] public section

set_option maxRecDepth 16384

noncomputable section

namespace Cert.LruRef

open Idealize.ShloMosaic Idealize.ShloMosaic.TcCoe Idealize.SL.Sem
open Cert.ReferenceIdeal Cert.ReferenceIdeal.Gen

/-- The pattern of two. -/
theorem ofBits_two : Ideal.ofBits .f32 0x40000000#32 = (2 : EReal) := by
  rw [show (2 : EReal) = ((2 : ℝ) : EReal) by norm_cast]
  simp [Ideal.ofBits, Ideal.ieee, -EReal.coe_mul]; norm_num

variable (b : Fin 32) (r : Fin 8) (d : Fin 1024)

/-- The rows before the chunk. -/
theorem cat_fst (u : FVec Ideal S32x8x1024 .f32) (C : FVec Ideal S32x3x1024 .f32) (p : Fin 11) (h : p.val < 3) :
    cat u C (ix3 b p d) = C (ix3 b ⟨p.val, h⟩ d) := by
  pointwise [cat, h]

/-- The chunk's rows. -/
theorem cat_snd (u : FVec Ideal S32x8x1024 .f32) (C : FVec Ideal S32x3x1024 .f32) (p : Fin 11) (h : ¬ p.val < 3) :
    cat u C (ix3 b p d) = u (ix3 b ⟨p.val - 3, by omega⟩ d) := by
  pointwise [cat, h]

theorem xc_at (E : FVec Ideal S32x11x1024 .f32) (cw : FVec Ideal S4x1024 .f32) (cb : FVec Ideal S1024 .f32) :
    xc E cw cb (ix3 b r d) = cb (ix1 d) + E (ix3 b ⟨r.val, by omega⟩ d) * cw (ix2 0 d) + E (ix3 b ⟨1 + r.val, by omega⟩ d) * cw (ix2 1 d)
      + E (ix3 b ⟨2 + r.val, by omega⟩ d) * cw (ix2 2 d) + E (ix3 b ⟨3 + r.val, by omega⟩ d) * cw (ix2 3 d) := by
  pointwise [xc, weightRow]
  simp only [add_assoc]

theorem gate_at (X : FVec Ideal S32x8x1024 .f32) (w : FVec Ideal S8x128x128 .f32) (g : FVec Ideal S8x128 .f32) (n : Fin 8) (j : Fin 128) :
    gate X w g (ix3 b r ⟨128 * n.val + j.val, by omega⟩)
      = Ideal.logistic ((∑ k : Fin 128, X (ix3 b r ⟨128 * n.val + k.val, by omega⟩) * w (ix3 n k j)) + g (ix2 n j)) := by
  pointwise [gate]
  unfold Ideal.logistic
  refine congrArg (fun z => Ideal.div 1 (1 + Ideal.exp (-z))) (congrArg₂ (· + ·) (Finset.sum_congr rfl fun k _ => ?_) rfl)
  have e : (⟨n.val * 128 + k.val, by omega⟩ : Fin 1024) = ⟨128 * n.val + k.val, by omega⟩ := Fin.ext (by show n.val * 128 + k.val = 128 * n.val + k.val; omega)
  rw [mul_comm, e]

theorem sp_at (lam : FVec Ideal S1024 .f32) : sp lam (ix1 d)
    = max (0 - lam (ix1 d)) 0 + Ideal.log1p (Ideal.exp (0 - FloatOps.absf (F := Ideal) (φ := .f32) (0 - lam (ix1 d)))) := by
  pointwise [sp]
  rw [if_neg (not_not.mpr rfl)]
  simp only [sub_eq_add_neg, zero_add]

theorem logDecay_at (R : FVec Ideal S32x8x1024 .f32) (s : FVec Ideal S1024 .f32) :
    logDecay R s (ix3 b r d) = Ideal.ofBits FTy.f32 3238002688#32 * R (ix3 b r d) * s (ix1 d) := by
  pointwise [logDecay]

theorem decays_at (l : FVec Ideal S32x8x1024 .f32) : decays l (ix3 r b d) = Ideal.exp (l (ix3 b r d)) := by
  pointwise [decays]

theorem adds_at (l I X : FVec Ideal S32x8x1024 .f32) : adds l I X (ix3 r b d)
    = Ideal.sqrt ((0 - Ideal.tanh (l (ix3 b r d))) * (1 + Ideal.exp (l (ix3 b r d)) * Ideal.exp (l (ix3 b r d)))) * (I (ix3 b r d) * X (ix3 b r d)) := by
  rw [Cert.Lru.weight]
  pointwise [adds]
  rw [show Ideal.ofBits FTy.f32 1073741824#32 = (2 : EReal) from ofBits_two]

end Cert.LruRef
-- ==== Proof.LruSame.lean ====
/- The recurrence: each stage of the kernel's body is the reference's, entry by entry. -/
module

public import proofs.«01_k».proof.Proof.LruStep
public import proofs.«01_k».proof.Proof.LruBlk
public import proofs.«01_k».proof.Proof.LruLoop
public import proofs.«01_k».proof.Proof.LruRefAt

@[expose] public section

set_option maxRecDepth 16384

noncomputable section

namespace Cert.Lru

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

/-- The chunk with the rows before it, of the arguments. -/
def tE : FVec Ideal Cert.ReferenceIdeal.S32x11x1024 .f32 :=
  Cert.LruRef.cat (m ((c : Thread nD τ).loc main_arg0)) (m ((c : Thread nD τ).loc main_arg1))

/-- The convolution of the arguments. -/
def tX : FVec Ideal Cert.ReferenceIdeal.S32x8x1024 .f32 :=
  Cert.LruRef.xc (tE m c) (m ((c : Thread nD τ).loc main_arg3)) (m ((c : Thread nD τ).loc main_arg4))

/-- The logarithm of the decay, of the arguments. -/
def tL : FVec Ideal Cert.ReferenceIdeal.S32x8x1024 .f32 :=
  Cert.LruRef.logDecay (Cert.LruRef.gate (tX m c) (m ((c : Thread nD τ).loc main_arg5)) (m ((c : Thread nD τ).loc main_arg6)))
    (Cert.LruRef.sp (m ((c : Thread nD τ).loc main_arg9)))

/-- The decays of the arguments. -/
def tA : FVec Ideal Cert.ReferenceIdeal.S8x32x1024 .f32 := Cert.LruRef.decays (tL m c)

/-- The additions of the arguments. -/
def tB : FVec Ideal Cert.ReferenceIdeal.S8x32x1024 .f32 :=
  Cert.LruRef.adds (tL m c) (Cert.LruRef.gate (tX m c) (m ((c : Thread nD τ).loc main_arg7)) (m ((c : Thread nD τ).loc main_arg8))) (tX m c)

/-- A row of the chunk or of the three rows before it. -/
theorem ext_row (p : Fin 16) (q : Fin 11) (d : Fin 1024) (h : p.val = 5 + q.val) :
    ext (iblk m c 0 t) (iblk m c 1 t) (ix2 p d) = tE m c (ix3 (bat t) q d) := by
  unfold ext tE
  by_cases hq : q.val < 3
  · refine (dif_pos (show p.val < 8 by omega)).trans ((blk1 m c t _ d).trans ?_)
    rw [Cert.LruRef.cat_fst _ _ _ _ _ hq]
    exact congrArg (fun k => (m ((c : Thread nD τ).loc main_arg1) : FVec Ideal S32x3x1024 .f32) (ix3 (bat t) k d)) (Fin.ext (show p.val - 5 = q.val by omega))
  · refine (dif_neg (show ¬ p.val < 8 by omega)).trans ((blk0 m c t _ d).trans ?_)
    rw [Cert.LruRef.cat_snd _ _ _ _ _ hq]
    exact congrArg (fun k => (m ((c : Thread nD τ).loc main_arg0) : FVec Ideal S32x8x1024 .f32) (ix3 (bat t) k d)) (Fin.ext (show p.val - 8 = q.val - 3 by omega))

/-- The convolution. -/
theorem conv_row (r : Fin 8) (d : Fin 1024) : convB m c t (ix2 r d) = tX m c (ix3 (bat t) r d) := by
  unfold tX
  rw [Cert.LruRef.xc_at]
  unfold convB conv
  have e0 := ext_row m c t ⟨5 + r.val, by omega⟩ ⟨r.val, by omega⟩ d rfl
  have e1 := ext_row m c t ⟨6 + r.val, by omega⟩ ⟨1 + r.val, by omega⟩ d (show 6 + r.val = 5 + (1 + r.val) by omega)
  have e2 := ext_row m c t ⟨7 + r.val, by omega⟩ ⟨2 + r.val, by omega⟩ d (show 7 + r.val = 5 + (2 + r.val) by omega)
  have e3 := ext_row m c t ⟨8 + r.val, by omega⟩ ⟨3 + r.val, by omega⟩ d (show 8 + r.val = 5 + (3 + r.val) by omega)
  exact congrArg₂ (· + ·) (congrArg₂ (· + ·) (congrArg₂ (· + ·) (congrArg₂ (· + ·) (blk4 m c t d)
    (congrArg₂ (· * ·) e0 (blk3 m c t 0 d))) (congrArg₂ (· * ·) e1 (blk3 m c t 1 d))) (congrArg₂ (· * ·) e2 (blk3 m c t 2 d)))
    (congrArg₂ (· * ·) e3 (blk3 m c t 3 d))

/-- The gate of the decay. -/
theorem gate_fst (r n : Fin 8) (j : Fin 128) :
    Ideal.logistic (argAt (convB m c t) (iblk m c 5 t) (iblk m c 6 t) r n ⟨j.val, by omega⟩)
      = Cert.LruRef.gate (tX m c) (m ((c : Thread nD τ).loc main_arg5)) (m ((c : Thread nD τ).loc main_arg6)) (ix3 (bat t) r ⟨128 * n.val + j.val, by omega⟩) := by
  rw [Cert.LruRef.gate_at]
  refine congrArg Ideal.logistic ?_
  unfold argAt
  exact congrArg₂ (· + ·) (Finset.sum_congr rfl fun k _ => congrArg₂ (· * ·) (conv_row m c t r _)
    ((blk5 m c t n k _).trans (gateCols_fst _ _ n k j))) ((blk6 m c t n _).trans (biasCols_fst _ _ n j))

/-- The gate of the input. -/
theorem gate_snd (r n : Fin 8) (j : Fin 128) :
    Ideal.logistic (argAt (convB m c t) (iblk m c 5 t) (iblk m c 6 t) r n ⟨128 + j.val, by omega⟩)
      = Cert.LruRef.gate (tX m c) (m ((c : Thread nD τ).loc main_arg7)) (m ((c : Thread nD τ).loc main_arg8)) (ix3 (bat t) r ⟨128 * n.val + j.val, by omega⟩) := by
  rw [Cert.LruRef.gate_at]
  refine congrArg Ideal.logistic ?_
  unfold argAt
  exact congrArg₂ (· + ·) (Finset.sum_congr rfl fun k _ => congrArg₂ (· * ·) (conv_row m c t r _)
    ((blk5 m c t n k _).trans (gateCols_snd _ _ n k j))) ((blk6 m c t n _).trans (biasCols_snd _ _ n j))

/-- The rates' `softplus`. -/
theorem sp_row (d : Fin 1024) : k0_pay14 (F := Ideal) (iblk m c 7 t) (ix2 0 d)
    = Cert.LruRef.sp (m ((c : Thread nD τ).loc main_arg9)) (ix1 d) := by
  rw [Cert.LruRef.sp_at]
  have h := blk7 m c t d
  obtain ⟨x7, h7⟩ : ∃ x : Vec Ideal S1x1024 .f32, iblk m c 7 t = x := ⟨_, rfl⟩
  rw [h7] at h ⊢
  have e : k0_pay14 (F := Ideal) x7 (ix2 0 d) = max (0 - x7 (ix2 0 d)) 0 + Ideal.log1p (Ideal.exp (0 - FloatOps.absf (F := Ideal) (φ := .f32) (0 - x7 (ix2 0 d)))) := by
    pointwise [k0_pay14]
  rw [e]
  exact congrArg (fun z : EReal => max (0 - z) 0 + Ideal.log1p (Ideal.exp (0 - FloatOps.absf (F := Ideal) (φ := .f32) (0 - z)))) h

/-- The logarithm of the decay. -/
theorem log_row (r n : Fin 8) (j : Fin 128) :
    logAt (convB m c t) (k0_pay14 (F := Ideal) (iblk m c 7 t)) (iblk m c 5 t) (iblk m c 6 t) r n j
      = tL m c (ix3 (bat t) r ⟨128 * n.val + j.val, by omega⟩) := by
  unfold tL
  rw [Cert.LruRef.logDecay_at]
  unfold logAt
  exact congrArg₂ (· * ·) (congrArg₂ (· * ·) rfl (gate_fst m c t r n j)) (sp_row m c t _)

/-- A column is a column of a block. -/
theorem col (d : Fin 1024) : ∃ (n : Fin 8) (j : Fin 128), d = ⟨128 * n.val + j.val, by omega⟩ :=
  ⟨⟨d.val / 128, by omega⟩, ⟨d.val % 128, by omega⟩, Fin.ext (show d.val = 128 * (d.val / 128) + d.val % 128 by omega)⟩

/-- The decays. -/
theorem decB_row (r : Fin 8) (d : Fin 1024) : decB m c t (ix2 r d) = tA m c (ix3 r (bat t) d) := by
  obtain ⟨n, j, rfl⟩ := col d
  unfold decB tA
  rw [Cert.LruRef.decays_at, decays_at _ _ _ _ _ r n j rfl rfl]
  exact congrArg Ideal.exp (log_row m c t r n j)

/-- The additions. -/
theorem addB_row (r : Fin 8) (d : Fin 1024) : addB m c t (ix2 r d) = tB m c (ix3 r (bat t) d) := by
  obtain ⟨n, j, rfl⟩ := col d
  unfold addB tB
  rw [Cert.LruRef.adds_at, adds_at _ _ _ _ _ r n j rfl rfl]
  unfold addAt
  rw [log_row m c t r n j]
  exact congrArg₂ (· * ·) rfl (congrArg₂ (· * ·) (gate_snd m c t r n j) (conv_row m c t r _))

/-- The state before the first step. -/
theorem hB_row (d : Fin 1024) : hB m c t (ix2 0 d) = (m ((c : Thread nD τ).loc main_arg2) : FVec Ideal S32x1024 .f32) (ix2 (bat t) d) := by
  refine Eq.trans ?_ (blk2 m c t d)
  unfold hB
  obtain ⟨x2, h2⟩ : ∃ x : Vec Ideal S1x1x1024 .f32, iblk m c 2 t = x := ⟨_, rfl⟩
  rw [h2]
  pointwise [k0_pay9]

/-- The states. -/
theorem state_row (d : Fin 1024) : ∀ k, state (decB m c t) (addB m c t) (hB m c t) d k
      = Cert.LruRef.state (tA m c) (tB m c) (m ((c : Thread nD τ).loc main_arg2)) (bat t) d k
  | 0 => hB_row m c t d
  | k + 1 => congrArg₂ (· + ·) (congrArg₂ (· * ·) (decB_row m c t _ d) (state_row d k)) (addB_row m c t _ d)

end Cert.Lru
-- ==== Proof.Lru.lean ====
/- The recurrence's call: the arrays it leaves are the reference's, for every argument. -/
module

public import proofs.«01_k».proof.Proof.LruSame
public import proofs.«01_k».proof.Proof.Gen.KernelIdeal.Value

@[expose] public section

set_option maxRecDepth 16384

noncomputable section

namespace Cert.Lru

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The states, batch entry by batch entry. -/
def tY : FVec Ideal S32x8x1024 .bf16 := fun y =>
  Cert.LruRef.state (tA m c) (tB m c) (m ((c : Thread nD τ).loc main_arg2)) (y 0) (y 2) ((y 1).val + 1)

/-- The last states. -/
def tH : FVec Ideal S32x1x1024 .f32 := fun y =>
  Cert.LruRef.state (tA m c) (tB m c) (m ((c : Thread nD τ).loc main_arg2)) (y 0) (y 2) 8

/-- The last three rows. -/
def tN : FVec Ideal S32x3x1024 .f32 := fun y => tE m c (ix3 (y 0) ⟨8 + (y 1).val, by have : (y 1).val < 3 := (y 1).isLt; omega⟩ (y 2))

/-- The first output. -/
theorem final8 : (dats m 0 c).arrAt 8 cfg0.N = tY m c := by
  refine (dats m 0 c).arrAt_eq_of_covers 8 _ (by decide +kernel) fun t _ y => ?_
  blk_simp
  rw [after0_8]
  obtain ⟨r, d, rfl⟩ : ∃ (r : Fin 8) (d : Fin 1024), y = ix3 0 r d := ⟨y 1, y 2, (eq_ix3 y).trans (congrArg (fun a => ix3 a (y 1) (y 2)) (Subsingleton.elim (α := Fin 1) _ _))⟩
  refine (out8_at m c t r d).trans ((state_row m c t d _).trans ?_)
  show tY m c (ix3 (bat t) r d) = _
  generalize tY m c = T
  blk_ext [idx t]

/-- The second output. -/
theorem final9 : (dats m 0 c).arrAt 9 cfg0.N = tN m c := by
  refine (dats m 0 c).arrAt_eq_of_covers 9 _ (by decide +kernel) fun t _ y => ?_
  blk_simp
  rw [after0_9]
  obtain ⟨r, d, rfl⟩ : ∃ (r : Fin 3) (d : Fin 1024), y = ix3 0 r d := ⟨y 1, y 2, (eq_ix3 y).trans (congrArg (fun a => ix3 a (y 1) (y 2)) (Subsingleton.elim (α := Fin 1) _ _))⟩
  refine (out9_at m c t r d).trans ((ext_row m c t _ ⟨8 + r.val, by omega⟩ d (show 13 + r.val = 5 + (8 + r.val) by omega)).trans ?_)
  show tN m c (ix3 (bat t) r d) = _
  generalize tN m c = T
  blk_ext [idx t]

/-- The third output. -/
theorem final10 : (dats m 0 c).arrAt 10 cfg0.N = tH m c := by
  refine (dats m 0 c).arrAt_eq_of_covers 10 _ (by decide +kernel) fun t _ y => ?_
  blk_simp
  rw [after0_10]
  obtain ⟨d, rfl⟩ : ∃ (d : Fin 1024), y = ix3 0 0 d := ⟨y 2, (eq_ix3 y).trans (congrArg₂ (fun a b => ix3 a b (y 2)) (Subsingleton.elim (α := Fin 1) _ _) (Subsingleton.elim (α := Fin 1) _ _))⟩
  refine (out10_at m c t d).trans ((state_row m c t d _).trans ?_)
  show tH m c (ix3 (bat t) 0 d) = _
  generalize tH m c = T
  blk_ext [idx t]

end Cert.Lru
-- ==== Proof.LruClaim.lean ====
/- The claims of the recurrence's call (on the sample). -/
module

public import proofs.«01_k».proof.Defs
public import proofs.«01_k».proof.Proof.Lru
public import Idealize.ShloMosaic.Lib.Claim

@[expose] public section

set_option maxRecDepth 16384

noncomputable section

namespace Cert.LruRef

open Idealize.ShloMosaic Idealize.ShloMosaic.TcCoe Idealize.SL.Sem
open Cert.ReferenceIdeal Cert.ReferenceIdeal.Gen Cert.ReferenceIdeal.Value

variable (m : (ℓ : Loc nD τ sig) → Buf (Elt Ideal) ℓ)

/-- Contents that are the reference's fold hold its arguments as they were. -/
theorem kept (mem : (ℓ : Loc nD τ sig) → Buf (Elt Ideal) ℓ) (c : Dev nD)
    (h : ∀ b : Ref sig .tc, (Proc.devRef .tc b : DevRef τ sig).isScoped = false →
      mem ((c.tc : Thread nD τ).loc b) = StableHlo.finalContents condOps preI bodyI postI 8 m c (Proc.devRef .tc b)) :
      mem ((c.tc : Thread nD τ).loc main_arg0) = arg m c main_arg0
      ∧ mem ((c.tc : Thread nD τ).loc main_arg1) = arg m c main_arg1
      ∧ mem ((c.tc : Thread nD τ).loc main_arg2) = arg m c main_arg2
      ∧ mem ((c.tc : Thread nD τ).loc main_arg3) = arg m c main_arg3
      ∧ mem ((c.tc : Thread nD τ).loc main_arg4) = arg m c main_arg4
      ∧ mem ((c.tc : Thread nD τ).loc main_arg5) = arg m c main_arg5
      ∧ mem ((c.tc : Thread nD τ).loc main_arg6) = arg m c main_arg6
      ∧ mem ((c.tc : Thread nD τ).loc main_arg7) = arg m c main_arg7
      ∧ mem ((c.tc : Thread nD τ).loc main_arg8) = arg m c main_arg8
      ∧ mem ((c.tc : Thread nD τ).loc main_arg9) = arg m c main_arg9 :=
  ⟨(h main_arg0 rfl).trans (final_arg m c main_arg0 (by decide +kernel) (by decide +kernel) (by decide +kernel) (by decide +kernel) (by decide +kernel)),
    (h main_arg1 rfl).trans (final_arg m c main_arg1 (by decide +kernel) (by decide +kernel) (by decide +kernel) (by decide +kernel) (by decide +kernel)),
    (h main_arg2 rfl).trans (final_arg m c main_arg2 (by decide +kernel) (by decide +kernel) (by decide +kernel) (by decide +kernel) (by decide +kernel)),
    (h main_arg3 rfl).trans (final_arg m c main_arg3 (by decide +kernel) (by decide +kernel) (by decide +kernel) (by decide +kernel) (by decide +kernel)),
    (h main_arg4 rfl).trans (final_arg m c main_arg4 (by decide +kernel) (by decide +kernel) (by decide +kernel) (by decide +kernel) (by decide +kernel)),
    (h main_arg5 rfl).trans (final_arg m c main_arg5 (by decide +kernel) (by decide +kernel) (by decide +kernel) (by decide +kernel) (by decide +kernel)),
    (h main_arg6 rfl).trans (final_arg m c main_arg6 (by decide +kernel) (by decide +kernel) (by decide +kernel) (by decide +kernel) (by decide +kernel)),
    (h main_arg7 rfl).trans (final_arg m c main_arg7 (by decide +kernel) (by decide +kernel) (by decide +kernel) (by decide +kernel) (by decide +kernel)),
    (h main_arg8 rfl).trans (final_arg m c main_arg8 (by decide +kernel) (by decide +kernel) (by decide +kernel) (by decide +kernel) (by decide +kernel)),
    (h main_arg9 rfl).trans (final_arg m c main_arg9 (by decide +kernel) (by decide +kernel) (by decide +kernel) (by decide +kernel) (by decide +kernel))⟩

end Cert.LruRef

namespace Cert.Lru

open Idealize.ShloMosaic Idealize.ShloMosaic.TcCoe Idealize.SL.Sem

/-- The reference runs to the end and leaves its arguments as they were. -/
theorem quiescent_reference : Cert.quiescent_ReferenceIdeal := fun m ρ _ =>
  (θ_run Cert.ReferenceIdeal.defs _ _).mono
    (fun r h => ⟨fun c => Cert.LruRef.kept m r.2.mem c (h c), sem_eq_zero_of_no_sems (by decide) r.2⟩)
    (Cert.ReferenceIdeal.Value.run_fold m ρ)

/-- Kernel and reference leave the same three arrays, for every argument. -/
theorem same_result : Cert.algebraic_KernelIdeal_ReferenceIdeal := by
  pair_intro
  · run_from Cert.KernelIdeal.Value.run_blocks m g
  · refine (θ_run Cert.ReferenceIdeal.defs _ _).mono (fun r h c => ?_) (Cert.ReferenceIdeal.Value.run_fold m' g')
    obtain ⟨h0, h1, h2, h3, h4, h5, h6, h7, h8, h9⟩ := hagree c
    have hA : Cert.LruRef.decM m' c = tA m c := by
      unfold Cert.LruRef.decM Cert.LruRef.logM Cert.LruRef.xcM Cert.LruRef.arg tA tL tX tE
      rw [h0, h1, h3, h4, h5, h6, h9]
    have hB : Cert.LruRef.addM m' c = tB m c := by
      unfold Cert.LruRef.addM Cert.LruRef.logM Cert.LruRef.xcM Cert.LruRef.arg tB tL tX tE
      rw [h0, h1, h3, h4, h5, h6, h7, h8, h9]
    refine ⟨(h c Cert.ReferenceIdeal.main_v79 rfl).trans (Eq.trans ?_ (final8 m c).symm),
      (h c Cert.ReferenceIdeal.main_v33 rfl).trans (Eq.trans ?_ (final9 m c).symm),
      (h c Cert.ReferenceIdeal.main_v80 rfl).trans (Eq.trans ?_ (final10 m c).symm),
      Cert.LruRef.kept m' r.2.mem c (h c)⟩
    · funext y
      obtain ⟨b, q, d, rfl⟩ : ∃ (b : Fin 32) (q : Fin 8) (d : Fin 1024), y = ix3 b q d := ⟨y 0, y 1, y 2, eq_ix3 y⟩
      refine (Cert.LruRef.final_v79 m' c b q d).trans ?_
      rw [hA, hB, Cert.LruRef.arg, h2]
      rfl
    · rw [Cert.LruRef.final_v33, Cert.LruRef.arg, Cert.LruRef.arg, h0, h1]
      funext y
      obtain ⟨b, q, d, rfl⟩ : ∃ (b : Fin 32) (q : Fin 3) (d : Fin 1024), y = ix3 b q d := ⟨y 0, y 1, y 2, eq_ix3 y⟩
      unfold tN tE
      generalize Cert.LruRef.cat _ _ = E
      pointwise []
    · funext y
      obtain ⟨b, q, d, rfl⟩ : ∃ (b : Fin 32) (q : Fin 1) (d : Fin 1024), y = ix3 b q d := ⟨y 0, y 1, y 2, eq_ix3 y⟩
      refine (Cert.LruRef.final_v80 m' c b q d).trans ?_
      rw [hA, hB, Cert.LruRef.arg, h2]
      rfl

end Cert.Lru

end
-- ==== Proof.lean ====
/- The certificate: every claim of the statement, from the modules that prove it. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4.Skeleton
public import proofs.«01_k».proof.Proof.Gen.Kernel4Ideal
public import proofs.«01_k».proof.Proof.Gen.Kernel4Ideal.Frame
public import proofs.«01_k».proof.Proof.Gen.Kernel4Ideal.Skeleton
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5.Skeleton
public import proofs.«01_k».proof.Proof.Gen.Kernel5Ideal
public import proofs.«01_k».proof.Proof.Gen.Kernel5Ideal.Frame
public import proofs.«01_k».proof.Proof.Gen.Kernel5Ideal.Skeleton
public import proofs.«01_k».proof.Proof.Gen.Reference5Ideal
public import proofs.«01_k».proof.Proof.Gen.Reference5Ideal.Run
public import proofs.«01_k».proof.Proof.FfnClaim
public import proofs.«01_k».proof.Proof.FfnSampleClaim
public import proofs.«01_k».proof.Proof.ProjClaim
public import proofs.«01_k».proof.Proof.ProjSampleClaim
public import proofs.«01_k».proof.Proof.LruClaim
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts,
    Cert.Kernel5Ideal.Gen.facts, Cert.Reference5Ideal.Gen.facts,
    fun m ρ _ => Cert.Kernel.Gen.frame m ρ, fun m ρ _ => Cert.KernelIdeal.Gen.frame m ρ, Cert.Lru.quiescent_reference,
    Cert.Ffn.quiescent_kernel, Cert.Ffn.quiescent_ideal, Cert.Ffn.quiescent_reference,
    Cert.FfnSample.quiescent_kernel, Cert.FfnSample.quiescent_ideal, Cert.FfnSample.quiescent_reference,
    Cert.Proj.quiescent_kernel, Cert.Proj.quiescent_ideal, Cert.Proj.quiescent_reference,
    Cert.ProjSample.quiescent_kernel, Cert.ProjSample.quiescent_ideal, Cert.ProjSample.quiescent_reference,
    trivial, Cert.Lru.same_result, trivial, Cert.Ffn.same_result, trivial, Cert.FfnSample.same_result, trivial, Cert.Proj.same_result,
    trivial, Cert.ProjSample.same_result⟩

end Cert.Proof

end
